-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_inputs.lean ====
abbrev S4096x6656 : Shape := ⟨2, ![4096, 6656]⟩
abbrev S4096x1024 : Shape := ⟨2, ![4096, 1024]⟩
abbrev S4096x3072 : Shape := ⟨2, ![4096, 3072]⟩
abbrev S_ : Shape := ⟨0, ![]⟩

class Facts : Prop where
  slices_S4096x6656_S4096x3072_0_1536 : S4096x6656.Slices ![0, 1536] S4096x3072
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x6656 .f32) (main_arg1 : FVec F S4096x1024 .f32) : IVec S4096x3072 1 × IVec S4096x1024 1 :=
  let main_v0 : FVec F S4096x3072 .f32 := (extractStridedSlice S4096x3072 ![0, 1536] · slices_S4096x6656_S4096x3072_0_1536) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  (main_v3, main_v6)
-- ==== Kernel.lean ====
abbrev S4096x6656 : Shape := ⟨2, ![4096, 6656]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128 : Shape := ⟨2, ![8, 128]⟩
abbrev S256x256 : Shape := ⟨2, ![256, 256]⟩
abbrev S256x128 : Shape := ⟨2, ![256, 128]⟩
abbrev S4096x128 : Shape := ⟨2, ![4096, 128]⟩
abbrev S256x1 : Shape := ⟨2, ![256, 1]⟩
abbrev S512x128 : Shape := ⟨2, ![512, 128]⟩
abbrev S256x512 : Shape := ⟨2, ![256, 512]⟩
abbrev S64x512 : Shape := ⟨2, ![64, 512]⟩
abbrev S64x256 : Shape := ⟨2, ![64, 256]⟩
abbrev S64 : Shape := ⟨1, ![64]⟩
abbrev S64x1 : Shape := ⟨2, ![64, 1]⟩

abbrev nBuf : Space → Nat
  | .hbm => 70
  | .vmem => 20
  | .smem => 0
  | _ => 0

abbrev bufTy : (tb : Table) → Fin (tcTables nBuf tb) → BufTy
  | .hbm, ⟨0, _⟩ => ⟨S4096x6656, .f32⟩
  | .hbm, ⟨1, _⟩ => ⟨S4096x1024, .f32⟩
  | .hbm, ⟨2, _⟩ => ⟨S4096x1024, .f32⟩
  | .hbm, ⟨3, _⟩ => ⟨S4096x8x128, .f32⟩
  | .hbm, ⟨4, _⟩ => ⟨S8x4096x128, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x128, .f32⟩
  | .hbm, ⟨45, _⟩ => ⟨S4096x8x128, .f32⟩
  | .hbm, ⟨46, _⟩ => ⟨S4096x1024, .f32⟩
  | .hbm, ⟨47, _⟩ => ⟨S_, .f32⟩
  | .hbm, ⟨48, _⟩ => ⟨S8x128, .f32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S_, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S256x256, .bf16⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S_, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x256, .bf16⟩
  | .hbm, ⟨67, _⟩ => ⟨S4096x1024, .f32⟩
  | .hbm, ⟨68, _⟩ => ⟨S4096x1024, .f32⟩
  | .hbm, ⟨69, _⟩ => ⟨S4096x1024, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_cst_6 : Ref sig .tc := ⟨.hbm, 62, rfl⟩
abbrev main_call3_v0 : Ref sig .tc := ⟨.hbm, 63, rfl⟩
abbrev main_call3_v1 : Ref sig .tc := ⟨.hbm, 64, rfl⟩
abbrev main_v33 : Ref sig .tc := ⟨.hbm, 65, rfl⟩
abbrev main_v34 : Ref sig .tc := ⟨.hbm, 66, rfl⟩
abbrev main_v35_0 : Ref sig .tc := ⟨.hbm, 67, rfl⟩
abbrev main_v35_1 : Ref sig .tc := ⟨.hbm, 68, rfl⟩
abbrev main_v35_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_13 : BitVec 32 := 0#32
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .slt arg1 c0_i32_8
  let v19 : BitVec 32 := Scalar.extui v18
  let v20 : BitVec 32 := Scalar.subi v17 v19
  let c2_i32 : BitVec 32 := 2#32
  let c0_i32_9 : BitVec 32 := 0#32
  let v21 : BitVec 1 := Scalar.cmpi .sgt c2_i32 c0_i32_9
  let v22 : BitVec 32 := Scalar.extui v21
  let c0_i32_10 : BitVec 32 := 0#32
  let v23 : BitVec 1 := Scalar.cmpi .slt c2_i32 c0_i32_10
  let v24 : BitVec 32 := Scalar.extui v23
  let v25 : BitVec 32 := Scalar.subi v22 v24
  let v26 : BitVec 1 := Scalar.cmpi .ne v20 v25
  let v27 : BitVec 32 := Scalar.remsi arg1 c2_i32
  let c0_i32_11 : BitVec 32 := 0#32
  let v28 : BitVec 1 := Scalar.cmpi .ne v27 c0_i32_11
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_15 : BitVec 32 := 1#32
  ⟨c0_i32_13, v37, c1_i32_15⟩
def k0_mult1 (i : grid0.Coords) (k0_t1 : Fin (k0_t1_loop i).trips) : BitVec 32 :=
  let c2_i32_41 : BitVec 32 := 2#32
  let c0_i32_13 : BitVec 32 := 0#32
  let c1_i32_15 : BitVec 32 := 1#32
  let arg15 : BitVec 32 := Scf.iv c0_i32_13 c1_i32_15 k0_t1
  let v78 : BitVec 32 := Scalar.muli c2_i32_41 arg15
  let c256_i32 : BitVec 32 := 256#32
  let v79 : BitVec 32 := Scalar.muli v78 c256_i32
  v79
def k0_off1 (i : grid0.Coords) (k0_t1 : Fin (k0_t1_loop i).trips) : Fin 2 → Nat :=
  let c2_i32_41 : BitVec 32 := 2#32
  let c0_i32_13 : BitVec 32 := 0#32
  let c1_i32_15 : BitVec 32 := 1#32
  let arg15 : BitVec 32 := Scf.iv c0_i32_13 c1_i32_15 k0_t1
  let v78 : BitVec 32 := Scalar.muli c2_i32_41 arg15
  let c256_i32 : BitVec 32 := 256#32
  let v79 : BitVec 32 := Scalar.muli v78 c256_i32
  let v80 : BitVec 32 := v79
  let v81 : Index := Scalar.indexCast v80
  let c0_42 : Index := 0#32
  ![v81.toNat, 0]
@[reducible] def k0_t2_loop (i : grid0.Coords) : Scf.Loop 32 :=
  let c0_i32_13 : BitVec 32 := 0#32
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .slt arg1 c0_i32_8
  let v19 : BitVec 32 := Scalar.extui v18
  let v20 : BitVec 32 := Scalar.subi v17 v19
  let c2_i32 : BitVec 32 := 2#32
  let c0_i32_9 : BitVec 32 := 0#32
  let v21 : BitVec 1 := Scalar.cmpi .sgt c2_i32 c0_i32_9
  let v22 : BitVec 32 := Scalar.extui v21
  let c0_i32_10 : BitVec 32 := 0#32
  let v23 : BitVec 1 := Scalar.cmpi .slt c2_i32 c0_i32_10
  let v24 : BitVec 32 := Scalar.extui v23
  let v25 : BitVec 32 := Scalar.subi v22 v24
  let v26 : BitVec 1 := Scalar.cmpi .ne v20 v25
  let v27 : BitVec 32 := Scalar.remsi arg1 c2_i32
  let c0_i32_11 : BitVec 32 := 0#32
  let v28 : BitVec 1 := Scalar.cmpi .ne v27 c0_i32_11
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let v34 : BitVec 32 := Scalar.addi c0_i32_13 v33
  let c1_i32_16 : BitVec 32 := 1#32
  ⟨v37, v34, c1_i32_16⟩
def k0_mult2 (i : grid0.Coords) (k0_t2 : Fin (k0_t2_loop i).trips) : BitVec 32 :=
  let c2_i32_41 : BitVec 32 := 2#32
  let c0_i32_13 : BitVec 32 := 0#32
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .slt arg1 c0_i32_8
  let v19 : BitVec 32 := Scalar.extui v18
  let v20 : BitVec 32 := Scalar.subi v17 v19
  let c2_i32 : BitVec 32 := 2#32
  let c0_i32_9 : BitVec 32 := 0#32
  let v21 : BitVec 1 := Scalar.cmpi .sgt c2_i32 c0_i32_9
  let v22 : BitVec 32 := Scalar.extui v21
  let c0_i32_10 : BitVec 32 := 0#32
  let v23 : BitVec 1 := Scalar.cmpi .slt c2_i32 c0_i32_10
  let v24 : BitVec 32 := Scalar.extui v23
  let v25 : BitVec 32 := Scalar.subi v22 v24
  let v26 : BitVec 1 := Scalar.cmpi .ne v20 v25
  let v27 : BitVec 32 := Scalar.remsi arg1 c2_i32
  let c0_i32_11 : BitVec 32 := 0#32
  let v28 : BitVec 1 := Scalar.cmpi .ne v27 c0_i32_11
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_16 : BitVec 32 := 1#32
  let arg15 : BitVec 32 := Scf.iv v37 c1_i32_16 k0_t2
  let v78 : BitVec 32 := Scalar.muli c2_i32_41 arg15
  let c256_i32 : BitVec 32 := 256#32
  let v79 : BitVec 32 := Scalar.muli v78 c256_i32
  v79
def k0_off2 (i : grid0.Coords) (k0_t2 : Fin (k0_t2_loop i).trips) : Fin 2 → Nat :=
  let c2_i32_41 : BitVec 32 := 2#32
  let c0_i32_13 : BitVec 32 := 0#32
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .slt arg1 c0_i32_8
  let v19 : BitVec 32 := Scalar.extui v18
  let v20 : BitVec 32 := Scalar.subi v17 v19
  let c2_i32 : BitVec 32 := 2#32
  let c0_i32_9 : BitVec 32 := 0#32
  let v21 : BitVec 1 := Scalar.cmpi .sgt c2_i32 c0_i32_9
  let v22 : BitVec 32 := Scalar.extui v21
  let c0_i32_10 : BitVec 32 := 0#32
  let v23 : BitVec 1 := Scalar.cmpi .slt c2_i32 c0_i32_10
  let v24 : BitVec 32 := Scalar.extui v23
  let v25 : BitVec 32 := Scalar.subi v22 v24
  let v26 : BitVec 1 := Scalar.cmpi .ne v20 v25
  let v27 : BitVec 32 := Scalar.remsi arg1 c2_i32
  let c0_i32_11 : BitVec 32 := 0#32
  let v28 : BitVec 1 := Scalar.cmpi .ne v27 c0_i32_11
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_16 : BitVec 32 := 1#32
  let arg15 : BitVec 32 := Scf.iv v37 c1_i32_16 k0_t2
  let v78 : BitVec 32 := Scalar.muli c2_i32_41 arg15
  let c256_i32 : BitVec 32 := 256#32
  let v79 : BitVec 32 := Scalar.muli v78 c256_i32
  let v80 : BitVec 32 := v79
  let v81 : Index := Scalar.indexCast v80
  let c0_42 : Index := 0#32
  ![v81.toNat, 0]
@[reducible] def k0_t3_loop (i : grid0.Coords) : Scf.Loop 32 :=
  let c0_i32_23 : BitVec 32 := 0#32
  let arg1 : BitVec 32 := BitVec.ofNat 32 (i 1).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg1 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let c1_i32_25 : BitVec 32 := 1#32
  ⟨c0_i32_23, v54, c1_i32_25⟩
def k0_mult3 (i : grid0.Coords) : BitVec 32 :=
  let arg1 : BitVec 32 := BitVec.ofNat 32 (i 1).val
  let c1_i32_41 : BitVec 32 := 1#32
  let v78 : BitVec 32 := Scalar.subi arg1 c1_i32_41
  let c256_i32 : BitVec 32 := 256#32
  let v79 : BitVec 32 := Scalar.muli v78 c256_i32
  v79
def k0_off3 (i : grid0.Coords) : Fin 2 → Nat :=
  let arg1 : BitVec 32 := BitVec.ofNat 32 (i 1).val
  let c1_i32_41 : BitVec 32 := 1#32
  let v78 : BitVec 32 := Scalar.subi arg1 c1_i32_41
  let c256_i32 : BitVec 32 := 256#32
  let v79 : BitVec 32 := Scalar.muli v78 c256_i32
  let v80 : BitVec 32 := v79
  let v81 : Index := Scalar.indexCast v80
  let c0_42 : Index := 0#32
  ![v81.toNat, 0]
@[reducible] def k0_t4_loop (i : grid0.Coords) : Scf.Loop 32 :=
  let c0_i32_23 : BitVec 32 := 0#32
  let arg1 : BitVec 32 := BitVec.ofNat 32 (i 1).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg1 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.subi v49 c0_i32_23
  let c1_i32_24 : BitVec 32 := 1#32
  let v52 : BitVec 32 := Scalar.divsi v50 c1_i32_24
  let v53 : BitVec 32 := Scalar.muli v52 c1_i32_24
  let v54 : BitVec 32 := Scalar.addi c0_i32_23 v53
  let v51 : BitVec 32 := Scalar.addi c0_i32_23 v50
  let c1_i32_26 : BitVec 32 := 1#32
  ⟨v54, v51, c1_i32_26⟩
def k0_mult4 (i : grid0.Coords) : BitVec 32 :=
  let arg1 : BitVec 32 := BitVec.ofNat 32 (i 1).val
  let c1_i32_41 : BitVec 32 := 1#32
  let v78 : BitVec 32 := Scalar.subi arg1 c1_i32_41
  let c256_i32 : BitVec 32 := 256#32
  let v79 : BitVec 32 := Scalar.muli v78 c256_i32
  v79
def k0_off4 (i : grid0.Coords) : Fin 2 → Nat :=
  let arg1 : BitVec 32 := BitVec.ofNat 32 (i 1).val
  let c1_i32_41 : BitVec 32 := 1#32
  let v78 : BitVec 32 := Scalar.subi arg1 c1_i32_41
  let c256_i32 : BitVec 32 := 256#32
  let v79 : BitVec 32 := Scalar.muli v78 c256_i32
  let v80 : BitVec 32 := v79
  let v81 : Index := Scalar.indexCast v80
  let c0_42 : Index := 0#32
  ![v81.toNat, 0]
@[reducible] def k0_t5_loop (i : grid0.Coords) : Scf.Loop 32 :=
  let c0_i32_34 : BitVec 32 := 0#32
  let c1_i32_33 : BitVec 32 := 1#32
  let arg1 : BitVec 32 := BitVec.ofNat 32 (i 1).val
  let c2_i32_27 : BitVec 32 := 2#32
  let c0_i32_28 : BitVec 32 := 0#32
  let v57 : BitVec 1 := Scalar.cmpi .eq c2_i32_27 c0_i32_28
  let c1_i32_29 : BitVec 32 := 1#32
  let v58 : BitVec 32 := Scalar.select v57 c1_i32_29 c2_i32_27
  let v59 : BitVec 32 := Scalar.remsi arg1 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v67 : BitVec 32 := Scalar.subi c1_i32_33 v66
  let v68 : BitVec 32 := Scalar.subi v67 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let c1_i32_36 : BitVec 32 := 1#32
  ⟨c0_i32_34, v72, c1_i32_36⟩
def k0_mult5 (i : grid0.Coords) : BitVec 32 :=
  let arg1 : BitVec 32 := BitVec.ofNat 32 (i 1).val
  let c256_i32 : BitVec 32 := 256#32
  let v78 : BitVec 32 := Scalar.muli arg1 c256_i32
  v78
def k0_off5 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_41 : Index := 0#32
  ![v80.toNat, 0]
@[reducible] def k0_t6_loop (i : grid0.Coords) : Scf.Loop 32 :=
  let c0_i32_34 : BitVec 32 := 0#32
  let c1_i32_33 : BitVec 32 := 1#32
  let arg1 : BitVec 32 := BitVec.ofNat 32 (i 1).val
  let c2_i32_27 : BitVec 32 := 2#32
  let c0_i32_28 : BitVec 32 := 0#32
  let v57 : BitVec 1 := Scalar.cmpi .eq c2_i32_27 c0_i32_28
  let c1_i32_29 : BitVec 32 := 1#32
  let v58 : BitVec 32 := Scalar.select v57 c1_i32_29 c2_i32_27
  let v59 : BitVec 32 := Scalar.remsi arg1 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v67 : BitVec 32 := Scalar.subi c1_i32_33 v66
  let v68 : BitVec 32 := Scalar.subi v67 c0_i32_34
  let c1_i32_35 : BitVec 32 := 1#32
  let v70 : BitVec 32 := Scalar.divsi v68 c1_i32_35
  let v71 : BitVec 32 := Scalar.muli v70 c1_i32_35
  let v72 : BitVec 32 := Scalar.addi c0_i32_34 v71
  let v69 : BitVec 32 := Scalar.addi c0_i32_34 v68
  let c1_i32_37 : BitVec 32 := 1#32
  ⟨v72, v69, c1_i32_37⟩
def k0_mult6 (i : grid0.Coords) : BitVec 32 :=
  let arg1 : BitVec 32 := BitVec.ofNat 32 (i 1).val
  let c256_i32 : BitVec 32 := 256#32
  let v78 : BitVec 32 := Scalar.muli arg1 c256_i32
  v78
def k0_off6 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_41 : Index := 0#32
  ![v80.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x6656 : Shape := ⟨2, ![4096, 6656]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩

abbrev nBuf : Space → Nat
  | .hbm => 199
  | .vmem => 0
  | .smem => 0
  | _ => 0

abbrev hbmTy0_0 (i : Nat) : BufTy := match i % 128 with
  | 0 => ⟨S4096x6656, .f32⟩
  | 1 => ⟨S4096x1024, .f32⟩
  | 2 => ⟨S4096x1024, .f32⟩
  | 3 => ⟨S4096x8x128, .f32⟩
  | 4 => ⟨S8x4096x128, .f32⟩
  | 5 => ⟨S4096x1024, .f32⟩
  | 6 => ⟨S4096x8x128, .f32⟩
  | 7 => ⟨S8x4096x128, .f32⟩
  | 8 => ⟨S4096x1024, .f32⟩
  | 9 => ⟨S4096x8x128, .f32⟩
  | 10 => ⟨S8x4096x128, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S8x4096, .f32⟩
  | 80 => ⟨S8x4096x1, .f32⟩
  | 81 => ⟨S_, .f32⟩
  | 82 => ⟨S_, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .i1⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S_, .f32⟩
  | 102 => ⟨S8x4096x4096, .f32⟩
  | 103 => ⟨S8x4096x4096, .i1⟩
  | 104 => ⟨S_, .f32⟩
  | 105 => ⟨S8x4096x4096, .f32⟩
  | 106 => ⟨S8x4096x4096, .f32⟩
  | 107 => ⟨S_, .f32⟩
  | 108 => ⟨S8x4096x4096, .f32⟩
  | 109 => ⟨S8x4096x4096, .i1⟩
  | 110 => ⟨S_, .f32⟩
  | 111 => ⟨S8x4096x4096, .f32⟩
  | 112 => ⟨S8x4096x4096, .f32⟩
  | 113 => ⟨S8x4096x4096, .f32⟩
  | 114 => ⟨S8x4096x4096, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S8x4096x4096, .f32⟩
  | 123 => ⟨S8x4096x4096, .i1⟩
  | 124 => ⟨S_, .f32⟩
  | 125 => ⟨S8x4096x4096, .f32⟩
  | 126 => ⟨S8x4096x4096, .f32⟩
  | 127 => ⟨S8x4096x4096, .f32⟩
  | _ => ⟨S4096x6656, .f32⟩

abbrev hbmTy0_1 (i : Nat) : BufTy := match i % 128 with
  | 0 => ⟨S8x4096x4096, .f32⟩
  | 1 => ⟨S8x4096x4096, .f32⟩
  | 2 => ⟨S_, .f32⟩
  | 3 => ⟨S8x4096x4096, .f32⟩
  | 4 => ⟨S8x4096x4096, .f32⟩
  | 5 => ⟨S8x4096x4096, .f32⟩
  | 6 => ⟨S8x4096x4096, .f32⟩
  | 7 => ⟨S8x4096x4096, .f32⟩
  | 8 => ⟨S_, .f32⟩
  | 9 => ⟨S_, .f32⟩
  | 10 => ⟨S8x4096x4096, .i1⟩
  | 11 => ⟨S8x4096x4096, .f32⟩
  | 12 => ⟨S8x4096x4096, .f32⟩
  | 13 => ⟨S_, .f32⟩
  | 14 => ⟨S8x4096x4096, .f32⟩
  | 15 => ⟨S8x4096x128, .f32⟩
  | 16 => ⟨S4096x8x128, .f32⟩
  | 17 => ⟨S4096x1024, .f32⟩
  | 18 => ⟨S4096x8x128, .f32⟩
  | 19 => ⟨S8x4096x128, .f32⟩
  | 20 => ⟨S8x128x4096, .f32⟩
  | 21 => ⟨S8x4096x128, .f32⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S8x4096, .f32⟩
  | 32 => ⟨S8x4096x1, .f32⟩
  | 33 => ⟨S8x4096x4096, .f32⟩
  | 34 => ⟨S_, .f32⟩
  | 35 => ⟨S_, .f32⟩
  | 36 => ⟨S8x4096x4096, .f32⟩
  | 37 => ⟨S_, .f32⟩
  | 38 => ⟨S8x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .f32⟩
  | 44 => ⟨S8x4096x4096, .f32⟩
  | 45 => ⟨S8x4096x4096, .f32⟩
  | 46 => ⟨S8x4096x4096, .f32⟩
  | 47 => ⟨S8x4096x4096, .f32⟩
  | 48 => ⟨S8x4096x4096, .f32⟩
  | 49 => ⟨S_, .f32⟩
  | 50 => ⟨S8x4096x4096, .f32⟩
  | 51 => ⟨S8x4096x4096, .f32⟩
  | 52 => ⟨S8x4096x128, .f32⟩
  | 53 => ⟨S8x4096x128, .f32⟩
  | 54 => ⟨S4096x8x128, .f32⟩
  | 55 => ⟨S4096x1024, .f32⟩
  | 56 => ⟨S_, .f32⟩
  | 57 => ⟨S4096x6656, .f32⟩
  | 58 => ⟨S4096x8x128, .f32⟩
  | 59 => ⟨S4096x1024, .f32⟩
  | 60 => ⟨S_, .f32⟩
  | 61 => ⟨S4096x6656, .f32⟩
  | 62 => ⟨S4096x6656, .f32⟩
  | 63 => ⟨S4096x8x128, .f32⟩
  | 64 => ⟨S4096x1024, .f32⟩
  | 65 => ⟨S_, .f32⟩
  | 66 => ⟨S4096x6656, .f32⟩
  | 67 => ⟨S4096x6656, .f32⟩
  | 68 => ⟨S4096x1024, .f32⟩
  | 69 => ⟨S4096x1024, .f32⟩
  | 70 => ⟨S4096x1024, .f32⟩
  | _ => ⟨S4096x6656, .f32⟩

abbrev hbmTy (i : Nat) : BufTy := match i / 128 with
  | 0 => hbmTy0_0 i
  | 1 => hbmTy0_1 i
  | _ => ⟨S4096x6656, .f32⟩

abbrev bufTy : (tb : Table) → Fin (tcTables nBuf tb) → BufTy
  | .hbm, ⟨i, _⟩ => hbmTy i
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_cst_1 : Ref sig .tc := ⟨.hbm, 78, rfl⟩
abbrev main_v22 : Ref sig .tc := ⟨.hbm, 79, rfl⟩
abbrev main_v23 : Ref sig .tc := ⟨.hbm, 80, rfl⟩
abbrev main_call2_call0_cst : Ref sig .tc := ⟨.hbm, 81, rfl⟩
abbrev main_call2_call0_v0 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v27_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v27_2 : Ref sig .tc := ⟨.hbm, 132, rfl⟩
abbrev main_v27_0 : Ref sig .tc := ⟨.hbm, 133, rfl⟩
abbrev main_v28 : Ref sig .tc := ⟨.hbm, 134, rfl⟩
abbrev main_v29 : Ref sig .tc := ⟨.hbm, 135, rfl⟩
abbrev main_cst_2 : Ref sig .tc := ⟨.hbm, 136, rfl⟩
abbrev main_call4_v0 : Ref sig .tc := ⟨.hbm, 137, rfl⟩
abbrev main_v30_1 : Ref sig .tc := ⟨.hbm, 138, rfl⟩
abbrev main_call4_v2 : Ref sig .tc := ⟨.hbm, 139, rfl⟩
abbrev main_v30_0 : Ref sig .tc := ⟨.hbm, 140, rfl⟩
abbrev main_call4_cst : Ref sig .tc := ⟨.hbm, 141, rfl⟩
abbrev main_v30_2 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_call5_cst : Ref sig .tc := ⟨.hbm, 151, rfl⟩
abbrev main_call5_v0 : Ref sig .tc := ⟨.hbm, 152, rfl⟩
abbrev main_v39 : Ref sig .tc := ⟨.hbm, 153, rfl⟩
abbrev main_v40 : Ref sig .tc := ⟨.hbm, 154, rfl⟩
abbrev main_call6_v0 : Ref sig .tc := ⟨.hbm, 155, rfl⟩
abbrev main_call6_v1 : Ref sig .tc := ⟨.hbm, 156, rfl⟩
abbrev main_v41 : Ref sig .tc := ⟨.hbm, 157, rfl⟩
abbrev main_cst_3 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_call7_call0_cst : Ref sig .tc := ⟨.hbm, 162, rfl⟩
abbrev main_call7_call0_v0 : Ref sig .tc := ⟨.hbm, 163, rfl⟩
abbrev main_v45 : Ref sig .tc := ⟨.hbm, 164, rfl⟩
abbrev main_cst_4 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_call8_cst : Ref sig .tc := ⟨.hbm, 169, rfl⟩
abbrev main_call8_v0 : Ref sig .tc := ⟨.hbm, 170, rfl⟩
abbrev main_v49 : Ref sig .tc := ⟨.hbm, 171, rfl⟩
abbrev main_call9_v0 : Ref sig .tc := ⟨.hbm, 172, rfl⟩
abbrev main_call9_v1 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_cst_5 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_cst_6 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_cst_7 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_cst_8 : Ref sig .tc := ⟨.hbm, 193, rfl⟩
abbrev main_v66 : Ref sig .tc := ⟨.hbm, 194, rfl⟩
abbrev main_v67 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩

abbrev nD : Nat := 1
abbrev τ : Topo := Topo.v7x

variable {F : FTy → Type} [FloatOps F]
-- ==== Kernel2.lean ====
abbrev S4096x2048 : Shape := ⟨2, ![4096, 2048]⟩
abbrev S2048x6656 : Shape := ⟨2, ![2048, 6656]⟩
abbrev S4096x6656 : Shape := ⟨2, ![4096, 6656]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x6656, .bf16⟩
  | .hbm, ⟨3, _⟩ => ⟨S2048x6656, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x6656 : Shape := ⟨2, ![2048, 6656]⟩
abbrev S4096x6656 : Shape := ⟨2, ![4096, 6656]⟩
abbrev S6656x2048 : Shape := ⟨2, ![6656, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x6656, .bf16⟩
  | .hbm, ⟨3, _⟩ => ⟨S4096x2048, .f32⟩
  | .hbm, ⟨4, _⟩ => ⟨S2048x6656, .f32⟩
  | .hbm, ⟨5, _⟩ => ⟨S4096x6656, .f32⟩
  | .hbm, ⟨6, _⟩ => ⟨S4096x6656, .f32⟩
  | .hbm, ⟨7, _⟩ => ⟨S6656x2048, .f32⟩
  | .hbm, ⟨8, _⟩ => ⟨S2048x6656, .f32⟩
  | .hbm, ⟨9, _⟩ => ⟨S4096x2048, .f32⟩
  | .hbm, ⟨10, _⟩ => ⟨S2048x6656, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2048 : Shape := ⟨2, ![4096, 2048]⟩
abbrev S2048x6656 : Shape := ⟨2, ![2048, 6656]⟩
abbrev S4096x6656 : Shape := ⟨2, ![4096, 6656]⟩
abbrev S_ : Shape := ⟨0, ![]⟩
abbrev S8x128 : Shape := ⟨2, ![8, 128]⟩
abbrev S1024x1664 : Shape := ⟨2, ![1024, 1664]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x6656, .bf16⟩
  | .hbm, ⟨3, _⟩ => ⟨S_, .f32⟩
  | .hbm, ⟨4, _⟩ => ⟨S8x128, .f32⟩
  | .hbm, ⟨5, _⟩ => ⟨S4096x2048, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x6656 : Shape := ⟨2, ![2048, 6656]⟩
abbrev S4096x6656 : Shape := ⟨2, ![4096, 6656]⟩
abbrev S6656x2048 : Shape := ⟨2, ![6656, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x6656, .bf16⟩
  | .hbm, ⟨3, _⟩ => ⟨S4096x2048, .f32⟩
  | .hbm, ⟨4, _⟩ => ⟨S2048x6656, .f32⟩
  | .hbm, ⟨5, _⟩ => ⟨S4096x6656, .f32⟩
  | .hbm, ⟨6, _⟩ => ⟨S4096x6656, .f32⟩
  | .hbm, ⟨7, _⟩ => ⟨S6656x2048, .f32⟩
  | .hbm, ⟨8, _⟩ => ⟨S2048x6656, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S2048x6656 : Shape := ⟨2, ![2048, 6656]⟩
abbrev S_ : Shape := ⟨0, ![]⟩
abbrev S8x128 : Shape := ⟨2, ![8, 128]⟩
abbrev S4096x6656 : Shape := ⟨2, ![4096, 6656]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S_, .f32⟩
  | .hbm, ⟨3, _⟩ => ⟨S8x128, .f32⟩
  | .hbm, ⟨4, _⟩ => ⟨S4096x6656, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x6656 : Shape := ⟨2, ![2048, 6656]⟩
abbrev S4096x6656 : Shape := ⟨2, ![4096, 6656]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .hbm, ⟨3, _⟩ => ⟨S2048x6656, .f32⟩
  | .hbm, ⟨4, _⟩ => ⟨S4096x6656, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x2048, .f32⟩
  | .hbm, ⟨3, _⟩ => ⟨S2048x512, .f32⟩
  | .hbm, ⟨4, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S2048x512 : Shape := ⟨2, ![2048, 512]⟩
abbrev S4096x512 : Shape := ⟨2, ![4096, 512]⟩
abbrev S2048x1024 : Shape := ⟨2, ![2048, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .hbm, ⟨3, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x512 : Shape := ⟨2, ![2048, 512]⟩
abbrev S4096x512 : Shape := ⟨2, ![4096, 512]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .hbm, ⟨3, _⟩ => ⟨S4096x2048, .f32⟩
  | .hbm, ⟨4, _⟩ => ⟨S2048x512, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S4096x2048, .f32⟩
  | .hbm, ⟨10, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S2048x512 : Shape := ⟨2, ![2048, 512]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x512 : Shape := ⟨2, ![2048, 512]⟩
abbrev S4096x512 : Shape := ⟨2, ![4096, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .hbm, ⟨3, _⟩ => ⟨S4096x2048, .f32⟩
  | .hbm, ⟨4, _⟩ => ⟨S2048x512, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S256x2048, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .hbm, ⟨4, _⟩ => ⟨S4096x512, .f32⟩
  | .hbm, ⟨5, _⟩ => ⟨S512x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x512, .f32⟩
  | .hbm, ⟨10, _⟩ => ⟨S512x2048, .f32⟩
  | .hbm, ⟨11, _⟩ => ⟨S4096x512, .f32⟩
  | .hbm, ⟨12, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel16.lean ====
abbrev S4096x512 : Shape := ⟨2, ![4096, 512]⟩
abbrev S512x2048 : Shape := ⟨2, ![512, 2048]⟩
abbrev S4096x2048 : Shape := ⟨2, ![4096, 2048]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .hbm, ⟨4, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .hbm, ⟨4, _⟩ => ⟨S4096x512, .f32⟩
  | .hbm, ⟨5, _⟩ => ⟨S512x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x512, .f32⟩
  | .hbm, ⟨10, _⟩ => ⟨S512x2048, .f32⟩
  | .hbm, ⟨11, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Counts.lean ====
/-
  TRIP COUNTS AND OFFSETS of one point's loops, by the row block of the point: half as many trips of two unmasked
  blocks, then either one trip of two blocks of which the second lies on the diagonal, or one of the diagonal block
  alone; the loops over what is left over by the unrolling make no trip.
-/
module

public import proofs.«01_k».proof.Proof.Gen.KernelIdeal.Loops

@[expose] public section

namespace Cert.Counts

open Idealize.ShloMosaic Cert.KernelIdeal Cert.KernelIdeal.Gen

theorem trips1 : ∀ i : grid0.Coords, (k0_t1_loop i).trips = (i 1).val / 2 := by decide +kernel
theorem trips2 : ∀ i : grid0.Coords, (k0_t2_loop i).trips = 0 := by decide +kernel
theorem trips3 : ∀ i : grid0.Coords, (k0_t3_loop i).trips = (i 1).val % 2 := by decide +kernel
theorem trips4 : ∀ i : grid0.Coords, (k0_t4_loop i).trips = 0 := by decide +kernel
theorem trips5 : ∀ i : grid0.Coords, (k0_t5_loop i).trips = 1 - (i 1).val % 2 := by decide +kernel
theorem trips6 : ∀ i : grid0.Coords, (k0_t6_loop i).trips = 0 := by decide +kernel

theorem off1 : ∀ (i : grid0.Coords) (k : Fin (k0_t1_loop i).trips), k0_off1 i k = ![512 * k.val, 0] := by
  have h : ∀ (i : grid0.Coords) (k : Fin (k0_t1_loop i).trips), ∀ a, k0_off1 i k a = (![512 * k.val, 0] : Fin 2 → ℕ) a := by
    decide +kernel
  exact fun i k => funext (h i k)

theorem off3 : ∀ i : grid0.Coords, (i 1).val % 2 = 1 → k0_off3 i = ![512 * ((i 1).val / 2), 0] := by
  have h : ∀ i : grid0.Coords, (i 1).val % 2 = 1 → ∀ a, k0_off3 i a = (![512 * ((i 1).val / 2), 0] : Fin 2 → ℕ) a := by
    decide +kernel
  exact fun i e => funext (h i e)

theorem off5 : ∀ i : grid0.Coords, k0_off5 i = ![256 * (i 1).val, 0] := by
  have h : ∀ i : grid0.Coords, ∀ a, k0_off5 i a = (![256 * (i 1).val, 0] : Fin 2 → ℕ) a := by decide +kernel
  exact fun i => funext (h i)

end Cert.Counts
-- ==== Proof.RealArr.lean ====
/-
  REAL ARRAYS. An array of two axes whose elements are real numbers, written `arr f` for a function `f` of the
  row and the column (naturals), and what each vector operation of the kernel makes of such arrays when floats are
  extended reals: again an array of reals, given by an explicit real function. With these equations a chain of
  vector operations is read as one real formula.
-/
module

public import Idealize.ShloMosaic.PureOps.Ideal.Laws
public import Idealize.ShloMosaic.Lib.ValueIdx
public import Idealize.ShloMosaic.Lib.IdealHost
public import Idealize.ShloMosaic.Lib.ValueLayoutCasts
public import Idealize.ShloMosaic.Lib.Pipeline.Value
public import Idealize.ShloMosaic.Lib.Pointwise.Contract
public import Mathlib.Data.EReal.Operations

@[expose] public section

noncomputable section

namespace Cert.RealArr

open Idealize.ShloMosaic
open scoped BigOperators

/-- The array of `n` rows and `m` columns holding the real `f r c` at row `r`, column `c`. -/
def arr {n m : ℕ} (f : ℕ → ℕ → ℝ) : (⟨2, ![n, m]⟩ : Shape).Idx → EReal :=
  fun i => ((f (i 0).val (i 1).val : ℝ) : EReal)

/-- The mask of `n` rows and `m` columns that is one where `p` holds. -/
def msk {n m : ℕ} (p : ℕ → ℕ → Bool) : (⟨2, ![n, m]⟩ : Shape).Idx → BitVec 1 :=
  fun i => if p (i 0).val (i 1).val then 1#1 else 0#1

variable {n m : ℕ} {φ ψ : FTy} {f g h : ℕ → ℕ → ℝ}

theorem arr_congr (e : ∀ r < n, ∀ c < m, f r c = g r c) : (arr f : (⟨2, ![n, m]⟩ : Shape).Idx → EReal) = arr g := by
  funext i
  show ((f (i 0).val (i 1).val : ℝ) : EReal) = ((g (i 0).val (i 1).val : ℝ) : EReal)
  rw [e _ (i 0).isLt _ (i 1).isLt]

theorem arr_inj (e : (arr f : (⟨2, ![n, m]⟩ : Shape).Idx → EReal) = arr g) : ∀ r < n, ∀ c < m, f r c = g r c := by
  intro r hr c hc
  have := congrFun e (ValueIdx.ix2 ⟨r, hr⟩ ⟨c, hc⟩)
  exact EReal.coe_injective this

theorem arr_apply (i : (⟨2, ![n, m]⟩ : Shape).Idx) : arr f i = ((f (i 0).val (i 1).val : ℝ) : EReal) := rfl

/-- A finite sum of reals, summed as extended reals. -/
theorem coe_sum {ι : Type*} (s : Finset ι) (x : ι → ℝ) : ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-! ### Operations element by element -/

theorem addf_arr : addf (s := ⟨2, ![n, m]⟩) (φ := φ) (F := Ideal) (arr f) (arr g) = arr fun r c => f r c + g r c := by
  funext i; exact (EReal.coe_add _ _).symm

theorem subf_arr : subf (s := ⟨2, ![n, m]⟩) (φ := φ) (F := Ideal) (arr f) (arr g) = arr fun r c => f r c - g r c := by
  funext i; exact (EReal.coe_sub _ _).symm

theorem mulf_arr : mulf (s := ⟨2, ![n, m]⟩) (φ := φ) (F := Ideal) (arr f) (arr g) = arr fun r c => f r c * g r c := by
  funext i; exact (EReal.coe_mul _ _).symm

theorem minimumf_arr :
    minimumf (s := ⟨2, ![n, m]⟩) (φ := φ) (F := Ideal) (arr f) (arr g) = arr fun r c => min (f r c) (g r c) := by
  funext i; exact (EReal.coe_strictMono.monotone.map_min).symm

theorem absf_arr : absf (s := ⟨2, ![n, m]⟩) (φ := φ) (F := Ideal) (arr f) = arr fun r c => |f r c| := by
  funext i
  show max ((f (i 0).val (i 1).val : ℝ) : EReal) (-((f (i 0).val (i 1).val : ℝ) : EReal)) = ((|f (i 0).val (i 1).val| : ℝ) : EReal)
  rw [← EReal.coe_neg]
  exact (EReal.coe_strictMono.monotone.map_max).symm

theorem exp_arr : exp (s := ⟨2, ![n, m]⟩) (φ := φ) (F := Ideal) (arr f) = arr fun r c => Real.exp (f r c) := rfl

/-- The logarithm of one plus an exponential is real. -/
theorem log_arr_one_add_exp :
    log (s := ⟨2, ![n, m]⟩) (φ := φ) (F := Ideal) (arr fun r c => 1 + Real.exp (f r c))
      = arr fun r c => Real.log (1 + Real.exp (f r c)) := by
  funext i
  show Ideal.log ((1 + Real.exp (f (i 0).val (i 1).val) : ℝ) : EReal) = _
  have : ¬ (1 + Real.exp (f (i 0).val (i 1).val) ≤ 0) := by have := Real.exp_pos (f (i 0).val (i 1).val); linarith
  show (if _ then _ else _) = _
  rw [if_neg this]; rfl

theorem truncf_arr (hb : ψ.bits < φ.bits) :
    (truncf ψ (s := ⟨2, ![n, m]⟩) (φ := φ) (F := Ideal) (arr f) hb : FVec Ideal ⟨2, ![n, m]⟩ ψ) = arr f := rfl

theorem extf_arr (hb : φ.bits < ψ.bits) :
    (extf ψ (s := ⟨2, ![n, m]⟩) (φ := φ) (F := Ideal) (arr f) hb : FVec Ideal ⟨2, ![n, m]⟩ ψ) = arr f := rfl

theorem select_arr (p : ℕ → ℕ → Bool) :
    select (s := ⟨2, ![n, m]⟩) (msk p) (arr f) (arr g) = arr fun r c => if p r c then f r c else g r c := by
  funext i
  show Scalar.select (if p (i 0).val (i 1).val then 1#1 else 0#1) _ _ = ((if p (i 0).val (i 1).val then f _ _ else g _ _ : ℝ) : EReal)
  by_cases hp : p (i 0).val (i 1).val
  · rw [if_pos hp, if_pos hp]; rfl
  · rw [if_neg hp, if_neg hp]; rfl

/-! ### Constants -/

theorem zero_arr : broadcast (⟨2, ![n, m]⟩ : Shape) (Scalar.ofBits (F := Ideal) .f32 0x00000000#32) = arr fun _ _ => 0 := by
  funext i
  show Ideal.ofBits .f32 0x00000000#32 = _
  rw [Ideal.ofBits_zero_f32]; rfl

theorem zero_arr' : broadcast (⟨2, ![n, m]⟩ : Shape) (FloatOps.ofBits (F := Ideal) .f32 0x00000000#32) = arr fun _ _ => 0 := zero_arr

theorem constZero_arr : constant (F := Ideal) (⟨2, ![n, m]⟩ : Shape) .f32 0x00000000#32 = arr fun _ _ => 0 := by
  funext i
  show Ideal.ofBits .f32 0x00000000#32 = _
  rw [Ideal.ofBits_zero_f32]; rfl

theorem ofBits_one : Ideal.ofBits .f32 0x3F800000#32 = ((1 : ℝ) : EReal) := by
  rw [Ideal.ofBits_one_f32]; rfl

theorem one_arr : broadcast (⟨2, ![n, m]⟩ : Shape) (Scalar.ofBits (F := Ideal) .f32 0x3F800000#32) = arr fun _ _ => 1 := by
  funext i
  show Ideal.ofBits .f32 0x3F800000#32 = _
  rw [ofBits_one]; rfl

/-- The score scale as a real: what the 32-bit pattern of `128 ^ (-1/2)` denotes. -/
def scale : ℝ := (Ideal.ofBits .f32 0x3DB504F3#32).toReal

theorem ofBits_scale : Ideal.ofBits .f32 0x3DB504F3#32 = ((scale : ℝ) : EReal) := by
  have h : ∃ x : ℝ, Ideal.ofBits .f32 0x3DB504F3#32 = (x : EReal) := by
    simp only [Ideal.ofBits, Ideal.ieee]
    rw [if_neg (by decide), if_neg (by decide)]
    exact ⟨_, rfl⟩
  obtain ⟨x, hx⟩ := h
  rw [scale, hx, EReal.toReal_coe]

theorem scale_arr : broadcast (⟨2, ![n, m]⟩ : Shape) (Scalar.ofBits (F := Ideal) .f32 0x3DB504F3#32) = arr fun _ _ => scale := by
  funext i
  show Ideal.ofBits .f32 0x3DB504F3#32 = _
  rw [ofBits_scale]; rfl

/-! ### Slices, concatenations, rows of sums -/

section Layout
variable {N N' : ℕ} {α : Type}

/-- A slice of an array of reals at row `a`, column `b`. -/
theorem slice_arr (a b : ℕ) (hs : (⟨2, ![N, N']⟩ : Shape).Slices ![a, b] ⟨2, ![n, m]⟩) :
    extractStridedSlice (⟨2, ![n, m]⟩ : Shape) ![a, b] (arr f) hs = arr fun r c => f (a + r) (b + c) := by
  funext i
  rfl

theorem slice_msk (p : ℕ → ℕ → Bool) (a b : ℕ)
    (hs : (⟨2, ![N, N']⟩ : Shape).Slices ![a, b] ⟨2, ![n, m]⟩) :
    extractStridedSlice (⟨2, ![n, m]⟩ : Shape) ![a, b] (msk p) hs = msk fun r c => p (a + r) (b + c) := by
  funext i
  rfl

theorem shapeCast_arr (hs : (⟨2, ![n, m]⟩ : Shape).ShapeCasts ⟨2, ![n, m]⟩) :
    shapeCast (⟨2, ![n, m]⟩ : Shape) (arr f) hs = arr f := shapeCast_self _ _

/-- A column broadcast along the rows. -/
theorem broadcastTo_arr (hm : m ≠ 1) (hb : (⟨2, ![n, 1]⟩ : Shape).Broadcasts ⟨2, ![n, m]⟩) :
    broadcastTo (⟨2, ![n, m]⟩ : Shape) (arr f : (⟨2, ![n, 1]⟩ : Shape).Idx → EReal) hb = arr fun r _ => f r 0 := by
  funext i
  by_cases hn : n = 1
  · subst hn
    rw [broadcastTo_apply _ hb i (ValueIdx.ix2 0 0) (fun a => by fin_cases a <;> rfl)]
    have : (i 0).val = 0 := by have : (i 0).val < 1 := (i 0).isLt; omega
    show ((f 0 0 : ℝ) : EReal) = ((f (i 0).val 0 : ℝ) : EReal)
    rw [this]
  · rw [broadcastTo_apply _ hb i (ValueIdx.ix2 (i 0) 0) (fun a => by
      fin_cases a
      · show (i 0).val = if n = 1 then 0 else (i 0).val
        rw [if_neg hn]
      · rfl)]
    rfl

/-- The sums of the rows, as a column. -/
theorem rowSum_arr (acc : BitVec FTy.f32.bits) (hr : (⟨2, ![n, m]⟩ : Shape).Reduces [1] ⟨1, ![n]⟩) (hφ : FKind.Formats .f32)
    (ha : acc = FKind.add.neutral .f32 hφ) (hc : (⟨1, ![n]⟩ : Shape).ShapeCasts ⟨2, ![n, 1]⟩) :
    shapeCast (⟨2, ![n, 1]⟩ : Shape) (multiReduction (F := Ideal) .add [1] ⟨1, ![n]⟩ (arr f : (⟨2, ![n, m]⟩ : Shape).Idx → EReal) acc hr hφ ha) hc
      = arr fun r _ => ∑ c ∈ Finset.range m, f r c := by
  funext i
  have hi : i = ValueIdx.ix2 (i 0) (i 1) := by
    funext a; fin_cases a <;> rfl
  rw [hi]
  erw [ValueIdx.shapeCast_a_a1_apply, Ideal.multiReduction_add_single]
  show (∑ k : Fin m, (arr f) (hr.lift _ k)) = ((∑ c ∈ Finset.range m, f (i 0).val c : ℝ) : EReal)
  rw [Finset.sum_range, coe_sum]
  refine Finset.sum_congr rfl fun k _ => ?_
  rfl

/-- Four blocks of 64 rows under one another. -/
def cat4 (h : Shape.Concatenates [⟨2, ![64, m]⟩, ⟨2, ![64, m]⟩, ⟨2, ![64, m]⟩, ⟨2, ![64, m]⟩] (⟨2, ![256, m]⟩ : Shape) 0)
    (x y z w : (⟨2, ![64, m]⟩ : Shape).Idx → EReal) : (⟨2, ![256, m]⟩ : Shape).Idx → EReal :=
  concatenate (⟨2, ![256, m]⟩ : Shape) 0 [⟨⟨2, ![64, m]⟩, x⟩, ⟨⟨2, ![64, m]⟩, y⟩, ⟨⟨2, ![64, m]⟩, z⟩, ⟨⟨2, ![64, m]⟩, w⟩] h

theorem concat4_eq (h : Shape.Concatenates [⟨2, ![64, m]⟩, ⟨2, ![64, m]⟩, ⟨2, ![64, m]⟩, ⟨2, ![64, m]⟩] (⟨2, ![256, m]⟩ : Shape) 0)
    (x y z w : (⟨2, ![64, m]⟩ : Shape).Idx → EReal) :
    concatenate (⟨2, ![256, m]⟩ : Shape) 0 [⟨⟨2, ![64, m]⟩, x⟩, ⟨⟨2, ![64, m]⟩, y⟩, ⟨⟨2, ![64, m]⟩, z⟩, ⟨⟨2, ![64, m]⟩, w⟩] h
      = cat4 h x y z w := rfl

/-- Two blocks of 256 columns side by side. -/
def cat2 (h : Shape.Concatenates [⟨2, ![n, 256]⟩, ⟨2, ![n, 256]⟩] (⟨2, ![n, 512]⟩ : Shape) 1)
    (x y : (⟨2, ![n, 256]⟩ : Shape).Idx → EReal) : (⟨2, ![n, 512]⟩ : Shape).Idx → EReal :=
  concatenate (⟨2, ![n, 512]⟩ : Shape) 1 [⟨⟨2, ![n, 256]⟩, x⟩, ⟨⟨2, ![n, 256]⟩, y⟩] h

theorem concat2_eq (h : Shape.Concatenates [⟨2, ![n, 256]⟩, ⟨2, ![n, 256]⟩] (⟨2, ![n, 512]⟩ : Shape) 1)
    (x y : (⟨2, ![n, 256]⟩ : Shape).Idx → EReal) :
    concatenate (⟨2, ![n, 512]⟩ : Shape) 1 [⟨⟨2, ![n, 256]⟩, x⟩, ⟨⟨2, ![n, 256]⟩, y⟩] h = cat2 h x y := rfl

/-- Four blocks of 64 rows under one another, when they are the four quarters of one array. -/
theorem concat4_arr (F : ℕ → ℕ → ℝ)
    (h : Shape.Concatenates [⟨2, ![64, m]⟩, ⟨2, ![64, m]⟩, ⟨2, ![64, m]⟩, ⟨2, ![64, m]⟩] (⟨2, ![256, m]⟩ : Shape) 0) :
    cat4 h (arr F) (arr fun r c => F (64 + r) c) (arr fun r c => F (128 + r) c) (arr fun r c => F (192 + r) c) = arr F := by
  unfold cat4
  funext i
  have hb : (i 0).val < 256 := (i 0).isLt
  have key : ∀ (q : ℕ) (hq : q < 4) (r : Fin 64), 64 * q + r.val = (i 0).val →
      concatenate (⟨2, ![256, m]⟩ : Shape) 0
        [⟨⟨2, ![64, m]⟩, (arr F : (⟨2, ![64, m]⟩ : Shape).Idx → EReal)⟩, ⟨⟨2, ![64, m]⟩, arr fun r c => F (64 + r) c⟩,
          ⟨⟨2, ![64, m]⟩, arr fun r c => F (128 + r) c⟩, ⟨⟨2, ![64, m]⟩, arr fun r c => F (192 + r) c⟩] h i
        = (arr fun r c => F (64 * q + r) c : (⟨2, ![64, m]⟩ : Shape).Idx → EReal) (ValueIdx.ix2 r (i 1)) := by
    intro q hq r hr
    refine concatenate_apply_piece 0
      [⟨⟨2, ![64, m]⟩, (arr F : (⟨2, ![64, m]⟩ : Shape).Idx → EReal)⟩, ⟨⟨2, ![64, m]⟩, arr fun r c => F (64 + r) c⟩,
        ⟨⟨2, ![64, m]⟩, arr fun r c => F (128 + r) c⟩, ⟨⟨2, ![64, m]⟩, arr fun r c => F (192 + r) c⟩] h i q hq ⟨2, ![64, m]⟩ _ ?_ rfl (64 * q) ?_ _ (fun b hb => ?_) hr
    · interval_cases q
      · simp
      · rfl
      · rfl
      · rfl
    · interval_cases q <;> rfl
    · fin_cases b
      · exact absurd rfl hb
      · rfl
  rw [key ((i 0).val / 64) (by omega) ⟨(i 0).val % 64, by omega⟩ (by show 64 * ((i 0).val / 64) + (i 0).val % 64 = _; omega)]
  show ((F (64 * ((i 0).val / 64) + (i 0).val % 64) (i 1).val : ℝ) : EReal) = _
  rw [Nat.div_add_mod]; rfl

/-- Two arrays of 256 columns side by side. -/
theorem concat2_arr
    (h : Shape.Concatenates [⟨2, ![n, 256]⟩, ⟨2, ![n, 256]⟩] (⟨2, ![n, 512]⟩ : Shape) 1) :
    cat2 h (arr f) (arr g) = arr fun r c => if c < 256 then f r c else g r (c - 256) := by
  unfold cat2
  funext i
  have hb : (i 1).val < 512 := (i 1).isLt
  by_cases hc : (i 1).val < 256
  · rw [concatenate_apply_piece 1 [⟨⟨2, ![n, 256]⟩, (arr f : (⟨2, ![n, 256]⟩ : Shape).Idx → EReal)⟩, ⟨⟨2, ![n, 256]⟩, arr g⟩] h i 0 (by simp) ⟨2, ![n, 256]⟩ (arr f) rfl rfl 0 rfl (ValueIdx.ix2 (i 0) ⟨(i 1).val, hc⟩)
      (fun b hb => by
        fin_cases b
        · rfl
        · exact absurd rfl hb) (by show 0 + (i 1).val = _; omega)]
    show ((f (i 0).val (i 1).val : ℝ) : EReal) = ((if (i 1).val < 256 then _ else _ : ℝ) : EReal)
    rw [if_pos hc]
  · rw [concatenate_apply_piece 1 [⟨⟨2, ![n, 256]⟩, (arr f : (⟨2, ![n, 256]⟩ : Shape).Idx → EReal)⟩, ⟨⟨2, ![n, 256]⟩, arr g⟩] h i 1 (by simp) ⟨2, ![n, 256]⟩ (arr g) rfl rfl 256 rfl
      (ValueIdx.ix2 (i 0) ⟨(i 1).val - 256, by omega⟩)
      (fun b hb => by
        fin_cases b
        · rfl
        · exact absurd rfl hb) (by show 256 + ((i 1).val - 256) = (i 1).val; omega)]
    show ((g (i 0).val ((i 1).val - 256) : ℝ) : EReal) = ((if (i 1).val < 256 then _ else _ : ℝ) : EReal)
    rw [if_neg hc]

end Layout

/-! ### Products -/

section Products
variable {K : ℕ}

/-- A product whose operands are read at `(r, k)` and `(k, c)`, into zeros. -/
theorem matmul_arr_of {sl sr : Shape} (d : DotDims sl sr ⟨2, ![n, m]⟩) (x : sl.Idx → EReal) (y : sr.Idx → EReal)
    {a : Fin sl.rank} (hc : d.lhsContracting = [a]) (hK : sl.size a = K) (f g : ℕ → ℕ → ℝ)
    (hx : ∀ (j : (⟨2, ![n, m]⟩ : Shape).Idx) (k : Fin K), x (d.lhsIdx j (d.contrIdx₁ hc hK k)) = ((f (j 0).val k.val : ℝ) : EReal))
    (hy : ∀ (j : (⟨2, ![n, m]⟩ : Shape).Idx) (k : Fin K), y (d.rhsIdx j (d.contrIdx₁ hc hK k)) = ((g k.val (j 1).val : ℝ) : EReal)) :
    Ideal.matmul d x y (arr fun _ _ => (0 : ℝ)) = arr fun r c => ∑ k ∈ Finset.range K, f r k * g k c := by
  funext j
  rw [Ideal.matmul_apply₁ d hc hK]
  show ((0 : ℝ) : EReal) + _ = ((∑ k ∈ Finset.range K, f (j 0).val k * g k (j 1).val : ℝ) : EReal)
  rw [EReal.coe_zero, zero_add, Finset.sum_range, coe_sum]
  refine Finset.sum_congr rfl fun k _ => ?_
  rw [EReal.coe_mul, ← hx j k, ← hy j k]
  rfl

/-- Rows of `f` times columns of `g`, over `K` positions. -/
def nn (K : ℕ) (f g : ℕ → ℕ → ℝ) (r c : ℕ) : ℝ := ∑ k ∈ Finset.range K, f r k * g k c

/-- Rows of `f` times rows of `g`. -/
def nt (K : ℕ) (f g : ℕ → ℕ → ℝ) (r c : ℕ) : ℝ := ∑ k ∈ Finset.range K, f r k * g c k

/-- Columns of `f` times columns of `g`. -/
def tn (K : ℕ) (f g : ℕ → ℕ → ℝ) (r c : ℕ) : ℝ := ∑ k ∈ Finset.range K, f k r * g k c

end Products

/-- The logarithm of the logistic function, as the kernel spells it. -/
def lbf (x : ℝ) : ℝ := min x 0 - Real.log (1 + Real.exp (0 - |x|))

theorem lbf_fold (x : ℝ) : min x 0 - Real.log (1 + Real.exp (0 - |x|)) = lbf x := rfl

theorem nn_zero (K : ℕ) (g : ℕ → ℕ → ℝ) (r c : ℕ) : nn K (fun _ _ => 0) g r c = 0 := by
  simp [nn]

end Cert.RealArr

end
-- ==== Proof.KernelDots.lean ====
/-
  The matrix products of the kernel's body, when floats are extended reals and the operands are arrays of reals:
  each is the array of the sums over the contracted axis.
-/
module

public import proofs.«01_k».proof.Proof.Gen.KernelIdeal
public import proofs.«01_k».proof.Proof.RealArr

@[expose] public section

noncomputable section

namespace Cert.KernelDots

open Idealize.ShloMosaic Cert.KernelIdeal Cert.KernelIdeal.Gen Cert.RealArr

variable {f g : ℕ → ℕ → ℝ} {φ₁ φ₂ : FTy}

theorem score2 (prec : Option ContractPrecision) : matmul (F := Ideal) (φ₁ := φ₁) (φ₂ := φ₂) dot_S256x128_S512x128_S256x512_1_1_0_0_n_n prec (arr f) (arr g) (arr fun _ _ => (0 : ℝ))
    = arr fun r c => nt 128 f g r c := by
  exact matmul_arr_of dot_S256x128_S512x128_S256x512_1_1_0_0_n_n (arr f) (arr g) rfl rfl f (fun k c => g c k)
    (fun _ _ => rfl) (fun _ _ => rfl)

theorem score1 (prec : Option ContractPrecision) : matmul (F := Ideal) (φ₁ := φ₁) (φ₂ := φ₂) dot_S256x128_S256x128_S256x256_1_1_0_0_n_n prec (arr f) (arr g) (arr fun _ _ => (0 : ℝ))
    = arr fun r c => nt 128 f g r c := by
  exact matmul_arr_of dot_S256x128_S256x128_S256x256_1_1_0_0_n_n (arr f) (arr g) rfl rfl f (fun k c => g c k)
    (fun _ _ => rfl) (fun _ _ => rfl)

theorem prefixes (prec : Option ContractPrecision) : matmul (F := Ideal) (φ₁ := φ₁) (φ₂ := φ₂) dot_S256x256_S256x256_S256x256_1_0_0_1_n_n prec (arr f) (arr g) (arr fun _ _ => (0 : ℝ))
    = arr fun r c => nn 256 f g r c := by
  exact matmul_arr_of dot_S256x256_S256x256_S256x256_1_0_0_1_n_n (arr f) (arr g) rfl rfl f g
    (fun _ _ => rfl) (fun _ _ => rfl)

theorem rows2 (prec : Option ContractPrecision) : matmul (F := Ideal) (φ₁ := φ₁) (φ₂ := φ₂) dot_S256x512_S256x128_S512x128_0_0_1_1_n_n prec (arr f) (arr g) (arr fun _ _ => (0 : ℝ))
    = arr fun r c => tn 256 f g r c := by
  exact matmul_arr_of dot_S256x512_S256x128_S512x128_0_0_1_1_n_n (arr f) (arr g) rfl rfl (fun r k => f k r) g
    (fun _ _ => rfl) (fun _ _ => rfl)

theorem rows1 (prec : Option ContractPrecision) : matmul (F := Ideal) (φ₁ := φ₁) (φ₂ := φ₂) dot_S256x256_S256x128_S256x128_0_0_1_1_n_n prec (arr f) (arr g) (arr fun _ _ => (0 : ℝ))
    = arr fun r c => tn 256 f g r c := by
  exact matmul_arr_of dot_S256x256_S256x128_S256x128_0_0_1_1_n_n (arr f) (arr g) rfl rfl (fun r k => f k r) g
    (fun _ _ => rfl) (fun _ _ => rfl)

theorem cols2 (prec : Option ContractPrecision) : matmul (F := Ideal) (φ₁ := φ₁) (φ₂ := φ₂) dot_S256x512_S512x128_S256x128_1_0_0_1_n_n prec (arr f) (arr g) (arr fun _ _ => (0 : ℝ))
    = arr fun r c => nn 512 f g r c := by
  exact matmul_arr_of dot_S256x512_S512x128_S256x128_1_0_0_1_n_n (arr f) (arr g) rfl rfl f g
    (fun _ _ => rfl) (fun _ _ => rfl)

theorem cols1 (prec : Option ContractPrecision) : matmul (F := Ideal) (φ₁ := φ₁) (φ₂ := φ₂) dot_S256x256_S256x128_S256x128_1_0_0_1_n_n prec (arr f) (arr g) (arr fun _ _ => (0 : ℝ))
    = arr fun r c => nn 256 f g r c := by
  exact matmul_arr_of dot_S256x256_S256x128_S256x128_1_0_0_1_n_n (arr f) (arr g) rfl rfl f g
    (fun _ _ => rfl) (fun _ _ => rfl)

/-- The sums of the rows of a block of 64 rows, as a column. -/
theorem rowSums (l : List (Fin S64x256.rank)) (hl : l = [1]) (h : S64x256.Reduces l S64) (h' : S64.ShapeCasts S64x1) :
    shapeCast S64x1 (FloatOps.reduceAdd (F := Ideal) (φ := .f32) l h (arr f : FVec Ideal S64x256 .f32)) h'
      = arr fun r _ => ∑ c ∈ Finset.range 256, f r c := by
  subst hl
  exact rowSum_arr 0x00000000#32 h (.inl rfl) rfl h'

/-- A column of 64 rows, copied along them. -/
theorem copies (h : S64x1.Broadcasts S64x256) :
    broadcastTo S64x256 (arr f : S64x1.Idx → EReal) h = arr fun r _ => f r 0 :=
  broadcastTo_arr (by decide) h

end Cert.KernelDots

end
-- ==== Proof.StickMath.lean ====
/-
  THE GRADIENT OF STICK-BREAKING ATTENTION, over the reals. For one head, `Q` holds the scaled queries, `K` the keys,
  `V` the values, `D` the gradient of the output and `T t` the sum of row `t`'s remainders; rows and columns are
  naturals. The functions below say what the gradient's scores are, entry by entry; the theorems say that a block of
  256 columns, computed from the sums left of it, extends them by itself.
-/
module

public import proofs.«01_k».proof.Proof.RealArr

@[expose] public section

noncomputable section

namespace Cert.Stick

open Cert.RealArr
open scoped BigOperators
open Finset (range)

variable (Q K V D : ℕ → ℕ → ℝ) (T : ℕ → ℝ)

/-- The score of query `t` and key `s`. -/
def z (t s : ℕ) : ℝ := nt 128 Q K t s

/-- The logarithm of what is left of the stick after key `s`, for a key before the query. -/
def ell (t s : ℕ) : ℝ := if s < t then lbf (z Q K t s) - z Q K t s else 0

/-- The sum of `ell` over the keys before `s`. -/
def ellSum (t s : ℕ) : ℝ := ∑ s' ∈ range s, ell Q K t s'

/-- The attention weight. -/
def wgt (t s : ℕ) : ℝ := if s < t then Real.exp (lbf (z Q K t s) + (T t - ellSum Q K t (s + 1))) else 0

/-- The gradient of the weight, times the weight. -/
def grad (t s : ℕ) : ℝ := wgt Q K T t s * nt 128 D V t s

/-- The sum of `grad` over the keys before `s`. -/
def gradSum (t s : ℕ) : ℝ := ∑ s' ∈ range s, grad Q K V D T t s'

/-- The gradient of the score. -/
def dz (t s : ℕ) : ℝ :=
  if s < t then grad Q K V D T t s * (1 - Real.exp (lbf (z Q K t s))) - gradSum Q K V D T t s * Real.exp (lbf (z Q K t s))
  else 0

/-- The gradient of a query, before its scale, from the keys before `s`. -/
def dq (s t c : ℕ) : ℝ := ∑ s' ∈ range s, dz Q K V D T t s' * K s' c

/-- The gradient of a key from the queries before `t`. -/
def dk (t s c : ℕ) : ℝ := ∑ t' ∈ range t, dz Q K V D T t' s * Q t' c

/-- The gradient of a value from the queries before `t`. -/
def dv (t s c : ℕ) : ℝ := ∑ t' ∈ range t, wgt Q K T t' s * D t' c

/-! ### One block of 256 columns, from its own scores and the sums left of it -/

/-- The ones on and above the diagonal. -/
def incl (r c : ℕ) : ℝ := if r ≤ c then 1 else 0

/-- The ones above the diagonal. -/
def excl (r c : ℕ) : ℝ := if r < c then 1 else 0

theorem nn_incl (f : ℕ → ℕ → ℝ) (r c : ℕ) (hc : c < 256) : nn 256 f incl r c = ∑ k ∈ range (c + 1), f r k := by
  unfold nn incl
  rw [← Finset.sum_subset (Finset.range_subset_range.2 (show c + 1 ≤ 256 by omega))]
  · refine Finset.sum_congr rfl fun k hk => ?_
    rw [Finset.mem_range] at hk
    rw [if_pos (by omega), mul_one]
  · intro k _ hk
    rw [Finset.mem_range] at hk
    rw [if_neg (by omega), mul_zero]

theorem nn_excl (f : ℕ → ℕ → ℝ) (r c : ℕ) (hc : c < 256) : nn 256 f excl r c = ∑ k ∈ range c, f r k := by
  unfold nn excl
  rw [← Finset.sum_subset (Finset.range_subset_range.2 (show c ≤ 256 by omega))]
  · refine Finset.sum_congr rfl fun k hk => ?_
    rw [Finset.mem_range] at hk
    rw [if_pos (by omega), mul_one]
  · intro k _ hk
    rw [Finset.mem_range] at hk
    rw [if_neg (by omega), mul_zero]

/-- What a block computes: the remainders. -/
def bEll (p : ℕ → ℕ → Bool) (x : ℕ → ℕ → ℝ) (r c : ℕ) : ℝ := if p r c = true then lbf (x r c) - x r c else 0

/-- What a block computes: the weights. -/
def bWgt (p : ℕ → ℕ → Bool) (x IN T CP : ℕ → ℕ → ℝ) (r c : ℕ) : ℝ :=
  if p r c = true then Real.exp (lbf (x r c) + (T r 0 - (CP r 0 + nn 256 (bEll p x) IN r c))) else 0

/-- What a block computes: the weights times the gradients of the weights. -/
def bGrad (p : ℕ → ℕ → Bool) (x y IN T CP : ℕ → ℕ → ℝ) (r c : ℕ) : ℝ := bWgt p x IN T CP r c * y r c

/-- What a block computes: the gradients of the scores. -/
def bDz (p : ℕ → ℕ → Bool) (x y IN EX T CP CG : ℕ → ℕ → ℝ) (r c : ℕ) : ℝ :=
  if p r c = true then bGrad p x y IN T CP r c * (1 - Real.exp (lbf (x r c)))
    - (CG r 0 + nn 256 (bGrad p x y IN T CP) EX r c) * Real.exp (lbf (x r c)) else 0

section Block

variable {Q K V D T} {a b : ℕ} {p : ℕ → ℕ → Bool} {x y T' CP CG : ℕ → ℕ → ℝ}

/-- The block's scores, products and mask are those of rows from `a` and columns from `b`. -/
structure Block (Q K V D : ℕ → ℕ → ℝ) (a b : ℕ) (p : ℕ → ℕ → Bool) (x y : ℕ → ℕ → ℝ) : Prop where
  mask : ∀ r < 256, ∀ c < 256, (p r c = true ↔ b + c < a + r)
  score : ∀ r < 256, ∀ c < 256, x r c = z Q K (a + r) (b + c)
  prod : ∀ r < 256, ∀ c < 256, y r c = nt 128 D V (a + r) (b + c)

theorem bEll_eq (B : Block Q K V D a b p x y) {r c : ℕ} (hr : r < 256) (hc : c < 256) :
    bEll p x r c = ell Q K (a + r) (b + c) := by
  unfold bEll ell
  rw [B.score r hr c hc]
  exact if_congr (B.mask r hr c hc) rfl rfl

theorem ellSum_add (B : Block Q K V D a b p x y) {r c : ℕ} (hr : r < 256) (hc : c ≤ 256) :
    ellSum Q K (a + r) b + ∑ k ∈ range c, bEll p x r k = ellSum Q K (a + r) (b + c) := by
  unfold ellSum
  rw [Finset.sum_range_add]
  congr 1
  refine Finset.sum_congr rfl fun k hk => ?_
  rw [Finset.mem_range] at hk
  exact bEll_eq B hr (by omega)

theorem bWgt_eq (B : Block Q K V D a b p x y) (hT : ∀ r < 256, T' r 0 = T (a + r))
    (hP : ∀ r < 256, CP r 0 = ellSum Q K (a + r) b) {r c : ℕ} (hr : r < 256) (hc : c < 256) :
    bWgt p x incl T' CP r c = wgt Q K T (a + r) (b + c) := by
  unfold bWgt wgt
  rw [nn_incl _ _ _ hc, hP r hr, hT r hr, ellSum_add B hr (by omega), B.score r hr c hc]
  exact if_congr (B.mask r hr c hc) rfl rfl

theorem bGrad_eq (B : Block Q K V D a b p x y) (hT : ∀ r < 256, T' r 0 = T (a + r))
    (hP : ∀ r < 256, CP r 0 = ellSum Q K (a + r) b) {r c : ℕ} (hr : r < 256) (hc : c < 256) :
    bGrad p x y incl T' CP r c = grad Q K V D T (a + r) (b + c) := by
  unfold bGrad grad
  rw [bWgt_eq B hT hP hr hc, B.prod r hr c hc]

theorem gradSum_add (B : Block Q K V D a b p x y) (hT : ∀ r < 256, T' r 0 = T (a + r))
    (hP : ∀ r < 256, CP r 0 = ellSum Q K (a + r) b) {r c : ℕ} (hr : r < 256) (hc : c ≤ 256) :
    gradSum Q K V D T (a + r) b + ∑ k ∈ range c, bGrad p x y incl T' CP r k = gradSum Q K V D T (a + r) (b + c) := by
  unfold gradSum
  rw [Finset.sum_range_add]
  congr 1
  refine Finset.sum_congr rfl fun k hk => ?_
  rw [Finset.mem_range] at hk
  exact bGrad_eq B hT hP hr (by omega)

theorem bDz_eq (B : Block Q K V D a b p x y) (hT : ∀ r < 256, T' r 0 = T (a + r))
    (hP : ∀ r < 256, CP r 0 = ellSum Q K (a + r) b) (hG : ∀ r < 256, CG r 0 = gradSum Q K V D T (a + r) b)
    {r c : ℕ} (hr : r < 256) (hc : c < 256) :
    bDz p x y incl excl T' CP CG r c = dz Q K V D T (a + r) (b + c) := by
  unfold bDz dz
  rw [nn_excl _ _ _ hc, hG r hr, gradSum_add B hT hP hr (by omega), bGrad_eq B hT hP hr hc, B.score r hr c hc]
  exact if_congr (B.mask r hr c hc) rfl rfl

end Block

/-! ### Two blocks side by side, of which the second continues the first -/

/-- The mask that leaves everything. -/
def all (_ _ : ℕ) : Bool := true

/-- The second block's columns. -/
def second (x : ℕ → ℕ → ℝ) (r c : ℕ) : ℝ := x r (256 + c)

/-- The remainders' sums after the first block. -/
def midCP (x CP : ℕ → ℕ → ℝ) (r c : ℕ) : ℝ := CP r c + ∑ k ∈ range 256, bEll all x r k

/-- The sums of the weights' gradients after the first block. -/
def midCG (x y IN T CP CG : ℕ → ℕ → ℝ) (r c : ℕ) : ℝ := CG r c + ∑ k ∈ range 256, bGrad all x y IN T CP r k

/-- The weights of two blocks. -/
def pairWgt (p : ℕ → ℕ → Bool) (x IN T CP : ℕ → ℕ → ℝ) (r c : ℕ) : ℝ :=
  if c < 256 then bWgt all x IN T CP r c else bWgt p (second x) IN T (midCP x CP) r (c - 256)

/-- The gradients of the scores of two blocks. -/
def pairDz (p : ℕ → ℕ → Bool) (x y IN EX T CP CG : ℕ → ℕ → ℝ) (r c : ℕ) : ℝ :=
  if c < 256 then bDz all x y IN EX T CP CG r c
  else bDz p (second x) (second y) IN EX T (midCP x CP) (midCG x y IN T CP CG) r (c - 256)

/-- The remainders' sums after two blocks. -/
def endCP (p : ℕ → ℕ → Bool) (x CP : ℕ → ℕ → ℝ) (r c : ℕ) : ℝ := midCP x CP r c + ∑ k ∈ range 256, bEll p (second x) r k

/-- The sums of the weights' gradients after two blocks. -/
def endCG (p : ℕ → ℕ → Bool) (x y IN T CP CG : ℕ → ℕ → ℝ) (r c : ℕ) : ℝ :=
  midCG x y IN T CP CG r c + ∑ k ∈ range 256, bGrad p (second x) (second y) IN T (midCP x CP) r k

theorem all_ite (r c : ℕ) (x y : ℝ) : (if all r c = true then x else y) = x := if_pos rfl

theorem bEll_def (p : ℕ → ℕ → Bool) (x : ℕ → ℕ → ℝ) : bEll p x = fun r c => if p r c = true then lbf (x r c) - x r c else 0 := rfl

theorem bWgt_def (p : ℕ → ℕ → Bool) (x IN T CP : ℕ → ℕ → ℝ) : bWgt p x IN T CP = fun r c =>
    if p r c = true then Real.exp (lbf (x r c) + (T r 0 - (CP r 0 + nn 256 (bEll p x) IN r c))) else 0 := rfl

theorem bGrad_def (p : ℕ → ℕ → Bool) (x y IN T CP : ℕ → ℕ → ℝ) :
    bGrad p x y IN T CP = fun r c => bWgt p x IN T CP r c * y r c := rfl

theorem bDz_def (p : ℕ → ℕ → Bool) (x y IN EX T CP CG : ℕ → ℕ → ℝ) : bDz p x y IN EX T CP CG = fun r c =>
    if p r c = true then bGrad p x y IN T CP r c * (1 - Real.exp (lbf (x r c)))
    - (CG r 0 + nn 256 (bGrad p x y IN T CP) EX r c) * Real.exp (lbf (x r c)) else 0 := rfl

theorem second_def (x : ℕ → ℕ → ℝ) : second x = fun r c => x r (256 + c) := rfl

theorem midCP_def (x CP : ℕ → ℕ → ℝ) : midCP x CP = fun r c => CP r c + ∑ k ∈ range 256, bEll all x r k := rfl

theorem midCG_def (x y IN T CP CG : ℕ → ℕ → ℝ) :
    midCG x y IN T CP CG = fun r c => CG r c + ∑ k ∈ range 256, bGrad all x y IN T CP r k := rfl

theorem endCP_def (p : ℕ → ℕ → Bool) (x CP : ℕ → ℕ → ℝ) :
    endCP p x CP = fun r c => midCP x CP r c + ∑ k ∈ range 256, bEll p (second x) r k := rfl

theorem endCG_def (p : ℕ → ℕ → Bool) (x y IN T CP CG : ℕ → ℕ → ℝ) : endCG p x y IN T CP CG = fun r c =>
    midCG x y IN T CP CG r c + ∑ k ∈ range 256, bGrad p (second x) (second y) IN T (midCP x CP) r k := rfl

theorem pairWgt_def (p : ℕ → ℕ → Bool) (x IN T CP : ℕ → ℕ → ℝ) : pairWgt p x IN T CP = fun r c =>
    if c < 256 then bWgt all x IN T CP r c else bWgt p (second x) IN T (midCP x CP) r (c - 256) := rfl

theorem pairDz_def (p : ℕ → ℕ → Bool) (x y IN EX T CP CG : ℕ → ℕ → ℝ) : pairDz p x y IN EX T CP CG = fun r c =>
    if c < 256 then bDz all x y IN EX T CP CG r c
    else bDz p (second x) (second y) IN EX T (midCP x CP) (midCG x y IN T CP CG) r (c - 256) := rfl

section Pair

variable {Q K V D T} {a b : ℕ} {p : ℕ → ℕ → Bool} {x y T' CP CG : ℕ → ℕ → ℝ}
  (B : Block Q K V D a b all x y) (B' : Block Q K V D a (b + 256) p (second x) (second y))
  (hT : ∀ r < 256, T' r 0 = T (a + r)) (hP : ∀ r < 256, CP r 0 = ellSum Q K (a + r) b)

include B hP in
theorem midCP_eq {r : ℕ} (hr : r < 256) : midCP x CP r 0 = ellSum Q K (a + r) (b + 256) := by
  unfold midCP
  rw [hP r hr, ellSum_add B hr le_rfl]

include B hT hP in
theorem midCG_eq (hG : ∀ r < 256, CG r 0 = gradSum Q K V D T (a + r) b) {r : ℕ} (hr : r < 256) :
    midCG x y incl T' CP CG r 0 = gradSum Q K V D T (a + r) (b + 256) := by
  unfold midCG
  rw [hG r hr, gradSum_add B hT hP hr le_rfl]

include B B' hP in
theorem endCP_eq {r : ℕ} (hr : r < 256) : endCP p x CP r 0 = ellSum Q K (a + r) (b + 512) := by
  unfold endCP
  rw [midCP_eq B hP hr, ellSum_add B' hr le_rfl]

include B B' hT hP in
theorem endCG_eq (hG : ∀ r < 256, CG r 0 = gradSum Q K V D T (a + r) b) {r : ℕ} (hr : r < 256) :
    endCG p x y incl T' CP CG r 0 = gradSum Q K V D T (a + r) (b + 512) := by
  unfold endCG
  rw [midCG_eq B hT hP hG hr, gradSum_add B' hT (fun r hr => midCP_eq B hP hr) hr le_rfl]

include B B' hT hP in
theorem pairWgt_eq {r c : ℕ} (hr : r < 256) (hc : c < 512) : pairWgt p x incl T' CP r c = wgt Q K T (a + r) (b + c) := by
  unfold pairWgt
  split_ifs with h
  · exact bWgt_eq B hT hP hr h
  · rw [bWgt_eq B' hT (fun r hr => midCP_eq B hP hr) hr (by omega)]
    congr 1; omega

include B B' hT hP in
theorem pairDz_eq (hG : ∀ r < 256, CG r 0 = gradSum Q K V D T (a + r) b) {r c : ℕ} (hr : r < 256) (hc : c < 512) :
    pairDz p x y incl excl T' CP CG r c = dz Q K V D T (a + r) (b + c) := by
  unfold pairDz
  split_ifs with h
  · exact bDz_eq B hT hP hG hr h
  · rw [bDz_eq B' hT (fun r hr => midCP_eq B hP hr) (fun r hr => midCG_eq B hT hP hG hr) hr (by omega)]
    congr 1; omega

end Pair

end Cert.Stick

end
-- ==== Proof.TripDiag.lean ====
/-
  ONE TRIP, the one block on the diagonal: what the trip hands on and what it stores, as real arrays. The trip's operands
  are named by the real functions they hold; every operation of the trip is read by its equation on real arrays
  (RealArr, KernelDots), and what comes out is the formula of StickMath.
-/
module

public import proofs.«01_k».proof.Proof.Gen.KernelIdeal.Value
public import proofs.«01_k».proof.Proof.KernelDots
public import proofs.«01_k».proof.Proof.StickMath

@[expose] public section

set_option maxRecDepth 8192
set_option maxHeartbeats 4000000

noncomputable section

namespace Cert.TripDiag

open Idealize.ShloMosaic Idealize.SL.Sem Cert.KernelIdeal Cert.KernelIdeal.Gen Cert.RealArr Cert.Stick

variable {Q K V D T CP CG DQ IN EX : ℕ → ℕ → ℝ} {p : ℕ → ℕ → Bool}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t5_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The remainders' sums the trip hands on. -/
theorem sums
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off5 i) S256x128.size hb).toLoadRect X_arg13 = arr K)
    (h14 : ∀ hb, View.readAt (Elt Ideal) arg14.view (Rect.unit (s := S4096x128) (k0_off5 i) S256x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).1 = arr (fun r c => CP r c + ∑ j ∈ Finset.range 256, bEll p (nt 128 Q K) r j) := by
  unfold trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6,
      trip_k0_t5.sl.r_7, trip_k0_t5.sl.r_8, trip_k0_t5.sl.r_9, trip_k0_t5.sl.r_10, trip_k0_t5.sl.r_11, trip_k0_t5.sl.r_12, trip_k0_t5.sl.r_13,
      trip_k0_t5.sl.r_14, trip_k0_t5.sl.r_15, trip_k0_t5.sl.r_16, trip_k0_t5.sl.r_17, trip_k0_t5.sl.r_18, trip_k0_t5.sl.r_19, trip_k0_t5.sl.r_20,
      trip_k0_t5.sl.r_21, trip_k0_t5.sl.r_22, trip_k0_t5.sl.r_23, trip_k0_t5.sl.r_24, trip_k0_t5.sl.r_25, trip_k0_t5.sl.r_26, trip_k0_t5.sl.r_27,
      trip_k0_t5.sl.r_28, trip_k0_t5.sl.r_29, trip_k0_t5.sl.r_30, trip_k0_t5.sl.r_31, trip_k0_t5.sl.r_32, trip_k0_t5.sl.r_33, trip_k0_t5.sl.r_34,
      trip_k0_t5.sl.r_35, trip_k0_t5.sl.r_36, trip_k0_t5.sl.r_37, trip_k0_t5.sl.r_38, trip_k0_t5.sl.r_39, trip_k0_t5.sl.r_40, trip_k0_t5.sl.cst_56,
      k0_pay563, k0_pay564, k0_pay565, k0_pay566, k0_pay567, k0_pay568, k0_pay569, k0_pay570, k0_pay571, k0_pay572, k0_pay573, k0_pay574, k0_pay575,
      k0_pay576, k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600, k0_pay601,
      k0_pay602, k0_pay603, k0_pay604, k0_pay605, k0_pay606, k0_pay607, k0_pay608, k0_pay609, k0_pay610, k0_pay611, k0_pay612, k0_pay613, k0_pay614,
      k0_pay615, k0_pay616, k0_pay617, k0_pay618, k0_pay699, k0_pay700, k0_pay701,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The sums of the weights' gradients the trip hands on. -/
theorem grads
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off5 i) S256x128.size hb).toLoadRect X_arg13 = arr K)
    (h14 : ∀ hb, View.readAt (Elt Ideal) arg14.view (Rect.unit (s := S4096x128) (k0_off5 i) S256x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.1 = arr (fun r c => CG r c + ∑ j ∈ Finset.range 256, bGrad p (nt 128 Q K) (nt 128 D V) IN T CP r j) := by
  unfold trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6,
      trip_k0_t5.sl.r_7, trip_k0_t5.sl.r_8, trip_k0_t5.sl.r_9, trip_k0_t5.sl.r_10, trip_k0_t5.sl.r_11, trip_k0_t5.sl.r_12, trip_k0_t5.sl.r_13,
      trip_k0_t5.sl.r_14, trip_k0_t5.sl.r_15, trip_k0_t5.sl.r_16, trip_k0_t5.sl.r_17, trip_k0_t5.sl.r_18, trip_k0_t5.sl.r_19, trip_k0_t5.sl.r_20,
      trip_k0_t5.sl.r_21, trip_k0_t5.sl.r_22, trip_k0_t5.sl.r_23, trip_k0_t5.sl.r_24, trip_k0_t5.sl.r_25, trip_k0_t5.sl.r_26, trip_k0_t5.sl.r_27,
      trip_k0_t5.sl.r_28, trip_k0_t5.sl.r_29, trip_k0_t5.sl.r_30, trip_k0_t5.sl.r_31, trip_k0_t5.sl.r_32, trip_k0_t5.sl.r_33, trip_k0_t5.sl.r_34,
      trip_k0_t5.sl.r_35, trip_k0_t5.sl.r_36, trip_k0_t5.sl.r_37, trip_k0_t5.sl.r_38, trip_k0_t5.sl.r_39, trip_k0_t5.sl.r_40, trip_k0_t5.sl.cst_56,
      k0_pay563, k0_pay564, k0_pay565, k0_pay566, k0_pay567, k0_pay568, k0_pay569, k0_pay570, k0_pay571, k0_pay572, k0_pay573, k0_pay574, k0_pay575,
      k0_pay576, k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600, k0_pay601,
      k0_pay602, k0_pay603, k0_pay604, k0_pay605, k0_pay606, k0_pay607, k0_pay608, k0_pay609, k0_pay610, k0_pay611, k0_pay612, k0_pay613, k0_pay614,
      k0_pay615, k0_pay616, k0_pay617, k0_pay618, k0_pay699, k0_pay700, k0_pay701,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The queries' gradient the trip hands on. -/
theorem queries
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off5 i) S256x128.size hb).toLoadRect X_arg13 = arr K)
    (h14 : ∀ hb, View.readAt (Elt Ideal) arg14.view (Rect.unit (s := S4096x128) (k0_off5 i) S256x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.2 = arr (fun r c => DQ r c + nn 256 (bDz p (nt 128 Q K) (nt 128 D V) IN EX T CP CG) K r c) := by
  unfold trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6,
      trip_k0_t5.sl.r_7, trip_k0_t5.sl.r_8, trip_k0_t5.sl.r_9, trip_k0_t5.sl.r_10, trip_k0_t5.sl.r_11, trip_k0_t5.sl.r_12, trip_k0_t5.sl.r_13,
      trip_k0_t5.sl.r_14, trip_k0_t5.sl.r_15, trip_k0_t5.sl.r_16, trip_k0_t5.sl.r_17, trip_k0_t5.sl.r_18, trip_k0_t5.sl.r_19, trip_k0_t5.sl.r_20,
      trip_k0_t5.sl.r_21, trip_k0_t5.sl.r_22, trip_k0_t5.sl.r_23, trip_k0_t5.sl.r_24, trip_k0_t5.sl.r_25, trip_k0_t5.sl.r_26, trip_k0_t5.sl.r_27,
      trip_k0_t5.sl.r_28, trip_k0_t5.sl.r_29, trip_k0_t5.sl.r_30, trip_k0_t5.sl.r_31, trip_k0_t5.sl.r_32, trip_k0_t5.sl.r_33, trip_k0_t5.sl.r_34,
      trip_k0_t5.sl.r_35, trip_k0_t5.sl.r_36, trip_k0_t5.sl.r_37, trip_k0_t5.sl.r_38, trip_k0_t5.sl.r_39, trip_k0_t5.sl.r_40, trip_k0_t5.sl.cst_56,
      k0_pay563, k0_pay564, k0_pay565, k0_pay566, k0_pay567, k0_pay568, k0_pay569, k0_pay570, k0_pay571, k0_pay572, k0_pay573, k0_pay574, k0_pay575,
      k0_pay576, k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600, k0_pay601,
      k0_pay602, k0_pay603, k0_pay604, k0_pay605, k0_pay606, k0_pay607, k0_pay608, k0_pay609, k0_pay610, k0_pay611, k0_pay612, k0_pay613, k0_pay614,
      k0_pay615, k0_pay616, k0_pay617, k0_pay618, k0_pay699, k0_pay700, k0_pay701,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the keys. -/
theorem keys
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off5 i) S256x128.size hb).toLoadRect X_arg13 = arr K)
    (h14 : ∀ hb, View.readAt (Elt Ideal) arg14.view (Rect.unit (s := S4096x128) (k0_off5 i) S256x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off5 i) a + S256x128.size a ≤ S4096x128.size a)
    (hB : ∀ hb, View.readAt (Elt Ideal) arg11.view (Rect.unit (s := S4096x128) (k0_off5 i) S256x128.size hb).toLoadRect f_arg11 = arr B)
    : (trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12
      = [⟨Rect.unit (s := S4096x128) (k0_off5 i) S256x128.size hb, (arr (fun r c => B r c + tn 256 (bDz p (nt 128 Q K) (nt 128 D V) IN EX T CP CG) Q r c) : S256x128.Idx → EReal)⟩] := by
  unfold trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6,
      trip_k0_t5.sl.r_7, trip_k0_t5.sl.r_8, trip_k0_t5.sl.r_9, trip_k0_t5.sl.r_10, trip_k0_t5.sl.r_11, trip_k0_t5.sl.r_12, trip_k0_t5.sl.r_13,
      trip_k0_t5.sl.r_14, trip_k0_t5.sl.r_15, trip_k0_t5.sl.r_16, trip_k0_t5.sl.r_17, trip_k0_t5.sl.r_18, trip_k0_t5.sl.r_19, trip_k0_t5.sl.r_20,
      trip_k0_t5.sl.r_21, trip_k0_t5.sl.r_22, trip_k0_t5.sl.r_23, trip_k0_t5.sl.r_24, trip_k0_t5.sl.r_25, trip_k0_t5.sl.r_26, trip_k0_t5.sl.r_27,
      trip_k0_t5.sl.r_28, trip_k0_t5.sl.r_29, trip_k0_t5.sl.r_30, trip_k0_t5.sl.r_31, trip_k0_t5.sl.r_32, trip_k0_t5.sl.r_33, trip_k0_t5.sl.r_34,
      trip_k0_t5.sl.r_35, trip_k0_t5.sl.r_36, trip_k0_t5.sl.r_37, trip_k0_t5.sl.r_38, trip_k0_t5.sl.r_39, trip_k0_t5.sl.r_40, trip_k0_t5.sl.cst_56,
      k0_pay563, k0_pay564, k0_pay565, k0_pay566, k0_pay567, k0_pay568, k0_pay569, k0_pay570, k0_pay571, k0_pay572, k0_pay573, k0_pay574, k0_pay575,
      k0_pay576, k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600, k0_pay601,
      k0_pay602, k0_pay603, k0_pay604, k0_pay605, k0_pay606, k0_pay607, k0_pay608, k0_pay609, k0_pay610, k0_pay611, k0_pay612, k0_pay613, k0_pay614,
      k0_pay615, k0_pay616, k0_pay617, k0_pay618, k0_pay699, k0_pay700, k0_pay701,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the values. -/
theorem values
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off5 i) S256x128.size hb).toLoadRect X_arg13 = arr K)
    (h14 : ∀ hb, View.readAt (Elt Ideal) arg14.view (Rect.unit (s := S4096x128) (k0_off5 i) S256x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off5 i) a + S256x128.size a ≤ S4096x128.size a)
    (hB : ∀ hb, View.readAt (Elt Ideal) arg12.view (Rect.unit (s := S4096x128) (k0_off5 i) S256x128.size hb).toLoadRect f_arg12 = arr B)
    : (trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12
      = [⟨Rect.unit (s := S4096x128) (k0_off5 i) S256x128.size hb, (arr (fun r c => B r c + tn 256 (bWgt p (nt 128 Q K) IN T CP) D r c) : S256x128.Idx → EReal)⟩] := by
  unfold trip_k0_t5
  dsimp only
  simp only [trip_k0_t5.sl.r, trip_k0_t5.sl.r_1, trip_k0_t5.sl.r_2, trip_k0_t5.sl.r_3, trip_k0_t5.sl.r_4, trip_k0_t5.sl.r_5, trip_k0_t5.sl.r_6,
      trip_k0_t5.sl.r_7, trip_k0_t5.sl.r_8, trip_k0_t5.sl.r_9, trip_k0_t5.sl.r_10, trip_k0_t5.sl.r_11, trip_k0_t5.sl.r_12, trip_k0_t5.sl.r_13,
      trip_k0_t5.sl.r_14, trip_k0_t5.sl.r_15, trip_k0_t5.sl.r_16, trip_k0_t5.sl.r_17, trip_k0_t5.sl.r_18, trip_k0_t5.sl.r_19, trip_k0_t5.sl.r_20,
      trip_k0_t5.sl.r_21, trip_k0_t5.sl.r_22, trip_k0_t5.sl.r_23, trip_k0_t5.sl.r_24, trip_k0_t5.sl.r_25, trip_k0_t5.sl.r_26, trip_k0_t5.sl.r_27,
      trip_k0_t5.sl.r_28, trip_k0_t5.sl.r_29, trip_k0_t5.sl.r_30, trip_k0_t5.sl.r_31, trip_k0_t5.sl.r_32, trip_k0_t5.sl.r_33, trip_k0_t5.sl.r_34,
      trip_k0_t5.sl.r_35, trip_k0_t5.sl.r_36, trip_k0_t5.sl.r_37, trip_k0_t5.sl.r_38, trip_k0_t5.sl.r_39, trip_k0_t5.sl.r_40, trip_k0_t5.sl.cst_56,
      k0_pay563, k0_pay564, k0_pay565, k0_pay566, k0_pay567, k0_pay568, k0_pay569, k0_pay570, k0_pay571, k0_pay572, k0_pay573, k0_pay574, k0_pay575,
      k0_pay576, k0_pay577, k0_pay578, k0_pay579, k0_pay580, k0_pay581, k0_pay582, k0_pay583, k0_pay584, k0_pay585, k0_pay586, k0_pay587, k0_pay588,
      k0_pay589, k0_pay590, k0_pay591, k0_pay592, k0_pay593, k0_pay594, k0_pay595, k0_pay596, k0_pay597, k0_pay598, k0_pay599, k0_pay600, k0_pay601,
      k0_pay602, k0_pay603, k0_pay604, k0_pay605, k0_pay606, k0_pay607, k0_pay608, k0_pay609, k0_pay610, k0_pay611, k0_pay612, k0_pay613, k0_pay614,
      k0_pay615, k0_pay616, k0_pay617, k0_pay618, k0_pay699, k0_pay700, k0_pay701,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

end Cert.TripDiag

end
-- ==== Proof.Buffers.lean ====
/-
  BUFFERS OF REAL ROWS: what a load of some rows of a buffer reads, and what the buffer holds after a store of some
  rows, when the buffer holds an array of reals.
-/
module

public import proofs.«01_k».proof.Proof.RealArr
public import Idealize.ShloMosaic.Lib.VecWindow
public import Idealize.ShloMosaic.Lib.Exec

@[expose] public section

noncomputable section

namespace Cert.Buffers

open Idealize.ShloMosaic Idealize.SL.Sem Cert.RealArr

variable {sig : RefSig} {κ : Kind} {sp : Space} {n m N : ℕ} {e : EltTy}
  (v : View sig κ sp ⟨2, ![n, m]⟩ e) (f : v.ty.Contents (Elt Ideal))

/-- The array of a function of row and column. -/
def tab {α : Type*} {n m : ℕ} (f : ℕ → ℕ → α) : (⟨2, ![n, m]⟩ : Shape).Idx → α := fun i => f (i 0).val (i 1).val

/-- The load of `N` rows from row `b`. -/
theorem readAt_rows {B : ℕ → ℕ → Elt Ideal e} (hB : v.read (Elt Ideal) f = tab B) {off : Fin 2 → ℕ} {b : ℕ} (ho : off = ![b, 0])
    (hb : ∀ a, off a + (⟨2, ![N, m]⟩ : Shape).size a ≤ (⟨2, ![n, m]⟩ : Shape).size a) :
    v.readAt (Elt Ideal) (Rect.unit (s := ⟨2, ![n, m]⟩) off (⟨2, ![N, m]⟩ : Shape).size hb).toLoadRect f
      = tab fun r c => B (b + r) c := by
  subst ho
  funext y
  show v.read (Elt Ideal) f _ = _
  rw [hB]
  show B _ _ = B _ _
  congr 1
  · show b + 1 * (y 0).val = b + (y 0).val
    omega
  · show 0 + 1 * (y 1).val = (y 1).val
    omega

/-- The store of `N` rows from row `b`. -/
theorem read_writes_rows {B P : ℕ → ℕ → Elt Ideal e} (hB : v.read (Elt Ideal) f = tab B) {off : Fin 2 → ℕ} {b : ℕ} (ho : off = ![b, 0])
    (hb : ∀ a, off a + (⟨2, ![N, m]⟩ : Shape).size a ≤ (⟨2, ![n, m]⟩ : Shape).size a) :
    v.read (Elt Ideal) (v.writes (Elt Ideal) f [⟨Rect.unit (s := ⟨2, ![n, m]⟩) off (⟨2, ![N, m]⟩ : Shape).size hb,
        tab P⟩])
      = tab fun s c => if b ≤ s ∧ s < b + N then P (s - b) c else B s c := by
  rw [View.read_writes_cons_put v f hb _ [] ho, View.writes_nil, hB]
  funext y
  unfold VecWindow.put
  have h1 : (y 1).val < m := (y 1).isLt
  by_cases h : b ≤ (y 0).val ∧ (y 0).val < b + N
  · have h' : ∀ a, (![b, 0] : Fin 2 → ℕ) a ≤ (y a).val ∧ (y a).val < (![b, 0] : Fin 2 → ℕ) a + (⟨2, ![N, m]⟩ : Shape).size a := by
      intro a
      fin_cases a
      · exact h
      · exact ⟨Nat.zero_le _, by show (y 1).val < 0 + m; omega⟩
    rw [dif_pos h']
    show P _ _ = (if b ≤ (y 0).val ∧ (y 0).val < b + N then P ((y 0).val - b) (y 1).val else B (y 0).val (y 1).val)
    rw [if_pos h]
    congr 1
  · have h' : ¬ ∀ a, (![b, 0] : Fin 2 → ℕ) a ≤ (y a).val ∧ (y a).val < (![b, 0] : Fin 2 → ℕ) a + (⟨2, ![N, m]⟩ : Shape).size a :=
      fun H => h (H 0)
    rw [dif_neg h']
    show B _ _ = (if b ≤ (y 0).val ∧ (y 0).val < b + N then P ((y 0).val - b) (y 1).val else B (y 0).val (y 1).val)
    rw [if_neg h]

/-- The load of everything. -/
theorem readAt_all {B : ℕ → ℕ → Elt Ideal e} (hB : v.read (Elt Ideal) f = tab B)
    (hb : ∀ a, (![0, 0] : Fin 2 → ℕ) a + (⟨2, ![n, m]⟩ : Shape).size a ≤ (⟨2, ![n, m]⟩ : Shape).size a) :
    v.readAt (Elt Ideal) (Rect.unit (s := ⟨2, ![n, m]⟩) ![0, 0] (⟨2, ![n, m]⟩ : Shape).size hb).toLoadRect f
      = tab B := by
  rw [readAt_rows v f hB rfl hb]
  funext y
  show B (0 + _) _ = B _ _
  rw [Nat.zero_add]

end Cert.Buffers

end
-- ==== Proof.StickSteps.lean ====
/-
  ONE STEP OF THE GRADIENT. The point of the rows from `a` has dealt with the columns before `b`: `keysAt` and `valsAt`
  are what the gradients of the keys and of the values then are. A step over the next `W` columns, from the scores'
  gradients and the weights of these columns, leads to the columns before `b + W`.
-/
module

public import proofs.«01_k».proof.Proof.StickMath

@[expose] public section

noncomputable section

namespace Cert.Stick

open Cert.RealArr
open scoped BigOperators
open Finset (range)

variable (Q K V D : ℕ → ℕ → ℝ) (T : ℕ → ℝ)

/-- The gradient of the keys when the rows from `a` have dealt with the columns before `b`. -/
def keysAt (a b s c : ℕ) : ℝ := if s < b then dk Q K V D T (a + 256) s c else dk Q K V D T a s c

/-- The gradient of the values when the rows from `a` have dealt with the columns before `b`. -/
def valsAt (a b s c : ℕ) : ℝ := if s < b then dv Q K D T (a + 256) s c else dv Q K D T a s c

variable {Q K V D T} {a b W : ℕ} {Z : ℕ → ℕ → ℝ}

theorem dq_step (hZ : ∀ r < 256, ∀ c < W, Z r c = dz Q K V D T (a + r) (b + c)) {r : ℕ} (hr : r < 256) (c : ℕ) :
    dq Q K V D T b (a + r) c + nn W Z (fun r c => K (b + r) c) r c = dq Q K V D T (b + W) (a + r) c := by
  unfold dq nn
  rw [Finset.sum_range_add]
  congr 1
  refine Finset.sum_congr rfl fun k hk => ?_
  rw [Finset.mem_range] at hk
  rw [hZ r hr k hk]

theorem keys_step (hZ : ∀ r < 256, ∀ c < W, Z r c = dz Q K V D T (a + r) (b + c)) (s c : ℕ) :
    (if b ≤ s ∧ s < b + W then keysAt Q K V D T a b (b + (s - b)) c + tn 256 Z (fun r c => Q (a + r) c) (s - b) c
      else keysAt Q K V D T a b s c) = keysAt Q K V D T a (b + W) s c := by
  by_cases h : b ≤ s ∧ s < b + W
  · obtain ⟨h1, h2⟩ := h
    rw [if_pos ⟨h1, h2⟩]
    obtain ⟨j, rfl⟩ := Nat.exists_eq_add_of_le h1
    rw [Nat.add_sub_cancel_left]
    unfold keysAt
    rw [if_neg (by omega), if_pos h2]
    unfold dk tn
    rw [Finset.sum_range_add]
    congr 1
    refine Finset.sum_congr rfl fun k hk => ?_
    rw [Finset.mem_range] at hk
    rw [hZ k hk j (by omega)]
  · rw [if_neg h]
    unfold keysAt
    by_cases h1 : s < b
    · rw [if_pos h1, if_pos (by omega)]
    · rw [if_neg h1, if_neg (by omega)]

theorem vals_step (hZ : ∀ r < 256, ∀ c < W, Z r c = wgt Q K T (a + r) (b + c)) (s c : ℕ) :
    (if b ≤ s ∧ s < b + W then valsAt Q K D T a b (b + (s - b)) c + tn 256 Z (fun r c => D (a + r) c) (s - b) c
      else valsAt Q K D T a b s c) = valsAt Q K D T a (b + W) s c := by
  by_cases h : b ≤ s ∧ s < b + W
  · obtain ⟨h1, h2⟩ := h
    rw [if_pos ⟨h1, h2⟩]
    obtain ⟨j, rfl⟩ := Nat.exists_eq_add_of_le h1
    rw [Nat.add_sub_cancel_left]
    unfold valsAt
    rw [if_neg (by omega), if_pos h2]
    unfold dv tn
    rw [Finset.sum_range_add]
    congr 1
    refine Finset.sum_congr rfl fun k hk => ?_
    rw [Finset.mem_range] at hk
    rw [hZ k hk j (by omega)]
  · rw [if_neg h]
    unfold valsAt
    by_cases h1 : s < b
    · rw [if_pos h1, if_pos (by omega)]
    · rw [if_neg h1, if_neg (by omega)]

/-! ### What lies past the diagonal is zero -/

theorem dz_zero {t s : ℕ} (h : ¬ s < t) : dz Q K V D T t s = 0 := if_neg h

theorem wgt_zero {t s : ℕ} (h : ¬ s < t) : wgt Q K T t s = 0 := if_neg h

theorem dq_full {t n m : ℕ} (h : t ≤ n) (hm : n ≤ m) (c : ℕ) : dq Q K V D T n t c = dq Q K V D T m t c := by
  unfold dq
  refine Finset.sum_subset (Finset.range_subset_range.2 hm) fun k _ hk => ?_
  rw [Finset.mem_range] at hk
  rw [dz_zero (by omega), zero_mul]

theorem keysAt_full (s c : ℕ) : keysAt Q K V D T a (a + 256) s c = dk Q K V D T (a + 256) s c := by
  unfold keysAt
  by_cases h : s < a + 256
  · rw [if_pos h]
  · rw [if_neg h]
    unfold dk
    refine Finset.sum_subset (Finset.range_subset_range.2 (Nat.le_add_right _ _)) fun k hk _ => ?_
    rw [Finset.mem_range] at hk
    rw [dz_zero (by omega), zero_mul]

theorem valsAt_full (s c : ℕ) : valsAt Q K D T a (a + 256) s c = dv Q K D T (a + 256) s c := by
  unfold valsAt
  by_cases h : s < a + 256
  · rw [if_pos h]
  · rw [if_neg h]
    unfold dv
    refine Finset.sum_subset (Finset.range_subset_range.2 (Nat.le_add_right _ _)) fun k hk _ => ?_
    rw [Finset.mem_range] at hk
    rw [wgt_zero (by omega), zero_mul]

theorem keysAt_zero (s c : ℕ) : keysAt Q K V D T a 0 s c = dk Q K V D T a s c := if_neg (Nat.not_lt_zero _)

theorem valsAt_zero (s c : ℕ) : valsAt Q K D T a 0 s c = dv Q K D T a s c := if_neg (Nat.not_lt_zero _)

end Cert.Stick

end
-- ==== Proof.State.lean ====
/-
  THE STATE OF ONE POINT between two trips: the sums a trip carries and the two buffers it stores into, when the rows
  from `a` have dealt with the columns before `b`; and how a trip's carried sums and stores lead to the next state.
-/
module

public import proofs.«01_k».proof.Proof.Gen.KernelIdeal
public import proofs.«01_k».proof.Proof.Buffers
public import proofs.«01_k».proof.Proof.StickSteps

@[expose] public section

noncomputable section

namespace Cert.State

open Idealize.ShloMosaic Idealize.SL.Sem Cert.KernelIdeal Cert.KernelIdeal.Gen Cert.RealArr Cert.Stick Cert.Buffers

variable (Q K V D : ℕ → ℕ → ℝ) (T : ℕ → ℝ)

/-- The carried sums and the buffers `f`, `g` of the keys' and the values' gradients, seen through the views `v`, `w`. -/
structure At {κ κ' : Kind} {sp sp' : Space} (v : View sig κ sp S4096x128 .f32) (w : View sig κ' sp' S4096x128 .f32) (a b : ℕ)
    (acc : FVec Ideal S256x1 .f32 × FVec Ideal S256x1 .f32 × FVec Ideal S256x128 .f32)
    (f : v.ty.Contents (Elt Ideal)) (g : w.ty.Contents (Elt Ideal)) : Prop where
  sums : acc = (arr fun r _ => ellSum Q K (a + r) b, arr fun r _ => gradSum Q K V D T (a + r) b,
    arr fun r c => dq Q K V D T b (a + r) c)
  keys : v.read (Elt Ideal) f = (arr (keysAt Q K V D T a b) : S4096x128.Idx → EReal)
  vals : w.read (Elt Ideal) g = (arr (valsAt Q K D T a b) : S4096x128.Idx → EReal)

variable {Q K V D T} {κ κ' : Kind} {sp sp' : Space} {v : View sig κ sp S4096x128 .f32} {w : View sig κ' sp' S4096x128 .f32}
  {a b W : ℕ}

/-- What a load of rows from `b` reads, in reals. -/
theorem rows_f32 {B : ℕ → ℕ → ℝ} (f : v.ty.Contents (Elt Ideal)) (hB : v.read (Elt Ideal) f = (arr B : S4096x128.Idx → EReal))
    {off : Fin 2 → ℕ} (ho : off = ![b, 0]) (hb : ∀ a, off a + (⟨2, ![W, 128]⟩ : Shape).size a ≤ S4096x128.size a) :
    v.readAt (Elt Ideal) (Rect.unit (s := S4096x128) off (⟨2, ![W, 128]⟩ : Shape).size hb).toLoadRect f
      = (arr fun r c => B (b + r) c : (⟨2, ![W, 128]⟩ : Shape).Idx → EReal) :=
  readAt_rows v f (B := fun r c => ((B r c : ℝ) : EReal)) hB ho hb

theorem rows_bf16 {u : View sig κ sp S4096x128 .bf16} {B : ℕ → ℕ → ℝ} (f : u.ty.Contents (Elt Ideal))
    (hB : u.read (Elt Ideal) f = (arr B : S4096x128.Idx → EReal))
    {off : Fin 2 → ℕ} (ho : off = ![b, 0]) (hb : ∀ a, off a + (⟨2, ![W, 128]⟩ : Shape).size a ≤ S4096x128.size a) :
    u.readAt (Elt Ideal) (Rect.unit (s := S4096x128) off (⟨2, ![W, 128]⟩ : Shape).size hb).toLoadRect f
      = (arr fun r c => B (b + r) c : (⟨2, ![W, 128]⟩ : Shape).Idx → EReal) :=
  readAt_rows u f (B := fun r c => ((B r c : ℝ) : EReal)) hB ho hb

theorem all_bf16 {n m : ℕ} {u : View sig κ sp ⟨2, ![n, m]⟩ .bf16} {B : ℕ → ℕ → ℝ} (f : u.ty.Contents (Elt Ideal))
    (hB : u.read (Elt Ideal) f = (arr B : (⟨2, ![n, m]⟩ : Shape).Idx → EReal))
    (hb : ∀ a, (![0, 0] : Fin 2 → ℕ) a + (⟨2, ![n, m]⟩ : Shape).size a ≤ (⟨2, ![n, m]⟩ : Shape).size a) :
    u.readAt (Elt Ideal) (Rect.unit (s := ⟨2, ![n, m]⟩) ![0, 0] (⟨2, ![n, m]⟩ : Shape).size hb).toLoadRect f
      = (arr B : (⟨2, ![n, m]⟩ : Shape).Idx → EReal) :=
  readAt_all u f (B := fun r c => ((B r c : ℝ) : EReal)) hB hb

/-- What the buffer holds after a store of rows from `b`, in reals. -/
theorem stored {B P : ℕ → ℕ → ℝ} (f : v.ty.Contents (Elt Ideal)) (hB : v.read (Elt Ideal) f = (arr B : S4096x128.Idx → EReal))
    {off : Fin 2 → ℕ} (ho : off = ![b, 0]) (hb : ∀ a, off a + (⟨2, ![W, 128]⟩ : Shape).size a ≤ S4096x128.size a) :
    v.read (Elt Ideal) (v.writes (Elt Ideal) f [⟨Rect.unit (s := S4096x128) off (⟨2, ![W, 128]⟩ : Shape).size hb,
        (arr P : (⟨2, ![W, 128]⟩ : Shape).Idx → EReal)⟩])
      = (arr fun s c => if b ≤ s ∧ s < b + W then P (s - b) c else B s c : S4096x128.Idx → EReal) := by
  refine (read_writes_rows v f (B := fun r c => ((B r c : ℝ) : EReal)) (P := fun r c => ((P r c : ℝ) : EReal)) hB ho hb).trans ?_
  funext y
  show (if b ≤ (y 0).val ∧ (y 0).val < b + W then ((P ((y 0).val - b) (y 1).val : ℝ) : EReal) else ((B (y 0).val (y 1).val : ℝ) : EReal))
    = ((if b ≤ (y 0).val ∧ (y 0).val < b + W then P ((y 0).val - b) (y 1).val else B (y 0).val (y 1).val : ℝ) : EReal)
  split_ifs <;> rfl

variable {acc R : FVec Ideal S256x1 .f32 × FVec Ideal S256x1 .f32 × FVec Ideal S256x128 .f32}
  {f : v.ty.Contents (Elt Ideal)} {g : w.ty.Contents (Elt Ideal)} {Z P CP CG : ℕ → ℕ → ℝ}

/-- The state after a trip over `W` columns. -/
theorem At.next (h : At Q K V D T v w a b acc f g)
    (hZ : ∀ r < 256, ∀ c < W, Z r c = dz Q K V D T (a + r) (b + c))
    (hP : ∀ r < 256, ∀ c < W, P r c = wgt Q K T (a + r) (b + c))
    {off : Fin 2 → ℕ} (ho : off = ![b, 0]) (hb : ∀ a, off a + (⟨2, ![W, 128]⟩ : Shape).size a ≤ S4096x128.size a)
    (hs : R.1 = arr CP) (hCP : ∀ r < 256, CP r 0 = ellSum Q K (a + r) (b + W))
    (hg : R.2.1 = arr CG) (hCG : ∀ r < 256, CG r 0 = gradSum Q K V D T (a + r) (b + W))
    (hq : R.2.2 = arr fun r c => dq Q K V D T b (a + r) c + nn W Z (fun r c => K (b + r) c) r c)
    {L : List (View.Piece (Elt Ideal) S4096x128 .f32)} {M : List (View.Piece (Elt Ideal) S4096x128 .f32)}
    (hL : L = [⟨Rect.unit (s := S4096x128) off (⟨2, ![W, 128]⟩ : Shape).size hb,
      (arr (fun r c => keysAt Q K V D T a b (b + r) c + tn 256 Z (fun r c => Q (a + r) c) r c) :
        (⟨2, ![W, 128]⟩ : Shape).Idx → EReal)⟩])
    (hM : M = [⟨Rect.unit (s := S4096x128) off (⟨2, ![W, 128]⟩ : Shape).size hb,
      (arr (fun r c => valsAt Q K D T a b (b + r) c + tn 256 P (fun r c => D (a + r) c) r c) :
        (⟨2, ![W, 128]⟩ : Shape).Idx → EReal)⟩]) :
    At Q K V D T v w a (b + W) R (v.writes (Elt Ideal) f L) (w.writes (Elt Ideal) g M) := by
  refine ⟨?_, ?_, ?_⟩
  · rw [show R = (R.1, R.2.1, R.2.2) from rfl, hs, hg, hq]
    congr 1
    · refine arr_congr fun r hr c hc => ?_
      obtain rfl : c = 0 := by omega
      exact hCP r hr
    · congr 1
      · refine arr_congr fun r hr c hc => ?_
        obtain rfl : c = 0 := by omega
        exact hCG r hr
      · exact arr_congr fun r hr c _ => dq_step hZ hr c
  · subst hL
    refine (stored f h.keys ho hb).trans (arr_congr fun s _ c _ => ?_)
    exact keys_step hZ s c
  · subst hM
    refine (stored g h.vals ho hb).trans (arr_congr fun s _ c _ => ?_)
    exact vals_step hP s c

end Cert.State

end
-- ==== Proof.StepDiag.lean ====
/-
  ONE STEP OF A POINT, the one block on the diagonal: the trip leads from the state before the columns from `b` to the state
  256 columns later.
-/
module

public import proofs.«01_k».proof.Proof.TripDiag
public import proofs.«01_k».proof.Proof.State

@[expose] public section

set_option maxHeartbeats 4000000

noncomputable section

namespace Cert.StepDiag

open Idealize.ShloMosaic Idealize.SL.Sem Cert.KernelIdeal Cert.KernelIdeal.Gen Cert.RealArr Cert.Stick Cert.State

variable {Q K V D : ℕ → ℕ → ℝ} {T : ℕ → ℝ} {a b : ℕ}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t5_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The step. -/
theorem step (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ho : (k0_off5 i) = ![b, 0]) (hab : b = a)
    (h : At Q K V D T arg11.view arg12.view a b acc f_arg11 f_arg12) :
    At Q K V D T arg11.view arg12.view a (b + 256) ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12)
      (arg11.view.writes (Elt Ideal) f_arg11 ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12))
      (arg12.view.writes (Elt Ideal) f_arg12 ((trip_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12)) := by
  have k13 := fun hb => rows_bf16 (W := 256) X_arg13 h13 ho hb
  have k14 := fun hb => rows_bf16 (W := 256) X_arg14 h14 ho hb
  have k7 := all_bf16 X_arg7 h7 inb_S256x256_S256x256_0_0
  have k8 := all_bf16 X_arg8 h8 inb_S256x256_S256x256_0_0
  have k11 := fun hb => rows_f32 (W := 256) f_arg11 h.keys ho hb
  have k12 := fun hb => rows_f32 (W := 256) f_arg12 h.vals ho hb
  have B : Block Q K V D a b (fun r c => decide (c < r)) (nt 128 (fun r c => Q (a + r) c) (fun r c => K (b + r) c)) (nt 128 (fun r c => D (a + r) c) (fun r c => V (b + r) c)) :=
    ⟨fun r _ c _ => by rw [decide_eq_true_iff]; omega, fun _ _ _ _ => rfl, fun _ _ _ _ => rfl⟩
  have hZ := fun r (hr : r < 256) c (hc : c < 256) => bDz_eq B (T' := (fun r _ => T (a + r))) (T := T) (CP := (fun r _ => ellSum Q K (a + r) b)) (CG := (fun r _ => gradSum Q K V D T (a + r) b))
    (fun _ _ => rfl) (fun _ _ => rfl) (fun _ _ => rfl) hr hc
  have hW := fun r (hr : r < 256) c (hc : c < 256) => bWgt_eq B (T' := (fun r _ => T (a + r))) (T := T) (CP := (fun r _ => ellSum Q K (a + r) b))
    (fun _ _ => rfl) (fun _ _ => rfl) hr hc
  exact h.next hZ hW ho (k0_off5_inb i)
    (Cert.TripDiag.sums c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => ellSum_add B hr le_rfl)
    (Cert.TripDiag.grads c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => gradSum_add B (T' := (fun r _ => T (a + r))) (T := T) (CP := (fun r _ => ellSum Q K (a + r) b)) (fun _ _ => rfl) (fun _ _ => rfl) hr le_rfl)
    (Cert.TripDiag.queries c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8)
    (Cert.TripDiag.keys c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off5_inb i) k11)
    (Cert.TripDiag.values c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off5_inb i) k12)

end Cert.StepDiag

end
-- ==== Proof.TripLast.lean ====
/-
  ONE TRIP, two blocks, the second one on the diagonal: what the trip hands on and what it stores, as real arrays. The trip's operands
  are named by the real functions they hold; every operation of the trip is read by its equation on real arrays
  (RealArr, KernelDots), and what comes out is the formula of StickMath.
-/
module

public import proofs.«01_k».proof.Proof.Gen.KernelIdeal.Value
public import proofs.«01_k».proof.Proof.KernelDots
public import proofs.«01_k».proof.Proof.StickMath

@[expose] public section

set_option maxRecDepth 8192
set_option maxHeartbeats 4000000

noncomputable section

namespace Cert.TripLast

open Idealize.ShloMosaic Idealize.SL.Sem Cert.KernelIdeal Cert.KernelIdeal.Gen Cert.RealArr Cert.Stick

variable {Q K V D T CP CG DQ IN EX : ℕ → ℕ → ℝ} {p : ℕ → ℕ → Bool}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t3_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The remainders' sums the trip hands on. -/
theorem sums
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off3 i) S512x128.size hb).toLoadRect X_arg13 = arr K)
    (h14 : ∀ hb, View.readAt (Elt Ideal) arg14.view (Rect.unit (s := S4096x128) (k0_off3 i) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).1 = arr (endCP p (nt 128 Q K) CP) := by
  unfold trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6,
      trip_k0_t3.sl.r_7, trip_k0_t3.sl.r_8, trip_k0_t3.sl.r_9, trip_k0_t3.sl.r_10, trip_k0_t3.sl.r_11, trip_k0_t3.sl.r_12, trip_k0_t3.sl.r_13,
      trip_k0_t3.sl.r_14, trip_k0_t3.sl.r_15, trip_k0_t3.sl.r_16, trip_k0_t3.sl.r_17, trip_k0_t3.sl.r_18, trip_k0_t3.sl.r_19, trip_k0_t3.sl.r_20,
      trip_k0_t3.sl.r_21, trip_k0_t3.sl.r_22, trip_k0_t3.sl.r_23, trip_k0_t3.sl.r_24, trip_k0_t3.sl.r_25, trip_k0_t3.sl.r_26, trip_k0_t3.sl.r_27,
      trip_k0_t3.sl.r_28, trip_k0_t3.sl.r_29, trip_k0_t3.sl.r_30, trip_k0_t3.sl.r_31, trip_k0_t3.sl.r_32, trip_k0_t3.sl.r_33, trip_k0_t3.sl.r_34,
      trip_k0_t3.sl.r_35, trip_k0_t3.sl.r_36, trip_k0_t3.sl.r_37, trip_k0_t3.sl.r_38, trip_k0_t3.sl.r_39, trip_k0_t3.sl.r_40, trip_k0_t3.sl.r_41,
      trip_k0_t3.sl.r_42, trip_k0_t3.sl.r_43, trip_k0_t3.sl.r_44, trip_k0_t3.sl.r_45, trip_k0_t3.sl.r_46, trip_k0_t3.sl.r_47, trip_k0_t3.sl.r_48,
      trip_k0_t3.sl.r_49, trip_k0_t3.sl.r_50, trip_k0_t3.sl.r_51, trip_k0_t3.sl.r_52, trip_k0_t3.sl.r_53, trip_k0_t3.sl.r_54, trip_k0_t3.sl.r_55,
      trip_k0_t3.sl.r_56, trip_k0_t3.sl.r_57, trip_k0_t3.sl.r_58, trip_k0_t3.sl.r_59, trip_k0_t3.sl.r_60, trip_k0_t3.sl.r_61, trip_k0_t3.sl.r_62,
      trip_k0_t3.sl.r_63, trip_k0_t3.sl.r_64, trip_k0_t3.sl.r_65, trip_k0_t3.sl.r_66, trip_k0_t3.sl.r_67, trip_k0_t3.sl.r_68, trip_k0_t3.sl.r_69,
      trip_k0_t3.sl.r_70, trip_k0_t3.sl.r_71, trip_k0_t3.sl.r_72, trip_k0_t3.sl.r_73, trip_k0_t3.sl.r_74, trip_k0_t3.sl.r_75, trip_k0_t3.sl.r_76,
      trip_k0_t3.sl.r_77, trip_k0_t3.sl.r_78, trip_k0_t3.sl.r_79, trip_k0_t3.sl.r_80, trip_k0_t3.sl.r_81, trip_k0_t3.sl.r_82, trip_k0_t3.sl.r_83,
      trip_k0_t3.sl.r_84, trip_k0_t3.sl.r_85, trip_k0_t3.sl.r_86, trip_k0_t3.sl.r_87, trip_k0_t3.sl.r_88, trip_k0_t3.sl.r_89, trip_k0_t3.sl.r_90,
      trip_k0_t3.sl.r_91, trip_k0_t3.sl.r_92, trip_k0_t3.sl.r_93, trip_k0_t3.sl.r_94, trip_k0_t3.sl.r_95, trip_k0_t3.sl.r_96, trip_k0_t3.sl.r_97,
      trip_k0_t3.sl.r_98, trip_k0_t3.sl.r_99, trip_k0_t3.sl.r_100, trip_k0_t3.sl.r_101, trip_k0_t3.sl.cst_78, k0_pay283, k0_pay284, k0_pay285,
      k0_pay286, k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310, k0_pay311,
      k0_pay312, k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336, k0_pay337,
      k0_pay338, k0_pay339, k0_pay340, k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375, k0_pay376,
      k0_pay377, k0_pay378, k0_pay379, k0_pay380, k0_pay381, k0_pay382, k0_pay383, k0_pay384, k0_pay385, k0_pay386, k0_pay387, k0_pay388, k0_pay389,
      k0_pay390, k0_pay391, k0_pay392, k0_pay393, k0_pay394, k0_pay395, k0_pay396, k0_pay397, k0_pay398, k0_pay399, k0_pay400, k0_pay401, k0_pay402,
      k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay693, k0_pay694, k0_pay695,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The sums of the weights' gradients the trip hands on. -/
theorem grads
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off3 i) S512x128.size hb).toLoadRect X_arg13 = arr K)
    (h14 : ∀ hb, View.readAt (Elt Ideal) arg14.view (Rect.unit (s := S4096x128) (k0_off3 i) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.1 = arr (endCG p (nt 128 Q K) (nt 128 D V) IN T CP CG) := by
  unfold trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6,
      trip_k0_t3.sl.r_7, trip_k0_t3.sl.r_8, trip_k0_t3.sl.r_9, trip_k0_t3.sl.r_10, trip_k0_t3.sl.r_11, trip_k0_t3.sl.r_12, trip_k0_t3.sl.r_13,
      trip_k0_t3.sl.r_14, trip_k0_t3.sl.r_15, trip_k0_t3.sl.r_16, trip_k0_t3.sl.r_17, trip_k0_t3.sl.r_18, trip_k0_t3.sl.r_19, trip_k0_t3.sl.r_20,
      trip_k0_t3.sl.r_21, trip_k0_t3.sl.r_22, trip_k0_t3.sl.r_23, trip_k0_t3.sl.r_24, trip_k0_t3.sl.r_25, trip_k0_t3.sl.r_26, trip_k0_t3.sl.r_27,
      trip_k0_t3.sl.r_28, trip_k0_t3.sl.r_29, trip_k0_t3.sl.r_30, trip_k0_t3.sl.r_31, trip_k0_t3.sl.r_32, trip_k0_t3.sl.r_33, trip_k0_t3.sl.r_34,
      trip_k0_t3.sl.r_35, trip_k0_t3.sl.r_36, trip_k0_t3.sl.r_37, trip_k0_t3.sl.r_38, trip_k0_t3.sl.r_39, trip_k0_t3.sl.r_40, trip_k0_t3.sl.r_41,
      trip_k0_t3.sl.r_42, trip_k0_t3.sl.r_43, trip_k0_t3.sl.r_44, trip_k0_t3.sl.r_45, trip_k0_t3.sl.r_46, trip_k0_t3.sl.r_47, trip_k0_t3.sl.r_48,
      trip_k0_t3.sl.r_49, trip_k0_t3.sl.r_50, trip_k0_t3.sl.r_51, trip_k0_t3.sl.r_52, trip_k0_t3.sl.r_53, trip_k0_t3.sl.r_54, trip_k0_t3.sl.r_55,
      trip_k0_t3.sl.r_56, trip_k0_t3.sl.r_57, trip_k0_t3.sl.r_58, trip_k0_t3.sl.r_59, trip_k0_t3.sl.r_60, trip_k0_t3.sl.r_61, trip_k0_t3.sl.r_62,
      trip_k0_t3.sl.r_63, trip_k0_t3.sl.r_64, trip_k0_t3.sl.r_65, trip_k0_t3.sl.r_66, trip_k0_t3.sl.r_67, trip_k0_t3.sl.r_68, trip_k0_t3.sl.r_69,
      trip_k0_t3.sl.r_70, trip_k0_t3.sl.r_71, trip_k0_t3.sl.r_72, trip_k0_t3.sl.r_73, trip_k0_t3.sl.r_74, trip_k0_t3.sl.r_75, trip_k0_t3.sl.r_76,
      trip_k0_t3.sl.r_77, trip_k0_t3.sl.r_78, trip_k0_t3.sl.r_79, trip_k0_t3.sl.r_80, trip_k0_t3.sl.r_81, trip_k0_t3.sl.r_82, trip_k0_t3.sl.r_83,
      trip_k0_t3.sl.r_84, trip_k0_t3.sl.r_85, trip_k0_t3.sl.r_86, trip_k0_t3.sl.r_87, trip_k0_t3.sl.r_88, trip_k0_t3.sl.r_89, trip_k0_t3.sl.r_90,
      trip_k0_t3.sl.r_91, trip_k0_t3.sl.r_92, trip_k0_t3.sl.r_93, trip_k0_t3.sl.r_94, trip_k0_t3.sl.r_95, trip_k0_t3.sl.r_96, trip_k0_t3.sl.r_97,
      trip_k0_t3.sl.r_98, trip_k0_t3.sl.r_99, trip_k0_t3.sl.r_100, trip_k0_t3.sl.r_101, trip_k0_t3.sl.cst_78, k0_pay283, k0_pay284, k0_pay285,
      k0_pay286, k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310, k0_pay311,
      k0_pay312, k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336, k0_pay337,
      k0_pay338, k0_pay339, k0_pay340, k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375, k0_pay376,
      k0_pay377, k0_pay378, k0_pay379, k0_pay380, k0_pay381, k0_pay382, k0_pay383, k0_pay384, k0_pay385, k0_pay386, k0_pay387, k0_pay388, k0_pay389,
      k0_pay390, k0_pay391, k0_pay392, k0_pay393, k0_pay394, k0_pay395, k0_pay396, k0_pay397, k0_pay398, k0_pay399, k0_pay400, k0_pay401, k0_pay402,
      k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay693, k0_pay694, k0_pay695,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The queries' gradient the trip hands on. -/
theorem queries
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off3 i) S512x128.size hb).toLoadRect X_arg13 = arr K)
    (h14 : ∀ hb, View.readAt (Elt Ideal) arg14.view (Rect.unit (s := S4096x128) (k0_off3 i) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.2 = arr (fun r c => DQ r c + nn 512 (pairDz p (nt 128 Q K) (nt 128 D V) IN EX T CP CG) K r c) := by
  unfold trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6,
      trip_k0_t3.sl.r_7, trip_k0_t3.sl.r_8, trip_k0_t3.sl.r_9, trip_k0_t3.sl.r_10, trip_k0_t3.sl.r_11, trip_k0_t3.sl.r_12, trip_k0_t3.sl.r_13,
      trip_k0_t3.sl.r_14, trip_k0_t3.sl.r_15, trip_k0_t3.sl.r_16, trip_k0_t3.sl.r_17, trip_k0_t3.sl.r_18, trip_k0_t3.sl.r_19, trip_k0_t3.sl.r_20,
      trip_k0_t3.sl.r_21, trip_k0_t3.sl.r_22, trip_k0_t3.sl.r_23, trip_k0_t3.sl.r_24, trip_k0_t3.sl.r_25, trip_k0_t3.sl.r_26, trip_k0_t3.sl.r_27,
      trip_k0_t3.sl.r_28, trip_k0_t3.sl.r_29, trip_k0_t3.sl.r_30, trip_k0_t3.sl.r_31, trip_k0_t3.sl.r_32, trip_k0_t3.sl.r_33, trip_k0_t3.sl.r_34,
      trip_k0_t3.sl.r_35, trip_k0_t3.sl.r_36, trip_k0_t3.sl.r_37, trip_k0_t3.sl.r_38, trip_k0_t3.sl.r_39, trip_k0_t3.sl.r_40, trip_k0_t3.sl.r_41,
      trip_k0_t3.sl.r_42, trip_k0_t3.sl.r_43, trip_k0_t3.sl.r_44, trip_k0_t3.sl.r_45, trip_k0_t3.sl.r_46, trip_k0_t3.sl.r_47, trip_k0_t3.sl.r_48,
      trip_k0_t3.sl.r_49, trip_k0_t3.sl.r_50, trip_k0_t3.sl.r_51, trip_k0_t3.sl.r_52, trip_k0_t3.sl.r_53, trip_k0_t3.sl.r_54, trip_k0_t3.sl.r_55,
      trip_k0_t3.sl.r_56, trip_k0_t3.sl.r_57, trip_k0_t3.sl.r_58, trip_k0_t3.sl.r_59, trip_k0_t3.sl.r_60, trip_k0_t3.sl.r_61, trip_k0_t3.sl.r_62,
      trip_k0_t3.sl.r_63, trip_k0_t3.sl.r_64, trip_k0_t3.sl.r_65, trip_k0_t3.sl.r_66, trip_k0_t3.sl.r_67, trip_k0_t3.sl.r_68, trip_k0_t3.sl.r_69,
      trip_k0_t3.sl.r_70, trip_k0_t3.sl.r_71, trip_k0_t3.sl.r_72, trip_k0_t3.sl.r_73, trip_k0_t3.sl.r_74, trip_k0_t3.sl.r_75, trip_k0_t3.sl.r_76,
      trip_k0_t3.sl.r_77, trip_k0_t3.sl.r_78, trip_k0_t3.sl.r_79, trip_k0_t3.sl.r_80, trip_k0_t3.sl.r_81, trip_k0_t3.sl.r_82, trip_k0_t3.sl.r_83,
      trip_k0_t3.sl.r_84, trip_k0_t3.sl.r_85, trip_k0_t3.sl.r_86, trip_k0_t3.sl.r_87, trip_k0_t3.sl.r_88, trip_k0_t3.sl.r_89, trip_k0_t3.sl.r_90,
      trip_k0_t3.sl.r_91, trip_k0_t3.sl.r_92, trip_k0_t3.sl.r_93, trip_k0_t3.sl.r_94, trip_k0_t3.sl.r_95, trip_k0_t3.sl.r_96, trip_k0_t3.sl.r_97,
      trip_k0_t3.sl.r_98, trip_k0_t3.sl.r_99, trip_k0_t3.sl.r_100, trip_k0_t3.sl.r_101, trip_k0_t3.sl.cst_78, k0_pay283, k0_pay284, k0_pay285,
      k0_pay286, k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310, k0_pay311,
      k0_pay312, k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336, k0_pay337,
      k0_pay338, k0_pay339, k0_pay340, k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375, k0_pay376,
      k0_pay377, k0_pay378, k0_pay379, k0_pay380, k0_pay381, k0_pay382, k0_pay383, k0_pay384, k0_pay385, k0_pay386, k0_pay387, k0_pay388, k0_pay389,
      k0_pay390, k0_pay391, k0_pay392, k0_pay393, k0_pay394, k0_pay395, k0_pay396, k0_pay397, k0_pay398, k0_pay399, k0_pay400, k0_pay401, k0_pay402,
      k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay693, k0_pay694, k0_pay695,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the keys. -/
theorem keys
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off3 i) S512x128.size hb).toLoadRect X_arg13 = arr K)
    (h14 : ∀ hb, View.readAt (Elt Ideal) arg14.view (Rect.unit (s := S4096x128) (k0_off3 i) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off3 i) a + S512x128.size a ≤ S4096x128.size a)
    (hB : ∀ hb, View.readAt (Elt Ideal) arg11.view (Rect.unit (s := S4096x128) (k0_off3 i) S512x128.size hb).toLoadRect f_arg11 = arr B)
    : (trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12
      = [⟨Rect.unit (s := S4096x128) (k0_off3 i) S512x128.size hb, (arr (fun r c => B r c + tn 256 (pairDz p (nt 128 Q K) (nt 128 D V) IN EX T CP CG) Q r c) : S512x128.Idx → EReal)⟩] := by
  unfold trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6,
      trip_k0_t3.sl.r_7, trip_k0_t3.sl.r_8, trip_k0_t3.sl.r_9, trip_k0_t3.sl.r_10, trip_k0_t3.sl.r_11, trip_k0_t3.sl.r_12, trip_k0_t3.sl.r_13,
      trip_k0_t3.sl.r_14, trip_k0_t3.sl.r_15, trip_k0_t3.sl.r_16, trip_k0_t3.sl.r_17, trip_k0_t3.sl.r_18, trip_k0_t3.sl.r_19, trip_k0_t3.sl.r_20,
      trip_k0_t3.sl.r_21, trip_k0_t3.sl.r_22, trip_k0_t3.sl.r_23, trip_k0_t3.sl.r_24, trip_k0_t3.sl.r_25, trip_k0_t3.sl.r_26, trip_k0_t3.sl.r_27,
      trip_k0_t3.sl.r_28, trip_k0_t3.sl.r_29, trip_k0_t3.sl.r_30, trip_k0_t3.sl.r_31, trip_k0_t3.sl.r_32, trip_k0_t3.sl.r_33, trip_k0_t3.sl.r_34,
      trip_k0_t3.sl.r_35, trip_k0_t3.sl.r_36, trip_k0_t3.sl.r_37, trip_k0_t3.sl.r_38, trip_k0_t3.sl.r_39, trip_k0_t3.sl.r_40, trip_k0_t3.sl.r_41,
      trip_k0_t3.sl.r_42, trip_k0_t3.sl.r_43, trip_k0_t3.sl.r_44, trip_k0_t3.sl.r_45, trip_k0_t3.sl.r_46, trip_k0_t3.sl.r_47, trip_k0_t3.sl.r_48,
      trip_k0_t3.sl.r_49, trip_k0_t3.sl.r_50, trip_k0_t3.sl.r_51, trip_k0_t3.sl.r_52, trip_k0_t3.sl.r_53, trip_k0_t3.sl.r_54, trip_k0_t3.sl.r_55,
      trip_k0_t3.sl.r_56, trip_k0_t3.sl.r_57, trip_k0_t3.sl.r_58, trip_k0_t3.sl.r_59, trip_k0_t3.sl.r_60, trip_k0_t3.sl.r_61, trip_k0_t3.sl.r_62,
      trip_k0_t3.sl.r_63, trip_k0_t3.sl.r_64, trip_k0_t3.sl.r_65, trip_k0_t3.sl.r_66, trip_k0_t3.sl.r_67, trip_k0_t3.sl.r_68, trip_k0_t3.sl.r_69,
      trip_k0_t3.sl.r_70, trip_k0_t3.sl.r_71, trip_k0_t3.sl.r_72, trip_k0_t3.sl.r_73, trip_k0_t3.sl.r_74, trip_k0_t3.sl.r_75, trip_k0_t3.sl.r_76,
      trip_k0_t3.sl.r_77, trip_k0_t3.sl.r_78, trip_k0_t3.sl.r_79, trip_k0_t3.sl.r_80, trip_k0_t3.sl.r_81, trip_k0_t3.sl.r_82, trip_k0_t3.sl.r_83,
      trip_k0_t3.sl.r_84, trip_k0_t3.sl.r_85, trip_k0_t3.sl.r_86, trip_k0_t3.sl.r_87, trip_k0_t3.sl.r_88, trip_k0_t3.sl.r_89, trip_k0_t3.sl.r_90,
      trip_k0_t3.sl.r_91, trip_k0_t3.sl.r_92, trip_k0_t3.sl.r_93, trip_k0_t3.sl.r_94, trip_k0_t3.sl.r_95, trip_k0_t3.sl.r_96, trip_k0_t3.sl.r_97,
      trip_k0_t3.sl.r_98, trip_k0_t3.sl.r_99, trip_k0_t3.sl.r_100, trip_k0_t3.sl.r_101, trip_k0_t3.sl.cst_78, k0_pay283, k0_pay284, k0_pay285,
      k0_pay286, k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310, k0_pay311,
      k0_pay312, k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336, k0_pay337,
      k0_pay338, k0_pay339, k0_pay340, k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375, k0_pay376,
      k0_pay377, k0_pay378, k0_pay379, k0_pay380, k0_pay381, k0_pay382, k0_pay383, k0_pay384, k0_pay385, k0_pay386, k0_pay387, k0_pay388, k0_pay389,
      k0_pay390, k0_pay391, k0_pay392, k0_pay393, k0_pay394, k0_pay395, k0_pay396, k0_pay397, k0_pay398, k0_pay399, k0_pay400, k0_pay401, k0_pay402,
      k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay693, k0_pay694, k0_pay695,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the values. -/
theorem values
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off3 i) S512x128.size hb).toLoadRect X_arg13 = arr K)
    (h14 : ∀ hb, View.readAt (Elt Ideal) arg14.view (Rect.unit (s := S4096x128) (k0_off3 i) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off3 i) a + S512x128.size a ≤ S4096x128.size a)
    (hB : ∀ hb, View.readAt (Elt Ideal) arg12.view (Rect.unit (s := S4096x128) (k0_off3 i) S512x128.size hb).toLoadRect f_arg12 = arr B)
    : (trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12
      = [⟨Rect.unit (s := S4096x128) (k0_off3 i) S512x128.size hb, (arr (fun r c => B r c + tn 256 (pairWgt p (nt 128 Q K) IN T CP) D r c) : S512x128.Idx → EReal)⟩] := by
  unfold trip_k0_t3
  dsimp only
  simp only [trip_k0_t3.sl.r, trip_k0_t3.sl.r_1, trip_k0_t3.sl.r_2, trip_k0_t3.sl.r_3, trip_k0_t3.sl.r_4, trip_k0_t3.sl.r_5, trip_k0_t3.sl.r_6,
      trip_k0_t3.sl.r_7, trip_k0_t3.sl.r_8, trip_k0_t3.sl.r_9, trip_k0_t3.sl.r_10, trip_k0_t3.sl.r_11, trip_k0_t3.sl.r_12, trip_k0_t3.sl.r_13,
      trip_k0_t3.sl.r_14, trip_k0_t3.sl.r_15, trip_k0_t3.sl.r_16, trip_k0_t3.sl.r_17, trip_k0_t3.sl.r_18, trip_k0_t3.sl.r_19, trip_k0_t3.sl.r_20,
      trip_k0_t3.sl.r_21, trip_k0_t3.sl.r_22, trip_k0_t3.sl.r_23, trip_k0_t3.sl.r_24, trip_k0_t3.sl.r_25, trip_k0_t3.sl.r_26, trip_k0_t3.sl.r_27,
      trip_k0_t3.sl.r_28, trip_k0_t3.sl.r_29, trip_k0_t3.sl.r_30, trip_k0_t3.sl.r_31, trip_k0_t3.sl.r_32, trip_k0_t3.sl.r_33, trip_k0_t3.sl.r_34,
      trip_k0_t3.sl.r_35, trip_k0_t3.sl.r_36, trip_k0_t3.sl.r_37, trip_k0_t3.sl.r_38, trip_k0_t3.sl.r_39, trip_k0_t3.sl.r_40, trip_k0_t3.sl.r_41,
      trip_k0_t3.sl.r_42, trip_k0_t3.sl.r_43, trip_k0_t3.sl.r_44, trip_k0_t3.sl.r_45, trip_k0_t3.sl.r_46, trip_k0_t3.sl.r_47, trip_k0_t3.sl.r_48,
      trip_k0_t3.sl.r_49, trip_k0_t3.sl.r_50, trip_k0_t3.sl.r_51, trip_k0_t3.sl.r_52, trip_k0_t3.sl.r_53, trip_k0_t3.sl.r_54, trip_k0_t3.sl.r_55,
      trip_k0_t3.sl.r_56, trip_k0_t3.sl.r_57, trip_k0_t3.sl.r_58, trip_k0_t3.sl.r_59, trip_k0_t3.sl.r_60, trip_k0_t3.sl.r_61, trip_k0_t3.sl.r_62,
      trip_k0_t3.sl.r_63, trip_k0_t3.sl.r_64, trip_k0_t3.sl.r_65, trip_k0_t3.sl.r_66, trip_k0_t3.sl.r_67, trip_k0_t3.sl.r_68, trip_k0_t3.sl.r_69,
      trip_k0_t3.sl.r_70, trip_k0_t3.sl.r_71, trip_k0_t3.sl.r_72, trip_k0_t3.sl.r_73, trip_k0_t3.sl.r_74, trip_k0_t3.sl.r_75, trip_k0_t3.sl.r_76,
      trip_k0_t3.sl.r_77, trip_k0_t3.sl.r_78, trip_k0_t3.sl.r_79, trip_k0_t3.sl.r_80, trip_k0_t3.sl.r_81, trip_k0_t3.sl.r_82, trip_k0_t3.sl.r_83,
      trip_k0_t3.sl.r_84, trip_k0_t3.sl.r_85, trip_k0_t3.sl.r_86, trip_k0_t3.sl.r_87, trip_k0_t3.sl.r_88, trip_k0_t3.sl.r_89, trip_k0_t3.sl.r_90,
      trip_k0_t3.sl.r_91, trip_k0_t3.sl.r_92, trip_k0_t3.sl.r_93, trip_k0_t3.sl.r_94, trip_k0_t3.sl.r_95, trip_k0_t3.sl.r_96, trip_k0_t3.sl.r_97,
      trip_k0_t3.sl.r_98, trip_k0_t3.sl.r_99, trip_k0_t3.sl.r_100, trip_k0_t3.sl.r_101, trip_k0_t3.sl.cst_78, k0_pay283, k0_pay284, k0_pay285,
      k0_pay286, k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310, k0_pay311,
      k0_pay312, k0_pay313, k0_pay314, k0_pay315, k0_pay316, k0_pay317, k0_pay318, k0_pay319, k0_pay320, k0_pay321, k0_pay322, k0_pay323, k0_pay324,
      k0_pay325, k0_pay326, k0_pay327, k0_pay328, k0_pay329, k0_pay330, k0_pay331, k0_pay332, k0_pay333, k0_pay334, k0_pay335, k0_pay336, k0_pay337,
      k0_pay338, k0_pay339, k0_pay340, k0_pay341, k0_pay342, k0_pay343, k0_pay344, k0_pay345, k0_pay346, k0_pay347, k0_pay348, k0_pay349, k0_pay350,
      k0_pay351, k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375, k0_pay376,
      k0_pay377, k0_pay378, k0_pay379, k0_pay380, k0_pay381, k0_pay382, k0_pay383, k0_pay384, k0_pay385, k0_pay386, k0_pay387, k0_pay388, k0_pay389,
      k0_pay390, k0_pay391, k0_pay392, k0_pay393, k0_pay394, k0_pay395, k0_pay396, k0_pay397, k0_pay398, k0_pay399, k0_pay400, k0_pay401, k0_pay402,
      k0_pay403, k0_pay404, k0_pay405, k0_pay406, k0_pay407, k0_pay408, k0_pay409, k0_pay410, k0_pay411, k0_pay412, k0_pay413, k0_pay414, k0_pay415,
      k0_pay416, k0_pay417, k0_pay418, k0_pay419, k0_pay420, k0_pay421, k0_pay422, k0_pay693, k0_pay694, k0_pay695,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

end Cert.TripLast

end
-- ==== Proof.StepLast.lean ====
/-
  ONE STEP OF A POINT, two blocks, the second one on the diagonal: the trip leads from the state before the columns from `b` to the state
  512 columns later.
-/
module

public import proofs.«01_k».proof.Proof.TripLast
public import proofs.«01_k».proof.Proof.State

@[expose] public section

set_option maxHeartbeats 4000000

noncomputable section

namespace Cert.StepLast

open Idealize.ShloMosaic Idealize.SL.Sem Cert.KernelIdeal Cert.KernelIdeal.Gen Cert.RealArr Cert.Stick Cert.State

variable {Q K V D : ℕ → ℕ → ℝ} {T : ℕ → ℝ} {a b : ℕ}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t3_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The step. -/
theorem step (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ho : (k0_off3 i) = ![b, 0]) (hab : b + 256 = a)
    (h : At Q K V D T arg11.view arg12.view a b acc f_arg11 f_arg12) :
    At Q K V D T arg11.view arg12.view a (b + 512) ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12)
      (arg11.view.writes (Elt Ideal) f_arg11 ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12))
      (arg12.view.writes (Elt Ideal) f_arg12 ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12)) := by
  have k13 := fun hb => rows_bf16 (W := 512) X_arg13 h13 ho hb
  have k14 := fun hb => rows_bf16 (W := 512) X_arg14 h14 ho hb
  have k7 := all_bf16 X_arg7 h7 inb_S256x256_S256x256_0_0
  have k8 := all_bf16 X_arg8 h8 inb_S256x256_S256x256_0_0
  have k11 := fun hb => rows_f32 (W := 512) f_arg11 h.keys ho hb
  have k12 := fun hb => rows_f32 (W := 512) f_arg12 h.vals ho hb
  have B : Block Q K V D a b all (nt 128 (fun r c => Q (a + r) c) (fun r c => K (b + r) c)) (nt 128 (fun r c => D (a + r) c) (fun r c => V (b + r) c)) :=
    ⟨fun r _ c _ => ⟨fun _ => by omega, fun _ => rfl⟩, fun _ _ _ _ => rfl, fun _ _ _ _ => rfl⟩
  have B' : Block Q K V D a (b + 256) (fun r c => decide (c < r)) (second (nt 128 (fun r c => Q (a + r) c) (fun r c => K (b + r) c))) (second (nt 128 (fun r c => D (a + r) c) (fun r c => V (b + r) c))) :=
    ⟨fun r _ c _ => by rw [decide_eq_true_iff]; omega,
      fun r _ c _ => by unfold second z nt; simp only [Nat.add_assoc],
      fun r _ c _ => by unfold second nt; simp only [Nat.add_assoc]⟩
  have hZ := fun r (hr : r < 256) c (hc : c < 512) => pairDz_eq B B' (T' := (fun r _ => T (a + r))) (T := T) (CP := (fun r _ => ellSum Q K (a + r) b)) (CG := (fun r _ => gradSum Q K V D T (a + r) b))
    (fun _ _ => rfl) (fun _ _ => rfl) (fun _ _ => rfl) hr hc
  have hW := fun r (hr : r < 256) c (hc : c < 512) => pairWgt_eq B B' (T' := (fun r _ => T (a + r))) (T := T) (CP := (fun r _ => ellSum Q K (a + r) b))
    (fun _ _ => rfl) (fun _ _ => rfl) hr hc
  exact h.next hZ hW ho (k0_off3_inb i k)
    (Cert.TripLast.sums c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => endCP_eq B B' (CP := (fun r _ => ellSum Q K (a + r) b)) (fun _ _ => rfl) hr)
    (Cert.TripLast.grads c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => endCG_eq B B' (T' := (fun r _ => T (a + r))) (T := T) (CP := (fun r _ => ellSum Q K (a + r) b)) (CG := (fun r _ => gradSum Q K V D T (a + r) b)) (fun _ _ => rfl) (fun _ _ => rfl) (fun _ _ => rfl) hr)
    (Cert.TripLast.queries c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8)
    (Cert.TripLast.keys c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off3_inb i k) k11)
    (Cert.TripLast.values c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off3_inb i k) k12)

end Cert.StepLast

end
-- ==== Proof.TripPair.lean ====
/-
  ONE TRIP, two blocks left of the diagonal: what the trip hands on and what it stores, as real arrays. The trip's operands
  are named by the real functions they hold; every operation of the trip is read by its equation on real arrays
  (RealArr, KernelDots), and what comes out is the formula of StickMath.
-/
module

public import proofs.«01_k».proof.Proof.Gen.KernelIdeal.Value
public import proofs.«01_k».proof.Proof.KernelDots
public import proofs.«01_k».proof.Proof.StickMath

@[expose] public section

set_option maxRecDepth 8192
set_option maxHeartbeats 4000000

noncomputable section

namespace Cert.TripPair

open Idealize.ShloMosaic Idealize.SL.Sem Cert.KernelIdeal Cert.KernelIdeal.Gen Cert.RealArr Cert.Stick

variable {Q K V D T CP CG DQ IN EX : ℕ → ℕ → ℝ} {p : ℕ → ℕ → Bool}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t1_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The remainders' sums the trip hands on. -/
theorem sums
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off1 i k) S512x128.size hb).toLoadRect X_arg13 = arr K)
    (h14 : ∀ hb, View.readAt (Elt Ideal) arg14.view (Rect.unit (s := S4096x128) (k0_off1 i k) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).1 = arr (endCP all (nt 128 Q K) CP) := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12, trip_k0_t1.sl.r_13,
      trip_k0_t1.sl.r_14, trip_k0_t1.sl.r_15, trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32, trip_k0_t1.sl.r_33, trip_k0_t1.sl.r_34,
      trip_k0_t1.sl.r_35, trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47, trip_k0_t1.sl.r_48,
      trip_k0_t1.sl.r_49, trip_k0_t1.sl.r_50, trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, trip_k0_t1.sl.r_66, trip_k0_t1.sl.r_67, trip_k0_t1.sl.r_68, trip_k0_t1.sl.r_69,
      trip_k0_t1.sl.r_70, trip_k0_t1.sl.r_71, trip_k0_t1.sl.r_72, trip_k0_t1.sl.r_73, trip_k0_t1.sl.r_74, trip_k0_t1.sl.r_75, trip_k0_t1.sl.r_76,
      trip_k0_t1.sl.r_77, trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89, trip_k0_t1.sl.r_90,
      trip_k0_t1.sl.r_91, trip_k0_t1.sl.r_92, trip_k0_t1.sl.r_93, trip_k0_t1.sl.r_94, trip_k0_t1.sl.r_95, trip_k0_t1.sl.r_96, trip_k0_t1.sl.r_97,
      trip_k0_t1.sl.r_98, trip_k0_t1.sl.r_99, trip_k0_t1.sl.r_100, trip_k0_t1.sl.r_101, trip_k0_t1.sl.r_102, trip_k0_t1.sl.r_103, trip_k0_t1.sl.r_104,
      trip_k0_t1.sl.r_105, trip_k0_t1.sl.r_106, trip_k0_t1.sl.r_107, trip_k0_t1.sl.r_108, trip_k0_t1.sl.r_109, trip_k0_t1.sl.r_110, k0_pay5, k0_pay6,
      k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay685, k0_pay686, k0_pay687, k0_pay688,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The sums of the weights' gradients the trip hands on. -/
theorem grads
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off1 i k) S512x128.size hb).toLoadRect X_arg13 = arr K)
    (h14 : ∀ hb, View.readAt (Elt Ideal) arg14.view (Rect.unit (s := S4096x128) (k0_off1 i k) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.1 = arr (endCG all (nt 128 Q K) (nt 128 D V) IN T CP CG) := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12, trip_k0_t1.sl.r_13,
      trip_k0_t1.sl.r_14, trip_k0_t1.sl.r_15, trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32, trip_k0_t1.sl.r_33, trip_k0_t1.sl.r_34,
      trip_k0_t1.sl.r_35, trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47, trip_k0_t1.sl.r_48,
      trip_k0_t1.sl.r_49, trip_k0_t1.sl.r_50, trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, trip_k0_t1.sl.r_66, trip_k0_t1.sl.r_67, trip_k0_t1.sl.r_68, trip_k0_t1.sl.r_69,
      trip_k0_t1.sl.r_70, trip_k0_t1.sl.r_71, trip_k0_t1.sl.r_72, trip_k0_t1.sl.r_73, trip_k0_t1.sl.r_74, trip_k0_t1.sl.r_75, trip_k0_t1.sl.r_76,
      trip_k0_t1.sl.r_77, trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89, trip_k0_t1.sl.r_90,
      trip_k0_t1.sl.r_91, trip_k0_t1.sl.r_92, trip_k0_t1.sl.r_93, trip_k0_t1.sl.r_94, trip_k0_t1.sl.r_95, trip_k0_t1.sl.r_96, trip_k0_t1.sl.r_97,
      trip_k0_t1.sl.r_98, trip_k0_t1.sl.r_99, trip_k0_t1.sl.r_100, trip_k0_t1.sl.r_101, trip_k0_t1.sl.r_102, trip_k0_t1.sl.r_103, trip_k0_t1.sl.r_104,
      trip_k0_t1.sl.r_105, trip_k0_t1.sl.r_106, trip_k0_t1.sl.r_107, trip_k0_t1.sl.r_108, trip_k0_t1.sl.r_109, trip_k0_t1.sl.r_110, k0_pay5, k0_pay6,
      k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay685, k0_pay686, k0_pay687, k0_pay688,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- The queries' gradient the trip hands on. -/
theorem queries
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off1 i k) S512x128.size hb).toLoadRect X_arg13 = arr K)
    (h14 : ∀ hb, View.readAt (Elt Ideal) arg14.view (Rect.unit (s := S4096x128) (k0_off1 i k) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    : ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12).2.2 = arr (fun r c => DQ r c + nn 512 (pairDz all (nt 128 Q K) (nt 128 D V) IN EX T CP CG) K r c) := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12, trip_k0_t1.sl.r_13,
      trip_k0_t1.sl.r_14, trip_k0_t1.sl.r_15, trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32, trip_k0_t1.sl.r_33, trip_k0_t1.sl.r_34,
      trip_k0_t1.sl.r_35, trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47, trip_k0_t1.sl.r_48,
      trip_k0_t1.sl.r_49, trip_k0_t1.sl.r_50, trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, trip_k0_t1.sl.r_66, trip_k0_t1.sl.r_67, trip_k0_t1.sl.r_68, trip_k0_t1.sl.r_69,
      trip_k0_t1.sl.r_70, trip_k0_t1.sl.r_71, trip_k0_t1.sl.r_72, trip_k0_t1.sl.r_73, trip_k0_t1.sl.r_74, trip_k0_t1.sl.r_75, trip_k0_t1.sl.r_76,
      trip_k0_t1.sl.r_77, trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89, trip_k0_t1.sl.r_90,
      trip_k0_t1.sl.r_91, trip_k0_t1.sl.r_92, trip_k0_t1.sl.r_93, trip_k0_t1.sl.r_94, trip_k0_t1.sl.r_95, trip_k0_t1.sl.r_96, trip_k0_t1.sl.r_97,
      trip_k0_t1.sl.r_98, trip_k0_t1.sl.r_99, trip_k0_t1.sl.r_100, trip_k0_t1.sl.r_101, trip_k0_t1.sl.r_102, trip_k0_t1.sl.r_103, trip_k0_t1.sl.r_104,
      trip_k0_t1.sl.r_105, trip_k0_t1.sl.r_106, trip_k0_t1.sl.r_107, trip_k0_t1.sl.r_108, trip_k0_t1.sl.r_109, trip_k0_t1.sl.r_110, k0_pay5, k0_pay6,
      k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay685, k0_pay686, k0_pay687, k0_pay688,
      hv6, hv8, hv10, hv13, hacc, h13, h14, h7, h8,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the keys. -/
theorem keys
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off1 i k) S512x128.size hb).toLoadRect X_arg13 = arr K)
    (h14 : ∀ hb, View.readAt (Elt Ideal) arg14.view (Rect.unit (s := S4096x128) (k0_off1 i k) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off1 i k) a + S512x128.size a ≤ S4096x128.size a)
    (hB : ∀ hb, View.readAt (Elt Ideal) arg11.view (Rect.unit (s := S4096x128) (k0_off1 i k) S512x128.size hb).toLoadRect f_arg11 = arr B)
    : (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12
      = [⟨Rect.unit (s := S4096x128) (k0_off1 i k) S512x128.size hb, (arr (fun r c => B r c + tn 256 (pairDz all (nt 128 Q K) (nt 128 D V) IN EX T CP CG) Q r c) : S512x128.Idx → EReal)⟩] := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12, trip_k0_t1.sl.r_13,
      trip_k0_t1.sl.r_14, trip_k0_t1.sl.r_15, trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32, trip_k0_t1.sl.r_33, trip_k0_t1.sl.r_34,
      trip_k0_t1.sl.r_35, trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47, trip_k0_t1.sl.r_48,
      trip_k0_t1.sl.r_49, trip_k0_t1.sl.r_50, trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, trip_k0_t1.sl.r_66, trip_k0_t1.sl.r_67, trip_k0_t1.sl.r_68, trip_k0_t1.sl.r_69,
      trip_k0_t1.sl.r_70, trip_k0_t1.sl.r_71, trip_k0_t1.sl.r_72, trip_k0_t1.sl.r_73, trip_k0_t1.sl.r_74, trip_k0_t1.sl.r_75, trip_k0_t1.sl.r_76,
      trip_k0_t1.sl.r_77, trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89, trip_k0_t1.sl.r_90,
      trip_k0_t1.sl.r_91, trip_k0_t1.sl.r_92, trip_k0_t1.sl.r_93, trip_k0_t1.sl.r_94, trip_k0_t1.sl.r_95, trip_k0_t1.sl.r_96, trip_k0_t1.sl.r_97,
      trip_k0_t1.sl.r_98, trip_k0_t1.sl.r_99, trip_k0_t1.sl.r_100, trip_k0_t1.sl.r_101, trip_k0_t1.sl.r_102, trip_k0_t1.sl.r_103, trip_k0_t1.sl.r_104,
      trip_k0_t1.sl.r_105, trip_k0_t1.sl.r_106, trip_k0_t1.sl.r_107, trip_k0_t1.sl.r_108, trip_k0_t1.sl.r_109, trip_k0_t1.sl.r_110, k0_pay5, k0_pay6,
      k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay685, k0_pay686, k0_pay687, k0_pay688,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

/-- What the trip stores into the gradient of the values. -/
theorem values
    (hv6 : v6 = arr Q) (hv8 : v8 = arr D) (hv10 : v10 = arr T) (hv13 : v13 = msk p) (hacc : acc = (arr CP, arr CG, arr DQ))
    (h13 : ∀ hb, View.readAt (Elt Ideal) arg13.view (Rect.unit (s := S4096x128) (k0_off1 i k) S512x128.size hb).toLoadRect X_arg13 = arr K)
    (h14 : ∀ hb, View.readAt (Elt Ideal) arg14.view (Rect.unit (s := S4096x128) (k0_off1 i k) S512x128.size hb).toLoadRect X_arg14 = arr V)
    (h7 : View.readAt (Elt Ideal) arg7.view (Rect.unit ![0, 0] S256x256.size inb_S256x256_S256x256_0_0).toLoadRect X_arg7 = arr IN)
    (h8 : View.readAt (Elt Ideal) arg8.view (Rect.unit ![0, 0] S256x256.size inb_S256x256_S256x256_0_0).toLoadRect X_arg8 = arr EX)
    {B : ℕ → ℕ → ℝ} (hb : ∀ a, (k0_off1 i k) a + S512x128.size a ≤ S4096x128.size a)
    (hB : ∀ hb, View.readAt (Elt Ideal) arg12.view (Rect.unit (s := S4096x128) (k0_off1 i k) S512x128.size hb).toLoadRect f_arg12 = arr B)
    : (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12
      = [⟨Rect.unit (s := S4096x128) (k0_off1 i k) S512x128.size hb, (arr (fun r c => B r c + tn 256 (pairWgt all (nt 128 Q K) IN T CP) D r c) : S512x128.Idx → EReal)⟩] := by
  unfold trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6,
      trip_k0_t1.sl.r_7, trip_k0_t1.sl.r_8, trip_k0_t1.sl.r_9, trip_k0_t1.sl.r_10, trip_k0_t1.sl.r_11, trip_k0_t1.sl.r_12, trip_k0_t1.sl.r_13,
      trip_k0_t1.sl.r_14, trip_k0_t1.sl.r_15, trip_k0_t1.sl.r_16, trip_k0_t1.sl.r_17, trip_k0_t1.sl.r_18, trip_k0_t1.sl.r_19, trip_k0_t1.sl.r_20,
      trip_k0_t1.sl.r_21, trip_k0_t1.sl.r_22, trip_k0_t1.sl.r_23, trip_k0_t1.sl.r_24, trip_k0_t1.sl.r_25, trip_k0_t1.sl.r_26, trip_k0_t1.sl.r_27,
      trip_k0_t1.sl.r_28, trip_k0_t1.sl.r_29, trip_k0_t1.sl.r_30, trip_k0_t1.sl.r_31, trip_k0_t1.sl.r_32, trip_k0_t1.sl.r_33, trip_k0_t1.sl.r_34,
      trip_k0_t1.sl.r_35, trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47, trip_k0_t1.sl.r_48,
      trip_k0_t1.sl.r_49, trip_k0_t1.sl.r_50, trip_k0_t1.sl.r_51, trip_k0_t1.sl.r_52, trip_k0_t1.sl.r_53, trip_k0_t1.sl.r_54, trip_k0_t1.sl.r_55,
      trip_k0_t1.sl.r_56, trip_k0_t1.sl.r_57, trip_k0_t1.sl.r_58, trip_k0_t1.sl.r_59, trip_k0_t1.sl.r_60, trip_k0_t1.sl.r_61, trip_k0_t1.sl.r_62,
      trip_k0_t1.sl.r_63, trip_k0_t1.sl.r_64, trip_k0_t1.sl.r_65, trip_k0_t1.sl.r_66, trip_k0_t1.sl.r_67, trip_k0_t1.sl.r_68, trip_k0_t1.sl.r_69,
      trip_k0_t1.sl.r_70, trip_k0_t1.sl.r_71, trip_k0_t1.sl.r_72, trip_k0_t1.sl.r_73, trip_k0_t1.sl.r_74, trip_k0_t1.sl.r_75, trip_k0_t1.sl.r_76,
      trip_k0_t1.sl.r_77, trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89, trip_k0_t1.sl.r_90,
      trip_k0_t1.sl.r_91, trip_k0_t1.sl.r_92, trip_k0_t1.sl.r_93, trip_k0_t1.sl.r_94, trip_k0_t1.sl.r_95, trip_k0_t1.sl.r_96, trip_k0_t1.sl.r_97,
      trip_k0_t1.sl.r_98, trip_k0_t1.sl.r_99, trip_k0_t1.sl.r_100, trip_k0_t1.sl.r_101, trip_k0_t1.sl.r_102, trip_k0_t1.sl.r_103, trip_k0_t1.sl.r_104,
      trip_k0_t1.sl.r_105, trip_k0_t1.sl.r_106, trip_k0_t1.sl.r_107, trip_k0_t1.sl.r_108, trip_k0_t1.sl.r_109, trip_k0_t1.sl.r_110, k0_pay5, k0_pay6,
      k0_pay7, k0_pay8, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142, k0_pay143,
      k0_pay685, k0_pay686, k0_pay687, k0_pay688,
      hv6, hv8, hv10, hv13, hacc, h13, h14, h7, h8, hB,
      addf_arr, subf_arr, mulf_arr, minimumf_arr, absf_arr, exp_arr, log_arr_one_add_exp, truncf_arr, extf_arr, select_arr,
      zero_arr, RealArr.zero_arr', constZero_arr, one_arr, scale_arr, slice_arr, slice_msk, shapeCast_arr, KernelDots.copies, rowSum_arr,
      concat4_eq, concat4_arr, concat2_eq, concat2_arr, zero_add, sub_self, lbf_fold, nn_zero, add_zero, multiReduction,
      KernelDots.rowSums, KernelDots.score1, KernelDots.score2, KernelDots.prefixes, KernelDots.rows1, KernelDots.rows2,
      KernelDots.cols1, KernelDots.cols2]
  simp only [all_ite, bEll_def, bWgt_def, bDz_def, bGrad_def, pairWgt_def, pairDz_def, midCP_def, midCG_def, endCP_def, endCG_def, second_def]

end Cert.TripPair

end
-- ==== Proof.StepPair.lean ====
/-
  ONE STEP OF A POINT, two blocks left of the diagonal: the trip leads from the state before the columns from `b` to the state
  512 columns later.
-/
module

public import proofs.«01_k».proof.Proof.TripPair
public import proofs.«01_k».proof.Proof.State

@[expose] public section

set_option maxHeartbeats 4000000

noncomputable section

namespace Cert.StepPair

open Idealize.ShloMosaic Idealize.SL.Sem Cert.KernelIdeal Cert.KernelIdeal.Gen Cert.RealArr Cert.Stick Cert.State

variable {Q K V D : ℕ → ℕ → ℝ} {T : ℕ → ℝ} {a b : ℕ}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (k : Fin (k0_t1_loop i).trips) (acc : FVec Ideal S256x1 .f32 × FVec Ideal S256x1 .f32 × FVec Ideal S256x128 .f32)
  (f_arg11 : BufTy.Contents (Elt Ideal) arg11.view.ty) (f_arg12 : BufTy.Contents (Elt Ideal) arg12.view.ty)

/-- The step. -/
theorem step (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ho : (k0_off1 i k) = ![b, 0]) (hab : b + 512 ≤ a)
    (h : At Q K V D T arg11.view arg12.view a b acc f_arg11 f_arg12) :
    At Q K V D T arg11.view arg12.view a (b + 512) ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).1 acc f_arg11 f_arg12)
      (arg11.view.writes (Elt Ideal) f_arg11 ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.1 acc f_arg11 f_arg12))
      (arg12.view.writes (Elt Ideal) f_arg12 ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k).2.2.1 acc f_arg11 f_arg12)) := by
  have k13 := fun hb => rows_bf16 (W := 512) X_arg13 h13 ho hb
  have k14 := fun hb => rows_bf16 (W := 512) X_arg14 h14 ho hb
  have k7 := all_bf16 X_arg7 h7 inb_S256x256_S256x256_0_0
  have k8 := all_bf16 X_arg8 h8 inb_S256x256_S256x256_0_0
  have k11 := fun hb => rows_f32 (W := 512) f_arg11 h.keys ho hb
  have k12 := fun hb => rows_f32 (W := 512) f_arg12 h.vals ho hb
  have B : Block Q K V D a b all (nt 128 (fun r c => Q (a + r) c) (fun r c => K (b + r) c)) (nt 128 (fun r c => D (a + r) c) (fun r c => V (b + r) c)) :=
    ⟨fun r _ c _ => ⟨fun _ => by omega, fun _ => rfl⟩, fun _ _ _ _ => rfl, fun _ _ _ _ => rfl⟩
  have B' : Block Q K V D a (b + 256) all (second (nt 128 (fun r c => Q (a + r) c) (fun r c => K (b + r) c))) (second (nt 128 (fun r c => D (a + r) c) (fun r c => V (b + r) c))) :=
    ⟨fun r _ c _ => ⟨fun _ => by omega, fun _ => rfl⟩,
      fun r _ c _ => by unfold second z nt; simp only [Nat.add_assoc],
      fun r _ c _ => by unfold second nt; simp only [Nat.add_assoc]⟩
  have hZ := fun r (hr : r < 256) c (hc : c < 512) => pairDz_eq B B' (T' := (fun r _ => T (a + r))) (T := T) (CP := (fun r _ => ellSum Q K (a + r) b)) (CG := (fun r _ => gradSum Q K V D T (a + r) b))
    (fun _ _ => rfl) (fun _ _ => rfl) (fun _ _ => rfl) hr hc
  have hW := fun r (hr : r < 256) c (hc : c < 512) => pairWgt_eq B B' (T' := (fun r _ => T (a + r))) (T := T) (CP := (fun r _ => ellSum Q K (a + r) b))
    (fun _ _ => rfl) (fun _ _ => rfl) hr hc
  exact h.next hZ hW ho (k0_off1_inb i k)
    (Cert.TripPair.sums c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => endCP_eq B B' (CP := (fun r _ => ellSum Q K (a + r) b)) (fun _ _ => rfl) hr)
    (Cert.TripPair.grads c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8) (fun r hr => endCG_eq B B' (T' := (fun r _ => T (a + r))) (T := T) (CP := (fun r _ => ellSum Q K (a + r) b)) (CG := (fun r _ => gradSum Q K V D T (a + r) b)) (fun _ _ => rfl) (fun _ _ => rfl) (fun _ _ => rfl) hr)
    (Cert.TripPair.queries c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8)
    (Cert.TripPair.keys c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off1_inb i k) k11)
    (Cert.TripPair.values c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 k acc f_arg11 f_arg12 hv6 hv8 hv10 hv13 h.sums k13 k14 k7 k8 (k0_off1_inb i k) k12)

end Cert.StepPair

end
-- ==== Proof.Sweep.lean ====
/-
  THE SWEEP of one point over the columns up to the diagonal: each of the loops leads from state to state. The loops over
  what the unrolling leaves over make no trip and change nothing.
-/
module

public import proofs.«01_k».proof.Proof.Counts
public import proofs.«01_k».proof.Proof.StepDiag
public import proofs.«01_k».proof.Proof.StepLast
public import proofs.«01_k».proof.Proof.StepPair

@[expose] public section

set_option maxHeartbeats 4000000

noncomputable section

namespace Cert.Sweep

open Idealize.ShloMosaic Idealize.SL.Sem Cert.KernelIdeal Cert.KernelIdeal.Gen Cert.RealArr Cert.Stick Cert.State

variable {Q K V D : ℕ → ℕ → ℝ} {T : ℕ → ℝ} {a b : ℕ}

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .hbm S8x128 .f32) (harg9 : arg9.IsWhole) (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)
  (arg1 : BitVec 32) (v6 : FVec Ideal S256x128 .bf16) (v8 : FVec Ideal S256x128 .bf16) (v10 : FVec Ideal S256x1 .f32) (v13 : IVec S256x256 1)
  (v14 : FVec Ideal S256x1 .f32) (v32 : FVec Ideal S256x128 .f32) (c0_i32_13 : BitVec 32) (v36 : BitVec 32) (v37 : BitVec 32)
  (X_arg7 : BufTy.Contents (Elt Ideal) arg7.view.ty) (X_arg8 : BufTy.Contents (Elt Ideal) arg8.view.ty)
  (X_arg13 : BufTy.Contents (Elt Ideal) arg13.view.ty) (X_arg14 : BufTy.Contents (Elt Ideal) arg14.view.ty)
  (G : BufTy.Contents (Elt Ideal) arg11.view.ty) (H : BufTy.Contents (Elt Ideal) arg12.view.ty)
  (init : FVec Ideal S256x1 .f32 × FVec Ideal S256x1 .f32 × FVec Ideal S256x128 .f32)

/-- The trips of two unmasked blocks. -/
theorem pairs (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ha : a = 256 * (i 1).val)
    (h : At Q K V D T arg11.view arg12.view a 0 init G H) (n : ℕ) (hn : n ≤ (i 1).val / 2) :
    At Q K V D T arg11.view arg12.view a (512 * n) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init n).1
      (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init n).2.1) (arg12.view.writes (Elt Ideal) H (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init n).2.2) := by
  induction n with
  | zero => exact h
  | succ n ih =>
    have hlt : n < (k0_t1_loop i).trips := by rw [Counts.trips1]; omega
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init ⟨n, hlt⟩
    have q := Cert.StepPair.step c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 ⟨n, hlt⟩ _ _ _ hv6 hv8 hv10 hv13 h13 h14 h7 h8 (b := 512 * n)
      (Counts.off1 i ⟨n, hlt⟩) (by omega) (ih (by omega))
    rw [← View.writes_append, ← View.writes_append] at q
    rw [show n + 1 = (⟨n, hlt⟩ : Fin (k0_t1_loop i).trips).val + 1 from rfl, e]
    exact q

/-- All the trips of two unmasked blocks. -/
theorem pairsAll (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ha : a = 256 * (i 1).val)
    (h : At Q K V D T arg11.view arg12.view a 0 init G H) :
    At Q K V D T arg11.view arg12.view a (512 * ((i 1).val / 2)) (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t1_loop i).trips).1
      (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t1_loop i).trips).2.1) (arg12.view.writes (Elt Ideal) H (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t1_loop i).trips).2.2) := by
  rw [Counts.trips1]
  exact pairs c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init hv6 hv8 hv10 hv13 h13 h14 h7 h8 ha h _ le_rfl

/-- The trip of two blocks of which the second is on the diagonal, if there is one. -/
theorem last (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ha : a = 256 * (i 1).val)
    (h : At Q K V D T arg11.view arg12.view a (512 * ((i 1).val / 2)) init G H) :
    At Q K V D T arg11.view arg12.view a (512 * ((i 1).val / 2) + 512 * ((i 1).val % 2)) (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t3_loop i).trips).1
      (arg11.view.writes (Elt Ideal) G (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t3_loop i).trips).2.1) (arg12.view.writes (Elt Ideal) H (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t3_loop i).trips).2.2) := by
  rw [Counts.trips3]
  rcases Nat.mod_two_eq_zero_or_one (i 1).val with p | p
  · rw [show (i 1).val % 2 = 0 from by omega]
    rw [show 512 * ((i 1).val / 2) + 512 * 0 = 512 * ((i 1).val / 2) from by omega]
    exact h
  · have hlt : 0 < (k0_t3_loop i).trips := by rw [Counts.trips3]; omega
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init ⟨0, hlt⟩
    have q := Cert.StepLast.step c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 ⟨0, hlt⟩ _ _ _ hv6 hv8 hv10 hv13 h13 h14 h7 h8 (b := 512 * ((i 1).val / 2))
      (Counts.off3 i p) (by omega) h
    have e' : st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init 1 = _ := e
    rw [show (i 1).val % 2 = 1 from by omega, e']
    simp only [View.writes_append]
    rw [show 512 * ((i 1).val / 2) + 512 * 1 = 512 * ((i 1).val / 2) + 512 from by omega]
    exact q

/-- The trip of the one block on the diagonal, if there is one. -/
theorem diag (hv6 : v6 = arr fun r c => Q (a + r) c) (hv8 : v8 = arr fun r c => D (a + r) c)
    (hv10 : v10 = arr fun r _ => T (a + r)) (hv13 : v13 = msk fun r c => decide (c < r))
    (h13 : arg13.view.read (Elt Ideal) X_arg13 = (arr K : S4096x128.Idx → EReal))
    (h14 : arg14.view.read (Elt Ideal) X_arg14 = (arr V : S4096x128.Idx → EReal))
    (h7 : arg7.view.read (Elt Ideal) X_arg7 = (arr incl : S256x256.Idx → EReal))
    (h8 : arg8.view.read (Elt Ideal) X_arg8 = (arr excl : S256x256.Idx → EReal))
    (ha : a = 256 * (i 1).val)
    (h : At Q K V D T arg11.view arg12.view a (512 * ((i 1).val / 2) + 512 * ((i 1).val % 2)) init G H) :
    At Q K V D T arg11.view arg12.view a (a + 256) (st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t5_loop i).trips).1
      (arg11.view.writes (Elt Ideal) G (st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t5_loop i).trips).2.1) (arg12.view.writes (Elt Ideal) H (st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init (k0_t5_loop i).trips).2.2) := by
  rw [Counts.trips5]
  rcases Nat.mod_two_eq_zero_or_one (i 1).val with p | p
  · rw [show 512 * ((i 1).val / 2) + 512 * ((i 1).val % 2) = a from by omega] at h
    have hlt : 0 < (k0_t5_loop i).trips := by rw [Counts.trips5]; omega
    have e := st_k0_t5_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init ⟨0, hlt⟩
    have q := Cert.StepDiag.step c i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 ⟨0, hlt⟩ _ _ _ hv6 hv8 hv10 hv13 h13 h14 h7 h8 (b := a)
      ((Counts.off5 i).trans (by rw [← ha])) rfl h
    have e' : st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 X_arg7 X_arg8 X_arg13 X_arg14 G H init 1 = _ := e
    rw [show 1 - (i 1).val % 2 = 1 from by omega, e']
    simp only [View.writes_append]
    exact q
  · rw [show 1 - (i 1).val % 2 = 0 from by omega, show a + 256 = 512 * ((i 1).val / 2) + 512 * ((i 1).val % 2) from by omega]
    exact h

/-- No trip. -/
theorem rest2 (h : At Q K V D T arg11.view arg12.view a b init G H) :
    At Q K V D T arg11.view arg12.view a b (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t2_loop i).trips).1
      (arg11.view.writes (Elt Ideal) G (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t2_loop i).trips).2.1) (arg12.view.writes (Elt Ideal) H (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t2_loop i).trips).2.2) := by
  rw [Counts.trips2]
  exact h

/-- No trip. -/
theorem rest4 (h : At Q K V D T arg11.view arg12.view a b init G H) :
    At Q K V D T arg11.view arg12.view a b (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t4_loop i).trips).1
      (arg11.view.writes (Elt Ideal) G (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t4_loop i).trips).2.1) (arg12.view.writes (Elt Ideal) H (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v14 v32 c0_i32_13 v36 v37 X_arg7 X_arg8 X_arg13 X_arg14 G H init (k0_t4_loop i).trips).2.2) := by
  rw [Counts.trips4]
  exact h

/-- No trip. -/
theorem rest6 (h : At Q K V D T arg11.view arg12.view a b init G H) :
    At Q K V D T arg11.view arg12.view a b (st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v36 v37 X_arg7 X_arg8 X_arg13 X_arg14 G H init (k0_t6_loop i).trips).1
      (arg11.view.writes (Elt Ideal) G (st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v36 v37 X_arg7 X_arg8 X_arg13 X_arg14 G H init (k0_t6_loop i).trips).2.1) (arg12.view.writes (Elt Ideal) H (st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v6 v8 v10 v13 v36 v37 X_arg7 X_arg8 X_arg13 X_arg14 G H init (k0_t6_loop i).trips).2.2) := by
  rw [Counts.trips6]
  exact h

end Cert.Sweep

end
-- ==== Proof.PointIn.lean ====
/-
  THE OPERANDS of one point: what the point makes of the blocks it loads before its loops, as real arrays, and what its
  whole-block stores leave.
-/
module

public import proofs.«01_k».proof.Proof.Gen.KernelIdeal.Value
public import proofs.«01_k».proof.Proof.State
public import Idealize.ShloMosaic.Lib.Pipeline.Frame

@[expose] public section

noncomputable section

namespace Cert.PointIn

open Idealize.ShloMosaic Idealize.SL.Sem Cert.KernelIdeal Cert.KernelIdeal.Gen Cert.RealArr Cert.Stick Cert.State

variable {q K D : ℕ → ℕ → ℝ} {T : ℕ → ℝ} {a : ℕ}

theorem slt_nat (m n : ℕ) (hm : m < 256) (hn : n < 256) :
    (BitVec.ofNat 32 m).slt (BitVec.ofNat 32 n) = decide (m < n) := by
  rw [BitVec.slt_eq_decide, BitVec.toInt_ofNat', BitVec.toInt_ofNat', Int.bmod_eq_of_le (by omega) (by omega), Int.bmod_eq_of_le (by omega) (by omega)]
  congr 1
  exact propext Int.ofNat_lt

/-- The mask of the block on the diagonal: the key comes before the query. -/
theorem mask : k0_pay682 = msk fun r c => decide (c < r) := by
  funext i
  show BitVec.ofBool ((BitVec.ofNat 32 (0 * 256 + (i 1).val)).slt (BitVec.ofNat 32 (0 * 256 + (i 0).val)))
    = if decide ((i 1).val < (i 0).val) then 1#1 else 0#1
  rw [Nat.zero_mul, Nat.zero_add, Nat.zero_add, slt_nat _ _ (i 1).isLt (i 0).isLt]
  cases decide ((i 1).val < (i 0).val) <;> rfl

theorem zeros1 : k0_pay683 (F := Ideal) = arr fun _ _ => 0 := zero_arr

theorem zeros2 : k0_pay684 (F := Ideal) = arr fun _ _ => 0 := zero_arr

/-- The whole of a block of reals, loaded. -/
theorem all_f32 {κ : Kind} {sp : Space} {n m : ℕ} {u : View sig κ sp ⟨2, ![n, m]⟩ .f32} {B : ℕ → ℕ → ℝ} (f : u.ty.Contents (Elt Ideal))
    (hB : u.read (Elt Ideal) f = (arr B : (⟨2, ![n, m]⟩ : Shape).Idx → EReal))
    (hb : ∀ a, (![0, 0] : Fin 2 → ℕ) a + (⟨2, ![n, m]⟩ : Shape).size a ≤ (⟨2, ![n, m]⟩ : Shape).size a) :
    u.readAt (Elt Ideal) (Rect.unit (s := ⟨2, ![n, m]⟩) ![0, 0] (⟨2, ![n, m]⟩ : Shape).size hb).toLoadRect f
      = (arr B : (⟨2, ![n, m]⟩ : Shape).Idx → EReal) :=
  Buffers.readAt_all u f (B := fun r c => ((B r c : ℝ) : EReal)) hB hb

/-- The scaled queries. -/
theorem queries (v : FVec Ideal S256x128 .f32) (h : v = arr fun r c => q (a + r) c) :
    k0_pay679 (F := Ideal) v = arr fun r c => (fun t c => q t c * scale) (a + r) c := by
  subst h
  unfold k0_pay679
  dsimp only
  rw [scale_arr, mulf_arr]
  rfl

/-- The first column of a block whose rows hold the totals. -/
theorem col {κ : Kind} {sp : Space} {u : View sig κ sp S256x128 .f32} (f : u.ty.Contents (Elt Ideal))
    (hB : u.read (Elt Ideal) f = (arr (fun r _ => T (a + r)) : S256x128.Idx → EReal)) :
    u.readAt (Elt Ideal) (Rect.unit (s := S256x128) ![0, 0] S256x1.size inb_S256x128_S256x1_0_0).toLoadRect f
      = (arr (fun r _ => T (a + r)) : S256x1.Idx → EReal) := by
  funext y
  show u.read (Elt Ideal) f _ = _
  rw [hB]
  show ((T (a + (0 + 1 * (y 0).val)) : ℝ) : EReal) = ((T (a + (y 0).val) : ℝ) : EReal)
  rw [Nat.zero_add, Nat.one_mul]

theorem totals (v : Vec Ideal S256x1 .f32) (h : v = (arr (fun r _ => T (a + r)) : S256x1.Idx → EReal)) :
    k0_pay681 (F := Ideal) v = arr fun r _ => T (a + r) := by
  subst h
  unfold k0_pay681
  dsimp only
  exact shapeCast_arr _

theorem keys (v : Vec Ideal S4096x128 .f32) (h : v = (arr K : S4096x128.Idx → EReal)) :
    k0_pay677 (F := Ideal) v = arr K := by
  subst h
  unfold k0_pay677
  dsimp only
  exact shapeCast_arr _

theorem vals (v : Vec Ideal S4096x128 .f32) (h : v = (arr K : S4096x128.Idx → EReal)) :
    k0_pay678 (F := Ideal) v = arr K := by
  subst h
  unfold k0_pay678
  dsimp only
  exact shapeCast_arr _

/-- The start of the sweep: nothing summed, the buffers as the rows before `a` left them. -/
theorem start {κ κ' : Kind} {sp sp' : Space} {v : View sig κ sp S4096x128 .f32} {w : View sig κ' sp' S4096x128 .f32}
    {Q K V D : ℕ → ℕ → ℝ} {f : v.ty.Contents (Elt Ideal)} {g : w.ty.Contents (Elt Ideal)}
    (hf : v.read (Elt Ideal) f = (arr (dk Q K V D T a) : S4096x128.Idx → EReal))
    (hg : w.read (Elt Ideal) g = (arr (dv Q K D T a) : S4096x128.Idx → EReal)) :
    At Q K V D T v w a 0 (k0_pay683, k0_pay683, k0_pay684) f g := by
  refine ⟨?_, ?_, ?_⟩
  · rw [zeros1, zeros2]
    rfl
  · rw [hf]
    exact arr_congr fun s _ c _ => (keysAt_zero s c).symm
  · rw [hg]
    exact arr_congr fun s _ c _ => (valsAt_zero s c).symm

end Cert.PointIn

end
-- ==== Proof.Point.lean ====
/-
  ONE POINT: what the point of the rows from `a` stores. Its block of the queries' gradient is complete; the buffers of the
  keys' and the values' gradients then hold the sums over the rows before `a + 256`.
-/
module

public import proofs.«01_k».proof.Proof.Sweep
public import proofs.«01_k».proof.Proof.PointIn

@[expose] public section

set_option maxHeartbeats 4000000
set_option maxRecDepth 8192

noncomputable section

namespace Cert.Point

open Idealize.ShloMosaic Idealize.SL.Sem Cert.KernelIdeal Cert.KernelIdeal.Gen Cert.RealArr Cert.Stick Cert.State Cert.PointIn

variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)

/-- A point that is not the first of its head. -/
theorem pointB {a : ℕ} {q K V D : ℕ → ℕ → ℝ} {T : ℕ → ℝ} (hc0 : ¬cond0_0 i)
  (x0 : Vec Ideal S256x128 .f32) (x1 : Vec Ideal S4096x128 .f32) (x2 : Vec Ideal S4096x128 .f32) (x3 : Vec Ideal S256x128 .f32)
  (x4 : Vec Ideal S256x128 .f32) (x5 : Vec Ideal S256x256 .bf16) (x6 : Vec Ideal S256x256 .bf16)
  (xo8 : Vec Ideal S4096x128 .f32) (xo9 : Vec Ideal S4096x128 .f32) (xs0 : Vec Ideal S4096x128 .bf16) (xs1 : Vec Ideal S4096x128 .bf16)
  (h0 : x0 = (arr (fun r c => q (a + r) c) : S256x128.Idx → EReal))
    (h1 : x1 = (arr K : S4096x128.Idx → EReal)) (h2 : x2 = (arr V : S4096x128.Idx → EReal))
    (h3 : x3 = (arr (fun r _ => T (a + r)) : S256x128.Idx → EReal)) (h4 : x4 = (arr (fun r c => D (a + r) c) : S256x128.Idx → EReal))
    (h5 : x5 = (arr incl : S256x256.Idx → EReal)) (h6 : x6 = (arr excl : S256x256.Idx → EReal)) (ha : a = 256 * (i 1).val)
    (h8 : xo8 = (arr (dk (fun t c => q t c * scale) K V D T a) : S4096x128.Idx → EReal)) (h9 : xo9 = (arr (dv (fun t c => q t c * scale) K D T a) : S4096x128.Idx → EReal))
    (hs0 : xs0 = (arr K : S4096x128.Idx → EReal)) (hs1 : xs1 = (arr V : S4096x128.Idx → EReal)) :
    (∃ hb, (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).1 = [⟨Rect.unit (s := S256x128) ![0, 0] S256x128.size hb,
        (arr (fun r c => dq (fun t c => q t c * scale) K V D T (a + 256) (a + r) c * scale) : S256x128.Idx → EReal)⟩])
    ∧ arg11.view.read (Elt Ideal) (arg11.view.writes (Elt Ideal) (harg11.unread xo8) (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).2.1) = (arr (dk (fun t c => q t c * scale) K V D T (a + 256)) : S4096x128.Idx → EReal)
    ∧ arg12.view.read (Elt Ideal) (arg12.view.writes (Elt Ideal) (harg12.unread xo9) (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).2.2.1) = (arr (dv (fun t c => q t c * scale) K D T (a + 256)) : S4096x128.Idx → EReal) := by
  have hv6 : kernelRun0_B.sl.r (F := Ideal) c arg2 harg2 x0 = arr fun r c => (fun t c => q t c * scale) (a + r) c :=
    queries _ (all_f32 _ ((harg2.read_unread x0).trans h0) inb_S256x128_S256x128_0_0)
  have hv8 : kernelRun0_B.sl.r_1 (F := Ideal) c arg6 harg6 x4 = arr fun r c => D (a + r) c :=
    all_f32 _ ((harg6.read_unread x4).trans h4) inb_S256x128_S256x128_0_0
  have hv10 : kernelRun0_B.sl.r_2 (F := Ideal) c arg5 harg5 x3 = arr fun r _ => T (a + r) :=
    totals _ (col _ ((harg5.read_unread x3).trans h3))
  have r7 : arg7.view.read (Elt Ideal) (harg7.unread x5) = (arr incl : S256x256.Idx → EReal) := (harg7.read_unread x5).trans h5
  have r8 : arg8.view.read (Elt Ideal) (harg8.unread x6) = (arr excl : S256x256.Idx → EReal) := (harg8.read_unread x6).trans h6
  have r13 : arg13.view.read (Elt Ideal) (harg13.unread xs0) = (arr K : S4096x128.Idx → EReal) := (harg13.read_unread xs0).trans hs0
  have r14 : arg14.view.read (Elt Ideal) (harg14.unread xs1) = (arr V : S4096x128.Idx → EReal) := (harg14.read_unread xs1).trans hs1
  have r11 := (harg11.read_unread xo8).trans h8
  have r12 := (harg12.read_unread xo9).trans h9
  have a1 := Sweep.pairsAll c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682 k0_pay683 k0_pay684 0#32 (kernelRun0_B.sl.v36 i)
    (harg7.unread x5) (harg8.unread x6) (harg13.unread xs0) (harg14.unread xs1) (harg11.unread xo8) (harg12.unread xo9) _ hv6 hv8 hv10 mask r13 r14 r7 r8 ha (start r11 r12)
  generalize e1 : st_k0_t1 (F := Ideal) _ _ _ _ _ _ _ _ _ _ _ _ _ _ _ _ _ _ _ _ _ _ _ _ _ _ _ _ _ _ _ _ _ _ _ _ _ _ _ _ _ _ _ _ _ _ _ = S1 at a1
  have a2 := Sweep.rest2 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682 k0_pay683 k0_pay684 0#32 (kernelRun0_B.sl.v36 i) (kernelRun0_B.sl.v37 i) (harg7.unread x5) (harg8.unread x6) (harg13.unread xs0) (harg14.unread xs1) _ _ _ a1
  generalize e2 : st_k0_t2 (F := Ideal) _ _ _ _ _ _ _ _ _ _ _ _ _ _ _ _ _ _ _ _ _ _ _ _ _ _ _ _ _ _ _ _ _ _ _ _ _ _ _ _ _ _ _ _ _ _ _ _ = S2 at a2
  have a3 := Sweep.last c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682 k0_pay683 k0_pay684 0#32 (kernelRun0_B.sl.v36 i) (harg7.unread x5) (harg8.unread x6) (harg13.unread xs0) (harg14.unread xs1) _ _ _ hv6 hv8 hv10 mask r13 r14 r7 r8 ha a2
  generalize e3 : st_k0_t3 (F := Ideal) _ _ _ _ _ _ _ _ _ _ _ _ _ _ _ _ _ _ _ _ _ _ _ _ _ _ _ _ _ _ _ _ _ _ _ _ _ _ _ _ _ _ _ _ _ _ _ = S3 at a3
  have a4 := Sweep.rest4 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682 k0_pay683 k0_pay684 0#32 (kernelRun0_B.sl.v36 i) (kernelRun0_B.sl.v54 i) (harg7.unread x5) (harg8.unread x6) (harg13.unread xs0) (harg14.unread xs1) _ _ _ a3
  generalize e4 : st_k0_t4 (F := Ideal) _ _ _ _ _ _ _ _ _ _ _ _ _ _ _ _ _ _ _ _ _ _ _ _ _ _ _ _ _ _ _ _ _ _ _ _ _ _ _ _ _ _ _ _ _ _ _ _ = S4 at a4
  have a5 := Sweep.diag c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682 k0_pay683 k0_pay684 0#32 (kernelRun0_B.sl.v36 i) (harg7.unread x5) (harg8.unread x6) (harg13.unread xs0) (harg14.unread xs1) _ _ _ hv6 hv8 hv10 mask r13 r14 r7 r8 ha a4
  generalize e5 : st_k0_t5 (F := Ideal) _ _ _ _ _ _ _ _ _ _ _ _ _ _ _ _ _ _ _ _ _ _ _ _ _ _ _ _ _ _ _ _ _ _ _ _ _ _ _ _ _ _ _ _ _ _ _ = S5 at a5
  have a6 := Sweep.rest6 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_B.sl.r c arg2 harg2 x0) (kernelRun0_B.sl.r_1 c arg6 harg6 x4) (kernelRun0_B.sl.r_2 c arg5 harg5 x3) k0_pay682
    (kernelRun0_B.sl.v72 i) 1#32 (harg7.unread x5) (harg8.unread x6) (harg13.unread xs0) (harg14.unread xs1) _ _ _ a5
  generalize e6 : st_k0_t6 (F := Ideal) _ _ _ _ _ _ _ _ _ _ _ _ _ _ _ _ _ _ _ _ _ _ _ _ _ _ _ _ _ _ _ _ _ _ _ _ _ _ _ _ _ _ _ _ _ = S6 at a6
  clear a1 a2 a3 a4 a5
  simp only [← View.writes_append] at a6 e2 e3 e4 e5 e6
  obtain ⟨t1, t2, t3⟩ := a6
  have R1 : (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).1 = [⟨Rect.unit (s := S256x128) ![0, 0] S256x128.size inb_S256x128_S256x128_0_0, k0_pay4 S6.1.2.2⟩] := by
    unfold kernelRun0_B
    dsimp only
    simp only [kernelRun0_B.sl.r_3, kernelRun0_B.sl.r_4, kernelRun0_B.sl.r_5, Prod.mk.eta, e1, e2, e3, e4, e5, e6]
  have R2 : (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).2.1 = S6.2.1 ++ (S5.2.1 ++ (S4.2.1 ++ (S3.2.1 ++ (S2.2.1 ++ S1.2.1)))) := by
    unfold kernelRun0_B
    dsimp only
    simp only [kernelRun0_B.sl.r_3, kernelRun0_B.sl.r_4, kernelRun0_B.sl.r_5, Prod.mk.eta, e1, e2, e3, e4, e5, e6]
  have R3 : (kernelRun0_B (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1).2.2.1 = S6.2.2 ++ (S5.2.2 ++ (S4.2.2 ++ (S3.2.2 ++ (S2.2.2 ++ S1.2.2)))) := by
    unfold kernelRun0_B
    dsimp only
    simp only [kernelRun0_B.sl.r_3, kernelRun0_B.sl.r_4, kernelRun0_B.sl.r_5, Prod.mk.eta, e1, e2, e3, e4, e5, e6]
  refine ⟨⟨inb_S256x128_S256x128_0_0, ?_⟩, ?_, ?_⟩
  · have e : ∀ X : FVec Ideal S256x128 .f32, X = (arr (fun r c => dq (fun t c => q t c * scale) K V D T (a + 256) (a + r) c)) →
        [(⟨Rect.unit (s := S256x128) ![0, 0] S256x128.size inb_S256x128_S256x128_0_0, k0_pay4 X⟩ : View.Piece (Elt Ideal) S256x128 .f32)]
          = [⟨Rect.unit (s := S256x128) ![0, 0] S256x128.size inb_S256x128_S256x128_0_0,
              (arr (fun r c => dq (fun t c => q t c * scale) K V D T (a + 256) (a + r) c * scale) : S256x128.Idx → EReal)⟩] := by
      intro X hX
      subst hX
      unfold k0_pay4
      dsimp only
      rw [scale_arr, mulf_arr]
    exact R1.trans (e _ (congrArg (fun p => p.2.2) t1))
  · rw [R2]
    exact (t2.trans (arr_congr fun s _ c _ => keysAt_full s c))
  · rw [R3]
    exact (t3.trans (arr_congr fun s _ c _ => valsAt_full s c))

/-- The first point of a head. -/
theorem pointA {a : ℕ} {q K V D : ℕ → ℕ → ℝ} {T : ℕ → ℝ} (hc0 : cond0_0 i)
  (x0 : Vec Ideal S256x128 .f32) (x1 : Vec Ideal S4096x128 .f32) (x2 : Vec Ideal S4096x128 .f32) (x3 : Vec Ideal S256x128 .f32)
  (x4 : Vec Ideal S256x128 .f32) (x5 : Vec Ideal S256x256 .bf16) (x6 : Vec Ideal S256x256 .bf16)
  (h0 : x0 = (arr (fun r c => q (a + r) c) : S256x128.Idx → EReal))
    (h1 : x1 = (arr K : S4096x128.Idx → EReal)) (h2 : x2 = (arr V : S4096x128.Idx → EReal))
    (h3 : x3 = (arr (fun r _ => T (a + r)) : S256x128.Idx → EReal)) (h4 : x4 = (arr (fun r c => D (a + r) c) : S256x128.Idx → EReal))
    (h5 : x5 = (arr incl : S256x256.Idx → EReal)) (h6 : x6 = (arr excl : S256x256.Idx → EReal)) (ha : a = 256 * (i 1).val) (hz : a = 0) :
    (∃ hb, (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).1 = [⟨Rect.unit (s := S256x128) ![0, 0] S256x128.size hb,
        (arr (fun r c => dq (fun t c => q t c * scale) K V D T (a + 256) (a + r) c * scale) : S256x128.Idx → EReal)⟩])
    ∧ arg11.view.read (Elt Ideal) (arg11.view.writes (Elt Ideal) arg11.view.junk (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.1) = (arr (dk (fun t c => q t c * scale) K V D T (a + 256)) : S4096x128.Idx → EReal)
    ∧ arg12.view.read (Elt Ideal) (arg12.view.writes (Elt Ideal) arg12.view.junk (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.2.1) = (arr (dv (fun t c => q t c * scale) K D T (a + 256)) : S4096x128.Idx → EReal)
    ∧ (∃ hb, (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.2.2.1 = [⟨Rect.unit (s := S4096x128) ![0, 0] S4096x128.size hb, (arr K : S4096x128.Idx → EReal)⟩])
    ∧ (∃ hb, (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.2.2.2.1 = [⟨Rect.unit (s := S4096x128) ![0, 0] S4096x128.size hb, (arr V : S4096x128.Idx → EReal)⟩]) := by
  have hv6 : kernelRun0_A.sl.r (F := Ideal) c arg2 harg2 x0 = arr fun r c => (fun t c => q t c * scale) (a + r) c :=
    queries _ (all_f32 _ ((harg2.read_unread x0).trans h0) inb_S256x128_S256x128_0_0)
  have hv8 : kernelRun0_A.sl.r_1 (F := Ideal) c arg6 harg6 x4 = arr fun r c => D (a + r) c :=
    all_f32 _ ((harg6.read_unread x4).trans h4) inb_S256x128_S256x128_0_0
  have hv10 : kernelRun0_A.sl.r_2 (F := Ideal) c arg5 harg5 x3 = arr fun r _ => T (a + r) :=
    totals _ (col _ ((harg5.read_unread x3).trans h3))
  have r7 : arg7.view.read (Elt Ideal) (harg7.unread x5) = (arr incl : S256x256.Idx → EReal) := (harg7.read_unread x5).trans h5
  have r8 : arg8.view.read (Elt Ideal) (harg8.unread x6) = (arr excl : S256x256.Idx → EReal) := (harg8.read_unread x6).trans h6
  have s0 : kernelRun0_A.sl.HS0_1 (F := Ideal) c arg3 harg3 x1
      = [⟨Rect.unit (s := S4096x128) ![0, 0] S4096x128.size inb_S4096x128_S4096x128_0_0, (arr K : S4096x128.Idx → EReal)⟩] := by
    unfold kernelRun0_A.sl.HS0_1
    rw [keys _ (all_f32 _ ((harg3.read_unread x1).trans h1) inb_S4096x128_S4096x128_0_0)]
  have s1 : kernelRun0_A.sl.HS1_1 (F := Ideal) c arg4 harg4 x2
      = [⟨Rect.unit (s := S4096x128) ![0, 0] S4096x128.size inb_S4096x128_S4096x128_0_0, (arr V : S4096x128.Idx → EReal)⟩] := by
    unfold kernelRun0_A.sl.HS1_1
    rw [vals _ (all_f32 _ ((harg4.read_unread x2).trans h2) inb_S4096x128_S4096x128_0_0)]
  have r13 : arg13.view.read (Elt Ideal) (arg13.view.writes (Elt Ideal) arg13.view.junk (kernelRun0_A.sl.HS0_1 c arg3 harg3 x1)) = (arr K : S4096x128.Idx → EReal) := by
    rw [s0]
    exact View.read_writes_full _ _ _ _ _
  have r14 : arg14.view.read (Elt Ideal) (arg14.view.writes (Elt Ideal) arg14.view.junk (kernelRun0_A.sl.HS1_1 c arg4 harg4 x2)) = (arr V : S4096x128.Idx → EReal) := by
    rw [s1]
    exact View.read_writes_full _ _ _ _ _
  have r11 : arg11.view.read (Elt Ideal) (arg11.view.writes (Elt Ideal) arg11.view.junk kernelRun0_A.sl.H8_1) = (arr (dk (fun t c => q t c * scale) K V D T a) : S4096x128.Idx → EReal) := by
    subst hz
    refine (View.read_writes_full _ _ _ _ _).trans ((show k0_pay675 (F := Ideal) = _ from zero_arr).trans (arr_congr fun s _ c _ => ?_))
    exact (Finset.sum_range_zero _).symm
  have r12 : arg12.view.read (Elt Ideal) (arg12.view.writes (Elt Ideal) arg12.view.junk kernelRun0_A.sl.H9_1) = (arr (dv (fun t c => q t c * scale) K D T a) : S4096x128.Idx → EReal) := by
    subst hz
    refine (View.read_writes_full _ _ _ _ _).trans ((show k0_pay676 (F := Ideal) = _ from zero_arr).trans (arr_congr fun s _ c _ => ?_))
    exact (Finset.sum_range_zero _).symm
  have a1 := Sweep.pairsAll c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682 k0_pay683 k0_pay684 0#32 (kernelRun0_A.sl.v36 i)
    (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) (arg11.view.writes (Elt Ideal) arg11.view.junk kernelRun0_A.sl.H8_1) (arg12.view.writes (Elt Ideal) arg12.view.junk kernelRun0_A.sl.H9_1) _ hv6 hv8 hv10 mask r13 r14 r7 r8 ha (start r11 r12)
  generalize e1 : st_k0_t1 (F := Ideal) _ _ _ _ _ _ _ _ _ _ _ _ _ _ _ _ _ _ _ _ _ _ _ _ _ _ _ _ _ _ _ _ _ _ _ _ _ _ _ _ _ _ _ _ _ _ _ = S1 at a1
  have a2 := Sweep.rest2 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682 k0_pay683 k0_pay684 0#32 (kernelRun0_A.sl.v36 i) (kernelRun0_A.sl.v37 i) (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) _ _ _ a1
  generalize e2 : st_k0_t2 (F := Ideal) _ _ _ _ _ _ _ _ _ _ _ _ _ _ _ _ _ _ _ _ _ _ _ _ _ _ _ _ _ _ _ _ _ _ _ _ _ _ _ _ _ _ _ _ _ _ _ _ = S2 at a2
  have a3 := Sweep.last c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682 k0_pay683 k0_pay684 0#32 (kernelRun0_A.sl.v36 i) (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) _ _ _ hv6 hv8 hv10 mask r13 r14 r7 r8 ha a2
  generalize e3 : st_k0_t3 (F := Ideal) _ _ _ _ _ _ _ _ _ _ _ _ _ _ _ _ _ _ _ _ _ _ _ _ _ _ _ _ _ _ _ _ _ _ _ _ _ _ _ _ _ _ _ _ _ _ _ = S3 at a3
  have a4 := Sweep.rest4 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682 k0_pay683 k0_pay684 0#32 (kernelRun0_A.sl.v36 i) (kernelRun0_A.sl.v54 i) (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) _ _ _ a3
  generalize e4 : st_k0_t4 (F := Ideal) _ _ _ _ _ _ _ _ _ _ _ _ _ _ _ _ _ _ _ _ _ _ _ _ _ _ _ _ _ _ _ _ _ _ _ _ _ _ _ _ _ _ _ _ _ _ _ _ = S4 at a4
  have a5 := Sweep.diag c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682 k0_pay683 k0_pay684 0#32 (kernelRun0_A.sl.v36 i) (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) _ _ _ hv6 hv8 hv10 mask r13 r14 r7 r8 ha a4
  generalize e5 : st_k0_t5 (F := Ideal) _ _ _ _ _ _ _ _ _ _ _ _ _ _ _ _ _ _ _ _ _ _ _ _ _ _ _ _ _ _ _ _ _ _ _ _ _ _ _ _ _ _ _ _ _ _ _ = S5 at a5
  have a6 := Sweep.rest6 c i arg2 harg2 arg3 harg3 arg4 harg4 arg5 harg5 arg6 harg6 arg7 harg7 arg8 harg8 (Memref.whole main_v24) (Memref.isWhole_whole _) arg10 harg10 arg11 harg11 arg12 harg12 arg13 harg13 arg14 harg14 (BitVec.ofNat 32 (i 1).val) (kernelRun0_A.sl.r c arg2 harg2 x0) (kernelRun0_A.sl.r_1 c arg6 harg6 x4) (kernelRun0_A.sl.r_2 c arg5 harg5 x3) k0_pay682
    (kernelRun0_A.sl.v72 i) 1#32 (harg7.unread x5) (harg8.unread x6) (arg13.view.writes (Elt Ideal) arg13.view.junk (kernelRun0_A.sl.HS0_1 c arg3 harg3 x1)) (arg14.view.writes (Elt Ideal) arg14.view.junk (kernelRun0_A.sl.HS1_1 c arg4 harg4 x2)) _ _ _ a5
  generalize e6 : st_k0_t6 (F := Ideal) _ _ _ _ _ _ _ _ _ _ _ _ _ _ _ _ _ _ _ _ _ _ _ _ _ _ _ _ _ _ _ _ _ _ _ _ _ _ _ _ _ _ _ _ _ = S6 at a6
  clear a1 a2 a3 a4 a5
  simp only [← View.writes_append] at a6 e1 e2 e3 e4 e5 e6
  obtain ⟨t1, t2, t3⟩ := a6
  have R1 : (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).1 = [⟨Rect.unit (s := S256x128) ![0, 0] S256x128.size inb_S256x128_S256x128_0_0, k0_pay4 S6.1.2.2⟩] := by
    unfold kernelRun0_A
    dsimp only
    simp only [kernelRun0_A.sl.r_3, kernelRun0_A.sl.r_4, kernelRun0_A.sl.r_5, Prod.mk.eta, e1, e2, e3, e4, e5, e6]
  have R2 : (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.1 = S6.2.1 ++ (S5.2.1 ++ (S4.2.1 ++ (S3.2.1 ++ (S2.2.1 ++ (S1.2.1 ++ kernelRun0_A.sl.H8_1))))) := by
    unfold kernelRun0_A
    dsimp only
    simp only [kernelRun0_A.sl.r_3, kernelRun0_A.sl.r_4, kernelRun0_A.sl.r_5, Prod.mk.eta, e1, e2, e3, e4, e5, e6]
  have R3 : (kernelRun0_A (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6).2.2.1 = S6.2.2 ++ (S5.2.2 ++ (S4.2.2 ++ (S3.2.2 ++ (S2.2.2 ++ (S1.2.2 ++ kernelRun0_A.sl.H9_1))))) := by
    unfold kernelRun0_A
    dsimp only
    simp only [kernelRun0_A.sl.r_3, kernelRun0_A.sl.r_4, kernelRun0_A.sl.r_5, Prod.mk.eta, e1, e2, e3, e4, e5, e6]
  refine ⟨⟨inb_S256x128_S256x128_0_0, ?_⟩, ?_, ?_, ⟨inb_S4096x128_S4096x128_0_0, s0⟩, ⟨inb_S4096x128_S4096x128_0_0, s1⟩⟩
  · have e : ∀ X : FVec Ideal S256x128 .f32, X = (arr (fun r c => dq (fun t c => q t c * scale) K V D T (a + 256) (a + r) c)) →
        [(⟨Rect.unit (s := S256x128) ![0, 0] S256x128.size inb_S256x128_S256x128_0_0, k0_pay4 X⟩ : View.Piece (Elt Ideal) S256x128 .f32)]
          = [⟨Rect.unit (s := S256x128) ![0, 0] S256x128.size inb_S256x128_S256x128_0_0,
              (arr (fun r c => dq (fun t c => q t c * scale) K V D T (a + 256) (a + r) c * scale) : S256x128.Idx → EReal)⟩] := by
      intro X hX
      subst hX
      unfold k0_pay4
      dsimp only
      rw [scale_arr, mulf_arr]
    exact R1.trans (e _ (congrArg (fun p => p.2.2) t1))
  · rw [R2]
    exact (t2.trans (arr_congr fun s _ c _ => keysAt_full s c))
  · rw [R3]
    exact (t3.trans (arr_congr fun s _ c _ => valsAt_full s c))

end Cert.Point

end
-- ==== Proof.HeadMath.lean ====
/-
  THE HEADS over the reals. `U` and `W` are the two arguments; head `h` reads its queries, keys and values in 128 columns
  of `U` each, the gradient of its output in 128 columns of `W`. Below them the three gradients the call leaves.
-/
module

public import proofs.«01_k».proof.Proof.StickMath

@[expose] public section

noncomputable section

namespace Cert.Heads

open Cert.RealArr Cert.Stick

variable (U W : ℕ → ℕ → ℝ)

/-- Head `h`'s queries, not yet scaled, -/
def q (h t c : ℕ) : ℝ := U t (1536 + (128 * h + c))
/-- its keys, -/
def k (h s c : ℕ) : ℝ := U s (2560 + (128 * h + c))
/-- its values, -/
def v (h s c : ℕ) : ℝ := U s (3584 + (128 * h + c))
/-- the gradient of its output, -/
def d (h t c : ℕ) : ℝ := W t (128 * h + c)
/-- its scaled queries, -/
def qs (h t c : ℕ) : ℝ := q U h t c * scale
/-- and the sum of a row's remainders. -/
def tot (h t : ℕ) : ℝ := ellSum (qs U h) (k U h) t 4096

/-- The gradient of the queries, -/
def dqs (h t x : ℕ) : ℝ := dq (qs U h) (k U h) (v U h) (d W h) (tot U h) 4096 t x * scale
/-- of the keys, -/
def dks (h s x : ℕ) : ℝ := dk (qs U h) (k U h) (v U h) (d W h) (tot U h) 4096 s x
/-- and of the values. -/
def dvs (h s x : ℕ) : ℝ := dv (qs U h) (k U h) (d W h) (tot U h) 4096 s x

end Cert.Heads

end
-- ==== Proof.Heads.lean ====
/-
  THE BLOCKS the points find. `U` and `W` are the two arguments over the reals. Point `t` is the head `t / 16` at the queries
  `256 (t % 16)` and on.
-/
module

public import proofs.«01_k».proof.Proof.Gen.KernelIdeal.Value
public import proofs.«01_k».proof.Proof.HeadMath

@[expose] public section

noncomputable section

namespace Cert.Heads

open Idealize.ShloMosaic Idealize.ShloMosaic.TcCoe Idealize.SL.Sem Cert.KernelIdeal Cert.KernelIdeal.Gen Cert.RealArr Cert.Stick

variable (U W : ℕ → ℕ → ℝ)

variable (m : (ℓ : Loc nD τ sig) → Buf (Elt Ideal) ℓ) (c : Dev nD)

/-- What the points read: the first argument is `U` where the heads lie, the second is `W`, the totals and the two
    triangles are what the lines before the call make. -/
structure Found : Prop where
  u : ∀ i : S4096x6656.Idx, 1536 ≤ (i 1).val → (i 1).val < 4608 → (V m c main_arg0 : S4096x6656.Idx → EReal) i = ((U (i 0).val (i 1).val : ℝ) : EReal)
  w : (V m c main_arg1 : S4096x1024.Idx → EReal) = arr W
  t : (V m c main_v23 : S4096x1024.Idx → EReal) = arr fun t x => tot U (x / 128) t
  i : (V m c main_v29 : S256x256.Idx → EReal) = arr incl
  e : (V m c main_v34 : S256x256.Idx → EReal) = arr excl

theorem coords0 : ∀ t : Fin cfg0.N, ((grid0.coords t) 1).val = t.val % 16 :=
  (by decide +kernel : ∀ t : Fin grid0.N, ((grid0.coords t) 1).val = t.val % 16)

theorem index0 : ∀ t : Fin cfg0.N, win0_0.index t 0 = t.val % 16 ∧ win0_0.index t 1 = 12 + t.val / 16 :=
  (by decide +kernel : ∀ t : Fin grid0.N, win0_0.index t 0 = t.val % 16 ∧ win0_0.index t 1 = 12 + t.val / 16)
theorem index1 : ∀ t : Fin cfg0.N, win0_1.index t 0 = 0 ∧ win0_1.index t 1 = 20 + t.val / 16 :=
  (by decide +kernel : ∀ t : Fin grid0.N, win0_1.index t 0 = 0 ∧ win0_1.index t 1 = 20 + t.val / 16)
theorem index2 : ∀ t : Fin cfg0.N, win0_2.index t 0 = 0 ∧ win0_2.index t 1 = 28 + t.val / 16 :=
  (by decide +kernel : ∀ t : Fin grid0.N, win0_2.index t 0 = 0 ∧ win0_2.index t 1 = 28 + t.val / 16)
theorem index3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)
theorem index4 : ∀ t : Fin cfg0.N, win0_4.index t 0 = t.val % 16 ∧ win0_4.index t 1 = t.val / 16 :=
  (by decide +kernel : ∀ t : Fin grid0.N, win0_4.index t 0 = t.val % 16 ∧ win0_4.index t 1 = t.val / 16)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val % 16 ∧ win0_7.index t 1 = t.val / 16 :=
  (by decide +kernel : ∀ t : Fin grid0.N, win0_7.index t 0 = t.val % 16 ∧ win0_7.index t 1 = t.val / 16)
theorem index8 : ∀ t : Fin cfg0.N, win0_8.index t 0 = 0 ∧ win0_8.index t 1 = t.val / 16 :=
  (by decide +kernel : ∀ t : Fin grid0.N, win0_8.index t 0 = 0 ∧ win0_8.index t 1 = t.val / 16)
theorem index9 : ∀ t : Fin cfg0.N, win0_9.index t 0 = 0 ∧ win0_9.index t 1 = t.val / 16 :=
  (by decide +kernel : ∀ t : Fin grid0.N, win0_9.index t 0 = 0 ∧ win0_9.index t 1 = t.val / 16)

variable {U W} {m} {c}

theorem lt_N (t : Fin cfg0.N) : t.val < 128 := lt_of_lt_of_eq t.isLt N_0

/-- Two entries of the argument are equal where the places are. -/
theorem Found.u_at (H : Found U W m c) (i : S4096x6656.Idx) (a b : ℕ) (ha : (i 0).val = a) (hb : (i 1).val = b) (h : 1536 ≤ b) (h' : b < 4608) :
    (V m c main_arg0 : S4096x6656.Idx → EReal) i = ((U a b : ℝ) : EReal) := by
  subst ha hb
  exact H.u i h h'

theorem blk0 (H : Found U W m c) (t : Fin cfg0.N) :
    iblk m c 0 t = (arr (fun r x => q U (t.val / 16) (256 * (t.val % 16) + r) x) : S256x128.Idx → EReal) := by
  have hi := index0 t
  have ht := lt_N t
  funext j
  have h1 : (j 1).val < 128 := (j 1).isLt
  unfold iblk
  rw [View.read_apply]
  refine H.u_at _ _ _ ?_ ?_ (by omega) (by omega)
  · show win0_0.index t 0 * 256 + 1 * (j 0).val = _
    rw [hi.1]; omega
  · show win0_0.index t 1 * 128 + 1 * (j 1).val = _
    rw [hi.2]; omega

theorem blk1 (H : Found U W m c) (t : Fin cfg0.N) :
    iblk m c 1 t = (arr (k U (t.val / 16)) : S4096x128.Idx → EReal) := by
  have hi := index1 t
  have ht := lt_N t
  funext j
  have h1 : (j 1).val < 128 := (j 1).isLt
  unfold iblk
  rw [View.read_apply]
  refine H.u_at _ _ _ ?_ ?_ (by omega) (by omega)
  · show win0_1.index t 0 * 4096 + 1 * (j 0).val = _
    rw [hi.1]; omega
  · show win0_1.index t 1 * 128 + 1 * (j 1).val = _
    rw [hi.2]; omega

theorem blk2 (H : Found U W m c) (t : Fin cfg0.N) :
    iblk m c 2 t = (arr (v U (t.val / 16)) : S4096x128.Idx → EReal) := by
  have hi := index2 t
  have ht := lt_N t
  funext j
  have h1 : (j 1).val < 128 := (j 1).isLt
  unfold iblk
  rw [View.read_apply]
  refine H.u_at _ _ _ ?_ ?_ (by omega) (by omega)
  · show win0_2.index t 0 * 4096 + 1 * (j 0).val = _
    rw [hi.1]; omega
  · show win0_2.index t 1 * 128 + 1 * (j 1).val = _
    rw [hi.2]; omega

theorem blk3 (H : Found U W m c) (t : Fin cfg0.N) :
    iblk m c 3 t = (arr (fun r _ => tot U (t.val / 16) (256 * (t.val % 16) + r)) : S256x128.Idx → EReal) := by
  have hi := index3 t
  funext j
  have h1 : (j 1).val < 128 := (j 1).isLt
  unfold iblk
  rw [View.read_apply]
  show (V m c main_v23 : S4096x1024.Idx → EReal) _ = _
  rw [H.t]
  show ((tot U ((win0_3.index t 1 * 128 + 1 * (j 1).val) / 128) (win0_3.index t 0 * 256 + 1 * (j 0).val) : ℝ) : EReal) = ((tot U _ _ : ℝ) : EReal)
  rw [hi.1, hi.2, show (t.val / 16 * 128 + 1 * (j 1).val) / 128 = t.val / 16 by omega,
    show t.val % 16 * 256 + 1 * (j 0).val = 256 * (t.val % 16) + (j 0).val by omega]

theorem blk4 (H : Found U W m c) (t : Fin cfg0.N) :
    iblk m c 4 t = (arr (fun r x => d W (t.val / 16) (256 * (t.val % 16) + r) x) : S256x128.Idx → EReal) := by
  have hi := index4 t
  funext j
  unfold iblk
  rw [View.read_apply]
  show (V m c main_arg1 : S4096x1024.Idx → EReal) _ = _
  rw [H.w]
  show ((W (win0_4.index t 0 * 256 + 1 * (j 0).val) (win0_4.index t 1 * 128 + 1 * (j 1).val) : ℝ) : EReal) = ((W _ _ : ℝ) : EReal)
  rw [hi.1, hi.2, show t.val / 16 * 128 + 1 * (j 1).val = 128 * (t.val / 16) + (j 1).val by omega,
    show t.val % 16 * 256 + 1 * (j 0).val = 256 * (t.val % 16) + (j 0).val by omega]

theorem blk5 (H : Found U W m c) (t : Fin cfg0.N) : iblk m c 5 t = (arr incl : S256x256.Idx → EReal) := by
  have hi := index5 t
  funext j
  unfold iblk
  rw [View.read_apply]
  show (V m c main_v29 : S256x256.Idx → EReal) _ = _
  rw [H.i]
  show ((incl (win0_5.index t 0 * 256 + 1 * (j 0).val) (win0_5.index t 1 * 256 + 1 * (j 1).val) : ℝ) : EReal) = ((incl _ _ : ℝ) : EReal)
  rw [hi.1, hi.2, Nat.zero_mul, Nat.zero_add, Nat.zero_add, Nat.one_mul, Nat.one_mul]

theorem blk6 (H : Found U W m c) (t : Fin cfg0.N) : iblk m c 6 t = (arr excl : S256x256.Idx → EReal) := by
  have hi := index6 t
  funext j
  unfold iblk
  rw [View.read_apply]
  show (V m c main_v34 : S256x256.Idx → EReal) _ = _
  rw [H.e]
  show ((excl (win0_6.index t 0 * 256 + 1 * (j 0).val) (win0_6.index t 1 * 256 + 1 * (j 1).val) : ℝ) : EReal) = ((excl _ _ : ℝ) : EReal)
  rw [hi.1, hi.2, Nat.zero_mul, Nat.zero_add, Nat.zero_add, Nat.one_mul, Nat.one_mul]

end Cert.Heads

end
-- ==== Proof.Points.lean ====
/-
  ALL THE POINTS. After the point of head `h` and the rows from `256 i`, the block of the queries' gradient is that point's,
  the two other buffers hold head `h`'s sums over the rows before `256 i + 256`, and the two scratch buffers its keys and values.
-/
module

public import proofs.«01_k».proof.Proof.Point
public import proofs.«01_k».proof.Proof.Heads

@[expose] public section

noncomputable section

namespace Cert.Points

open Idealize.ShloMosaic Idealize.ShloMosaic.TcCoe Idealize.SL.Sem Cert.KernelIdeal Cert.KernelIdeal.Gen Cert.RealArr Cert.Stick Cert.Heads

section
variable (c : Dev nD) (i : grid0.Coords) (arg2 : Memref sig .tc .vmem S256x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg10 : Memref sig .tc .vmem S256x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S4096x128 .bf16) (harg13 : arg13.IsWhole) (arg14 : Memref sig .tc .vmem S4096x128 .bf16) (harg14 : arg14.IsWhole)

theorem leftB {a : ℕ} {q K V D : ℕ → ℕ → ℝ} {T : ℕ → ℝ} (hc0 : ¬cond0_0 i)
  (x0 : Vec Ideal S256x128 .f32) (x1 : Vec Ideal S4096x128 .f32) (x2 : Vec Ideal S4096x128 .f32) (x3 : Vec Ideal S256x128 .f32)
  (x4 : Vec Ideal S256x128 .f32) (x5 : Vec Ideal S256x256 .bf16) (x6 : Vec Ideal S256x256 .bf16)
  (xo8 : Vec Ideal S4096x128 .f32) (xo9 : Vec Ideal S4096x128 .f32) (xs0 : Vec Ideal S4096x128 .bf16) (xs1 : Vec Ideal S4096x128 .bf16)
  (h0 : x0 = (arr (fun r c => q (a + r) c) : S256x128.Idx → EReal))
  (h1 : x1 = (arr K : S4096x128.Idx → EReal)) (h2 : x2 = (arr V : S4096x128.Idx → EReal))
  (h3 : x3 = (arr (fun r _ => T (a + r)) : S256x128.Idx → EReal)) (h4 : x4 = (arr (fun r c => D (a + r) c) : S256x128.Idx → EReal))
  (h5 : x5 = (arr incl : S256x256.Idx → EReal)) (h6 : x6 = (arr excl : S256x256.Idx → EReal)) (ha : a = 256 * (i 1).val)
  (h8 : xo8 = (arr (dk (fun t c => q t c * scale) K V D T a) : S4096x128.Idx → EReal)) (h9 : xo9 = (arr (dv (fun t c => q t c * scale) K D T a) : S4096x128.Idx → EReal))
  (hs0 : xs0 = (arr K : S4096x128.Idx → EReal)) (hs1 : xs1 = (arr V : S4096x128.Idx → EReal)) :
    ((out0_B_7 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1, out0_B_8 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1, out0_B_9 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1,
      sout0_B_0 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1, sout0_B_1 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1) : Vec Ideal S256x128 .f32 × Vec Ideal S4096x128 .f32 × Vec Ideal S4096x128 .f32 × Vec Ideal S4096x128 .bf16 × Vec Ideal S4096x128 .bf16)
      = ((arr (fun r c => dq (fun t c => q t c * scale) K V D T (a + 256) (a + r) c * scale) : S256x128.Idx → EReal),
        (arr (dk (fun t c => q t c * scale) K V D T (a + 256)) : S4096x128.Idx → EReal), (arr (dv (fun t c => q t c * scale) K D T (a + 256)) : S4096x128.Idx → EReal),
        (arr K : S4096x128.Idx → EReal), (arr V : S4096x128.Idx → EReal)) := by
  obtain ⟨⟨hb, e7⟩, e8, e9⟩ := Point.pointB c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1 h0 h1 h2 h3 h4 h5 h6 ha h8 h9 hs0 hs1
  have f7 : out0_B_7 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 xo8 xo9 xs0 xs1 = (arr (fun r c => dq (fun t c => q t c * scale) K V D T (a + 256) (a + r) c * scale) : S256x128.Idx → EReal) := by
    unfold out0_B_7
    rw [e7]
    exact View.read_writes_full VO0_7 _ hb _ []
  exact congrArg₂ Prod.mk f7 (congrArg₂ Prod.mk e8 (congrArg₂ Prod.mk e9 (congrArg₂ Prod.mk hs0 hs1)))

theorem leftA {a : ℕ} {q K V D : ℕ → ℕ → ℝ} {T : ℕ → ℝ} (hc0 : cond0_0 i)
  (x0 : Vec Ideal S256x128 .f32) (x1 : Vec Ideal S4096x128 .f32) (x2 : Vec Ideal S4096x128 .f32) (x3 : Vec Ideal S256x128 .f32)
  (x4 : Vec Ideal S256x128 .f32) (x5 : Vec Ideal S256x256 .bf16) (x6 : Vec Ideal S256x256 .bf16)
  (h0 : x0 = (arr (fun r c => q (a + r) c) : S256x128.Idx → EReal))
  (h1 : x1 = (arr K : S4096x128.Idx → EReal)) (h2 : x2 = (arr V : S4096x128.Idx → EReal))
  (h3 : x3 = (arr (fun r _ => T (a + r)) : S256x128.Idx → EReal)) (h4 : x4 = (arr (fun r c => D (a + r) c) : S256x128.Idx → EReal))
  (h5 : x5 = (arr incl : S256x256.Idx → EReal)) (h6 : x6 = (arr excl : S256x256.Idx → EReal)) (ha : a = 256 * (i 1).val) (hz : a = 0) :
    ((out0_A_7 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6, out0_A_8 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6, out0_A_9 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6,
      sout0_A_0 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6, sout0_A_1 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6) : Vec Ideal S256x128 .f32 × Vec Ideal S4096x128 .f32 × Vec Ideal S4096x128 .f32 × Vec Ideal S4096x128 .bf16 × Vec Ideal S4096x128 .bf16)
      = ((arr (fun r c => dq (fun t c => q t c * scale) K V D T (a + 256) (a + r) c * scale) : S256x128.Idx → EReal),
        (arr (dk (fun t c => q t c * scale) K V D T (a + 256)) : S4096x128.Idx → EReal), (arr (dv (fun t c => q t c * scale) K D T (a + 256)) : S4096x128.Idx → EReal),
        (arr K : S4096x128.Idx → EReal), (arr V : S4096x128.Idx → EReal)) := by
  obtain ⟨⟨hb, e7⟩, e8, e9, ⟨hb3, e3⟩, hb4, e4⟩ := Point.pointA c i arg2 harg2 arg3 harg3 arg4 harg4 arg5 harg5 arg6 harg6 arg7 harg7 arg8 harg8 arg10 harg10 arg11 harg11 arg12 harg12 arg13 harg13 arg14 harg14 hc0 x0 x1 x2 x3 x4 x5 x6 h0 h1 h2 h3 h4 h5 h6 ha hz
  have f7 : out0_A_7 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 = (arr (fun r c => dq (fun t c => q t c * scale) K V D T (a + 256) (a + r) c * scale) : S256x128.Idx → EReal) := by
    unfold out0_A_7
    rw [e7]
    exact View.read_writes_full VO0_7 _ hb _ []
  have f8 : out0_A_8 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 = (arr (dk (fun t c => q t c * scale) K V D T (a + 256)) : S4096x128.Idx → EReal) :=
    (View.read_writes_of_cover VO0_8 _ arg11.view _ _ (cover0_A_8 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6)).trans e8
  have f9 : out0_A_9 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 = (arr (dv (fun t c => q t c * scale) K D T (a + 256)) : S4096x128.Idx → EReal) :=
    (View.read_writes_of_cover VO0_9 _ arg12.view _ _ (cover0_A_9 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6)).trans e9
  have f3 : sout0_A_0 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 = (arr K : S4096x128.Idx → EReal) := by
    unfold sout0_A_0
    rw [e3]
    exact View.read_writes_full VS0_0 _ hb3 _ []
  have f4 : sout0_A_1 (F := Ideal) c i arg2 harg2 arg3 harg3 arg4 harg4 arg5 harg5 arg6 harg6 arg7 harg7 arg8 harg8 arg10 harg10 arg11 harg11 arg12 harg12 arg13 harg13 arg14 harg14 hc0 x0 x1 x2 x3 x4 x5 x6 = (arr V : S4096x128.Idx → EReal) := by
    unfold sout0_A_1
    rw [e4]
    exact View.read_writes_full VS0_1 _ hb4 _ []
  exact congrArg₂ Prod.mk f7 (congrArg₂ Prod.mk f8 (congrArg₂ Prod.mk f9 (congrArg₂ Prod.mk f3 f4)))

end

variable (U W : ℕ → ℕ → ℝ)

/-- What the point of head `h` and rows from `256 i` leaves. -/
def left (h i : ℕ) : Vec Ideal S256x128 .f32 × Vec Ideal S4096x128 .f32 × Vec Ideal S4096x128 .f32 × Vec Ideal S4096x128 .bf16 × Vec Ideal S4096x128 .bf16 :=
  ((arr (fun r c => dq (qs U h) (k U h) (v U h) (d W h) (tot U h) (256 * i + 256) (256 * i + r) c * scale) : S256x128.Idx → EReal),
    (arr (dk (qs U h) (k U h) (v U h) (d W h) (tot U h) (256 * i + 256)) : S4096x128.Idx → EReal),
    (arr (dv (qs U h) (k U h) (d W h) (tot U h) (256 * i + 256)) : S4096x128.Idx → EReal),
    (arr (k U h) : S4096x128.Idx → EReal), (arr (v U h) : S4096x128.Idx → EReal))

variable {U W} {m : (ℓ : Loc nD τ sig) → Buf (Elt Ideal) ℓ} {c : Dev nD}

theorem outs (H : Found U W m c) : ∀ (n : ℕ) (hn : n < cfg0.N), outsAt0 m c n hn = left U W (n / 16) (n % 16) := by
  intro n
  induction n using Nat.strong_induction_on with
  | _ n ih =>
    intro hn
    by_cases h0 : n % 16 = 0
    · refine (outsAt0_A m c ⟨n, hn⟩ h0).trans ?_
      exact leftA c (grid0.coords ⟨n, hn⟩) _ _ _ _ _ _ _ _ _ _ _ _ _ _ _ _ _ _ _ _ _ _ _ _ _ _ _ _ _ _ _ _
        (blk0 H ⟨n, hn⟩) (blk1 H ⟨n, hn⟩) (blk2 H ⟨n, hn⟩) (blk3 H ⟨n, hn⟩) (blk4 H ⟨n, hn⟩) (blk5 H ⟨n, hn⟩) (blk6 H ⟨n, hn⟩)
        (congrArg (256 * ·) (coords0 ⟨n, hn⟩).symm) (by show 256 * (n % 16) = 0; rw [h0])
    · have hp : n - 1 < n := by omega
      have e := ih (n - 1) hp (Nat.lt_of_le_of_lt (Nat.sub_le _ _) hn)
      rw [show (n - 1) / 16 = n / 16 by omega, show (n - 1) % 16 = n % 16 - 1 by omega] at e
      have e256 : 256 * (n % 16 - 1) + 256 = 256 * (n % 16) := by omega
      unfold left at e
      rw [e256] at e
      refine (outsAt0_B m c ⟨n, hn⟩ h0).trans ?_
      exact leftB c (grid0.coords ⟨n, hn⟩) _ _ _ _ _ _ _ _ _ _ _ _ _ _ _ _ _ _ _ _ _ _ _ _ _ _ _ _ _ _ _ _ _ _ _ _
        (blk0 H ⟨n, hn⟩) (blk1 H ⟨n, hn⟩) (blk2 H ⟨n, hn⟩) (blk3 H ⟨n, hn⟩) (blk4 H ⟨n, hn⟩) (blk5 H ⟨n, hn⟩) (blk6 H ⟨n, hn⟩)
        (congrArg (256 * ·) (coords0 ⟨n, hn⟩).symm)
        (congrArg (fun p => p.2.1) e) (congrArg (fun p => p.2.2.1) e) (congrArg (fun p => p.2.2.2.1) e) (congrArg (fun p => p.2.2.2.2) e)

end Cert.Points

end
-- ==== Proof.Arrays.lean ====
/-
  THE THREE ARRAYS the call leaves, entry by entry: each is written block by block, and no two blocks that are written
  back meet.
-/
module

public import proofs.«01_k».proof.Proof.Points

@[expose] public section

noncomputable section

namespace Cert.Arrays

open Idealize.ShloMosaic Idealize.ShloMosaic.TcCoe Idealize.SL.Sem Cert.KernelIdeal Cert.KernelIdeal.Gen Cert.KernelIdeal.Value Cert.RealArr Cert.Stick Cert.Heads Cert.Points

variable {F : FTy → Type} [FloatOps F]

theorem flush8_iff (t : Fin cfg0.N) : (cfg0.win 8).flush t = true ↔ t.val % 16 = 15 := flush0_8 t
theorem flush9_iff (t : Fin cfg0.N) : (cfg0.win 9).flush t = true ↔ t.val % 16 = 15 := flush0_9 t

theorem disjoint8 : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun h => hne (Fin.ext (by
    have e : win0_8.index t 1 = win0_8.index t' 1 := congrFun h 1
    rw [(index8 t).2, (index8 t').2] at e
    have := (flush8_iff t).mp hf
    have := (flush8_iff t').mp hf'
    omega))

theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => (cfg0.win 9).disjoint_blk fun h => hne (Fin.ext (by
    have e : win0_9.index t 1 = win0_9.index t' 1 := congrFun h 1
    rw [(index9 t).2, (index9 t').2] at e
    have := (flush9_iff t).mp hf
    have := (flush9_iff t').mp hf'
    omega))

variable {U W : ℕ → ℕ → ℝ} {m : (ℓ : Loc nD τ sig) → Buf (Elt Ideal) ℓ} {c : Dev nD}

theorem array7 (H : Found U W m c) :
    ((dats m 0 c).arrAt 7 cfg0.N : S4096x1024.Idx → EReal) = arr fun t x => dqs U W (x / 128) t (x % 128) := by
  funext i
  have h0 : (i 0).val < 4096 := (i 0).isLt
  have h1 : (i 1).val < 1024 := (i 1).isLt
  obtain ⟨t, ht⟩ : ∃ t : Fin cfg0.N, t.val = 16 * ((i 1).val / 128) + (i 0).val / 256 :=
    ⟨⟨_, lt_of_lt_of_eq (by omega : 16 * ((i 1).val / 128) + (i 0).val / 256 < 128) N_0.symm⟩, rfl⟩
  have hj0 : (i 0).val % 256 < 256 := by omega
  have hj1 : (i 1).val % 128 < 128 := by omega
  have e := congrFun (blocks7 m c t (flush0_7 t)) (ValueIdx.ix2 ⟨(i 0).val % 256, hj0⟩ ⟨(i 1).val % 128, hj1⟩)
  rw [flushed7, outs H, View.read_apply] at e
  have hi : ((cfg0.win 7).blk t).view.emb (ValueIdx.ix2 ⟨(i 0).val % 256, hj0⟩ ⟨(i 1).val % 128, hj1⟩) = i := by
    funext a
    match a with
    | ⟨0, _⟩ =>
      refine Fin.ext ?_
      show win0_7.index t 0 * 256 + 1 * ((i 0).val % 256) = (i 0).val
      rw [(index7 t).1]; omega
    | ⟨1, _⟩ =>
      refine Fin.ext ?_
      show win0_7.index t 1 * 128 + 1 * ((i 1).val % 128) = (i 1).val
      rw [(index7 t).2]; omega
  rw [hi] at e
  refine Eq.trans e ?_
  show ((dq _ _ _ _ _ (256 * (t.val % 16) + 256) (256 * (t.val % 16) + (i 0).val % 256) ((i 1).val % 128) * scale : ℝ) : EReal) = ((dqs U W ((i 1).val / 128) (i 0).val ((i 1).val % 128) : ℝ) : EReal)
  rw [dqs, show t.val / 16 = (i 1).val / 128 by omega, show 256 * (t.val % 16) + (i 0).val % 256 = (i 0).val by omega,
    dq_full (by omega) (by omega : 256 * (t.val % 16) + 256 ≤ 4096)]

theorem array8 (H : Found U W m c) :
    ((dats m 0 c).arrAt 8 cfg0.N : S4096x1024.Idx → EReal) = arr fun s x => dks U W (x / 128) s (x % 128) := by
  funext i
  have h1 : (i 1).val < 1024 := (i 1).isLt
  obtain ⟨t, ht⟩ : ∃ t : Fin cfg0.N, t.val = 16 * ((i 1).val / 128) + 15 :=
    ⟨⟨_, lt_of_lt_of_eq (by omega : 16 * ((i 1).val / 128) + 15 < 128) N_0.symm⟩, rfl⟩
  have hj1 : (i 1).val % 128 < 128 := by omega
  have hf : (cfg0.win 8).flush t = true := (flush8_iff t).mpr (by omega)
  have e := congrFun ((dats m 0 c).read_blk_arrAt_eq_flushed 8 disjoint8 cfg0.N t t.isLt hf) (ValueIdx.ix2 ⟨(i 0).val, (i 0).isLt⟩ ⟨(i 1).val % 128, hj1⟩)
  rw [flushed8, outs H, View.read_apply] at e
  have hi : ((cfg0.win 8).blk t).view.emb (ValueIdx.ix2 ⟨(i 0).val, (i 0).isLt⟩ ⟨(i 1).val % 128, hj1⟩) = i := by
    funext a
    match a with
    | ⟨0, _⟩ =>
      refine Fin.ext ?_
      show win0_8.index t 0 * 4096 + 1 * (i 0).val = (i 0).val
      rw [(index8 t).1]; omega
    | ⟨1, _⟩ =>
      refine Fin.ext ?_
      show win0_8.index t 1 * 128 + 1 * ((i 1).val % 128) = (i 1).val
      rw [(index8 t).2]; omega
  rw [hi] at e
  refine Eq.trans e ?_
  show ((dk _ _ _ _ _ (256 * (t.val % 16) + 256) (i 0).val ((i 1).val % 128) : ℝ) : EReal) = ((dks U W ((i 1).val / 128) (i 0).val ((i 1).val % 128) : ℝ) : EReal)
  rw [dks, show t.val / 16 = (i 1).val / 128 by omega, show 256 * (t.val % 16) + 256 = 4096 by omega]

theorem array9 (H : Found U W m c) :
    ((dats m 0 c).arrAt 9 cfg0.N : S4096x1024.Idx → EReal) = arr fun s x => dvs U W (x / 128) s (x % 128) := by
  funext i
  have h1 : (i 1).val < 1024 := (i 1).isLt
  obtain ⟨t, ht⟩ : ∃ t : Fin cfg0.N, t.val = 16 * ((i 1).val / 128) + 15 :=
    ⟨⟨_, lt_of_lt_of_eq (by omega : 16 * ((i 1).val / 128) + 15 < 128) N_0.symm⟩, rfl⟩
  have hj1 : (i 1).val % 128 < 128 := by omega
  have hf : (cfg0.win 9).flush t = true := (flush9_iff t).mpr (by omega)
  have e := congrFun ((dats m 0 c).read_blk_arrAt_eq_flushed 9 disjoint9 cfg0.N t t.isLt hf) (ValueIdx.ix2 ⟨(i 0).val, (i 0).isLt⟩ ⟨(i 1).val % 128, hj1⟩)
  rw [flushed9, outs H, View.read_apply] at e
  have hi : ((cfg0.win 9).blk t).view.emb (ValueIdx.ix2 ⟨(i 0).val, (i 0).isLt⟩ ⟨(i 1).val % 128, hj1⟩) = i := by
    funext a
    match a with
    | ⟨0, _⟩ =>
      refine Fin.ext ?_
      show win0_9.index t 0 * 4096 + 1 * (i 0).val = (i 0).val
      rw [(index9 t).1]; omega
    | ⟨1, _⟩ =>
      refine Fin.ext ?_
      show win0_9.index t 1 * 128 + 1 * ((i 1).val % 128) = (i 1).val
      rw [(index9 t).2]; omega
  rw [hi] at e
  refine Eq.trans e ?_
  show ((dv _ _ _ _ (256 * (t.val % 16) + 256) (i 0).val ((i 1).val % 128) : ℝ) : EReal) = ((dvs U W ((i 1).val / 128) (i 0).val ((i 1).val % 128) : ℝ) : EReal)
  rw [dvs, show t.val / 16 = (i 1).val / 128 by omega, show 256 * (t.val % 16) + 256 = 4096 by omega]

end Cert.Arrays

end
-- ==== Proof.RealHost.lean ====
/-
  THE HOST'S OPERATIONS on real numbers: the softplus of the logistic's logarithm, its derivative, and the running sum
  along the last axis of an array of three axes, from the left and from the right.
-/
module

public import proofs.«01_k».proof.Proof.StickMath
public import Idealize.ShloMosaic.Lib.Pointwise

@[expose] public section

noncomputable section

namespace Cert.RealHost

open Idealize.ShloMosaic Cert.RealArr
open scoped BigOperators

/-- The logarithm of one plus the exponential, as the host spells it. -/
def sp (x : ℝ) : ℝ := max x 0 + Real.log (1 + Real.exp (-|x|))

theorem sp_eq (x : ℝ) : sp x = Real.log (1 + Real.exp x) := by
  unfold sp
  rcases le_total x 0 with h | h
  · rw [max_eq_right h, abs_of_nonpos h, neg_neg, zero_add]
  · rw [max_eq_left h, abs_of_nonneg h]
    have h1 : 0 < 1 + Real.exp (-x) := by positivity
    have : 1 + Real.exp x = Real.exp x * (1 + Real.exp (-x)) := by
      rw [mul_add, mul_one, ← Real.exp_add, add_neg_cancel, Real.exp_zero, add_comm]
    rw [this, Real.log_mul (Real.exp_pos x).ne' h1.ne', Real.log_exp]

theorem exp_sp (x : ℝ) : Real.exp (sp x) = 1 + Real.exp x := by
  rw [sp_eq, Real.exp_log (by positivity)]

/-- The kernel's logarithm of the logistic is the host's. -/
theorem lbf_eq (x : ℝ) : lbf x = -sp (-x) := by
  unfold lbf sp
  rw [abs_neg, zero_sub]
  rcases le_total x 0 with h | h
  · rw [min_eq_left h, max_eq_left (by linarith)]; ring
  · rw [min_eq_right h, max_eq_right (by linarith)]; ring

theorem sp_neg (x : ℝ) : sp (-x) = sp x - x := by
  have h1 : 0 < 1 + Real.exp (-x) := by positivity
  have : 1 + Real.exp x = Real.exp x * (1 + Real.exp (-x)) := by
    rw [mul_add, mul_one, ← Real.exp_add, add_neg_cancel, Real.exp_zero, add_comm]
  rw [sp_eq, sp_eq, this, Real.log_mul (Real.exp_pos x).ne' h1.ne', Real.log_exp]; ring

/-- What a row leaves over. -/
theorem neg_sp (x : ℝ) : -sp x = lbf x - x := by
  rw [lbf_eq, sp_neg]; ring

theorem exp_sub_sp (x : ℝ) : Real.exp (x - sp x) = Real.exp (lbf x) := by
  rw [lbf_eq, sp_neg]; congr 1; ring

theorem exp_neg_sub_sp (x : ℝ) : Real.exp (-x - sp (-x)) = 1 - Real.exp (lbf x) := by
  have e : lbf x = x - sp x := by rw [lbf_eq, sp_neg]; ring
  have h1 : (1 + Real.exp x) ≠ 0 := by positivity
  have h : -x - sp (-x) = -sp x := by rw [sp_neg]; ring
  rw [h, e, Real.exp_neg, Real.exp_sub, exp_sp]
  field_simp
  ring

/-- The host's softplus at a real number. -/
theorem softplus_point (x : ℝ) (o : EReal) (ho : o = ((0 : ℝ) : EReal)) :
    Scalar.select (FloatOps.cmpf (F := Ideal) (φ := .f32) .une (FloatOps.subf (F := Ideal) (φ := .f32) (x : EReal) o) (FloatOps.subf (F := Ideal) (φ := .f32) (x : EReal) o))
      (FloatOps.addf (F := Ideal) (φ := .f32) (x : EReal) o)
      (FloatOps.addf (F := Ideal) (φ := .f32) (FloatOps.maximumf (F := Ideal) (φ := .f32) (x : EReal) o)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) (x : EReal) o)))))) = ((sp x : ℝ) : EReal) := by
  subst ho
  have hs : FloatOps.subf (F := Ideal) (φ := .f32) (x : EReal) ((0 : ℝ) : EReal) = (x : EReal) := by
    show (x : EReal) - ((0 : ℝ) : EReal) = _
    rw [← EReal.coe_sub, sub_zero]
  rw [hs]
  have hc : FloatOps.cmpf (F := Ideal) (φ := .f32) .une (x : EReal) (x : EReal) = 0#1 := by
    show Ideal.cmp .une _ _ = _
    simp [Ideal.cmp]
  rw [hc]
  have ha : FloatOps.hostNegf (F := Ideal) (φ := .f32) (FloatOps.hostAbsf (F := Ideal) (φ := .f32) (x : EReal)) = ((-|x| : ℝ) : EReal) := by
    show -(max (x : EReal) (-(x : EReal))) = _
    rw [← EReal.coe_neg, ← EReal.coe_strictMono.monotone.map_max, ← EReal.coe_neg]; rfl
  rw [ha]
  have hl : FloatOps.hostUnary (F := Ideal) (φ := .f32) .log1p (FloatOps.hostUnary (F := Ideal) (φ := .f32) .exp ((-|x| : ℝ) : EReal))
      = ((Real.log (1 + Real.exp (-|x|)) : ℝ) : EReal) := by
    show Ideal.log1p ((Real.exp (-|x|) : ℝ) : EReal) = _
    have h1 : ¬ (1 + Real.exp (-|x|) ≤ 0) := by have := Real.exp_pos (-|x|); linarith
    show Ideal.log ((1 : EReal) + ((Real.exp (-|x|) : ℝ) : EReal)) = _
    rw [show (1 : EReal) + ((Real.exp (-|x|) : ℝ) : EReal) = ((1 + Real.exp (-|x|) : ℝ) : EReal) from by rw [EReal.coe_add]; rfl]
    show (if _ then _ else _) = _
    rw [if_neg h1]
  rw [hl]
  have hm : FloatOps.maximumf (F := Ideal) (φ := .f32) (x : EReal) ((0 : ℝ) : EReal) = ((max x 0 : ℝ) : EReal) :=
    (EReal.coe_strictMono.monotone.map_max).symm
  rw [hm]
  show (((max x 0 : ℝ) : EReal) + ((Real.log (1 + Real.exp (-|x|)) : ℝ) : EReal)) = _
  rw [← EReal.coe_add]; rfl

/-- A real number is not infinite, so the host keeps it. -/
theorem keep_point (x : ℝ) (w o : EReal) (hw : w = ⊤) :
    Scalar.select (FloatOps.cmpf (F := Ideal) (φ := .f32) .oeq (x : EReal) w) o (x : EReal) = (x : EReal) := by
  subst hw
  have hc : FloatOps.cmpf (F := Ideal) (φ := .f32) .oeq (x : EReal) ⊤ = 0#1 := by
    show Ideal.cmp .oeq _ _ = _
    simp [Ideal.cmp]
  rw [hc]; rfl

theorem ofBits_inf : Ideal.ofBits .f32 0x7F800000#32 = ⊤ := by
  simp [Ideal.ofBits, Ideal.ieee]

/-! ### Running sums -/

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- A window's fold is a sum over the window. -/
theorem reduceWindow_sum {s t u : Shape} (window strides lo hi : Fin s.rank → ℕ) (x : s.Idx → EReal) (init : u.Idx → EReal)
    (h : s.ReduceWindows window strides lo hi t) (hu : 0 < u.numel) (j : t.Idx) :
    Host.reduceWindowAdd (F := Ideal) (φ := .f32) window strides lo hi x init h hu j
      = init (Shape.Idx.first hu) + ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu)) := by
  show List.foldl _ _ _ = _
  rw [foldl_add, ← Fin.sum_univ_def]
  congr 1
  refine (Finset.sum_congr rfl fun n _ => dite_congr rfl (fun _ => rfl) fun _ => rfl).trans (Equiv.sum_comp (Shape.rowMajor (⟨s.rank, window⟩ : Shape)).symm (fun w : (⟨s.rank, window⟩ : Shape).Idx =>
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init (Shape.Idx.first hu))))

/-- A window along the last axis is numbered by its places. -/
def line (n : ℕ) : Fin n ≃ (⟨3, ![1, 1, n]⟩ : Shape).Idx where
  toFun k := fun a => match a with
    | ⟨0, _⟩ => ⟨0, Nat.one_pos⟩
    | ⟨1, _⟩ => ⟨0, Nat.one_pos⟩
    | ⟨2, _⟩ => k
  invFun w := w 2
  left_inv _ := rfl
  right_inv w := funext fun a => match a with
    | ⟨0, _⟩ => Fin.ext (by have : (w 0).val < 1 := (w 0).isLt; show 0 = (w 0).val; omega)
    | ⟨1, _⟩ => Fin.ext (by have : (w 1).val < 1 := (w 1).isLt; show 0 = (w 1).val; omega)
    | ⟨2, _⟩ => rfl

/-- The running sum from the left, of reals. -/
theorem left_sum (f : ℕ → ℝ) (n s : ℕ) (hs : s < n) :
    ∑ k ∈ Finset.range n, (if n - 1 ≤ s + k then f (s + k - (n - 1)) else 0) = ∑ s' ∈ Finset.range (s + 1), f s' := by
  obtain ⟨a, rfl⟩ : ∃ a, n = a + (s + 1) := ⟨n - (s + 1), by omega⟩
  rw [Finset.sum_range_add, Finset.sum_eq_zero, zero_add]
  · refine Finset.sum_congr rfl fun x hx => ?_
    rw [if_pos (by omega)]
    congr 1; omega
  · intro x hx
    rw [if_neg (by have := Finset.mem_range.mp hx; omega)]

/-- The running sum from the right, of reals. -/
theorem right_sum (f : ℕ → ℝ) (n s : ℕ) (hs : s < n) :
    ∑ k ∈ Finset.range n, (if s + k < n then f (s + k) else 0) = ∑ s' ∈ Finset.range n, f s' - ∑ s' ∈ Finset.range s, f s' := by
  obtain ⟨a, rfl⟩ : ∃ a, n = a + s := ⟨n - s, by omega⟩
  rw [Finset.sum_range_add, Finset.sum_eq_zero (s := Finset.range s), add_zero, add_comm a s, Finset.sum_range_add f s a, add_sub_cancel_left]
  · refine Finset.sum_congr rfl fun x hx => ?_
    rw [if_pos (by have := Finset.mem_range.mp hx; omega)]
  · intro x _
    rw [if_neg (by omega)]

section Scan

variable {H T S : ℕ} (f : ℕ → ℕ → ℕ → ℝ) (x : (⟨3, ![H, T, S]⟩ : Shape).Idx → EReal)
  (hx : ∀ i, x i = ((f (i 0).val (i 1).val (i 2).val : ℝ) : EReal)) {u : Shape} (init : u.Idx → EReal) (hu : 0 < u.numel)
  (ho : init (Shape.Idx.first hu) = ((0 : ℝ) : EReal))

include hx ho

/-- The sum up to a place and with it. -/
theorem scan_left (h : (⟨3, ![H, T, S]⟩ : Shape).ReduceWindows ![1, 1, S] ![1, 1, 1] ![0, 0, S - 1] ![0, 0, 0] ⟨3, ![H, T, S]⟩)
    (j : (⟨3, ![H, T, S]⟩ : Shape).Idx) :
    Host.reduceWindowAdd (F := Ideal) (φ := .f32) ![1, 1, S] ![1, 1, 1] ![0, 0, S - 1] ![0, 0, 0] x init h hu j
      = ((∑ s ∈ Finset.range ((j 2).val + 1), f (j 0).val (j 1).val s : ℝ) : EReal) := by
  have j2 : (j 2).val < S := (j 2).isLt
  rw [reduceWindow_sum, ho, EReal.coe_zero, zero_add, ← left_sum _ S _ j2, coe_sum, Finset.sum_range]
  refine ((line S).sum_comp _).symm.trans (Finset.sum_congr rfl fun k _ => ?_)
  by_cases hk : S - 1 ≤ (j 2).val + k.val
  · rw [if_pos hk, dif_pos, hx]
    · refine congrArg _ ?_
      show f ((j 0).val * 1 + 0 - 0) ((j 1).val * 1 + 0 - 0) ((j 2).val * 1 + k.val - (S - 1)) = _
      congr 1 <;> omega
    · intro a
      match a with
      | ⟨0, _⟩ => exact ⟨Nat.zero_le _, by have := (j 0).isLt; show (j 0).val * 1 + 0 - 0 < H; simpa using this⟩
      | ⟨1, _⟩ => exact ⟨Nat.zero_le _, by have := (j 1).isLt; show (j 1).val * 1 + 0 - 0 < T; simpa using this⟩
      | ⟨2, _⟩ => exact ⟨by show S - 1 ≤ (j 2).val * 1 + k.val; omega, by show (j 2).val * 1 + k.val - (S - 1) < S; have := k.isLt; omega⟩
  · rw [if_neg hk, dif_neg]
    · rfl
    · intro hin
      have := (hin 2).1
      have : S - 1 ≤ (j 2).val * 1 + k.val := this
      omega

/-- The sum from a place on. -/
theorem scan_right (h : (⟨3, ![H, T, S]⟩ : Shape).ReduceWindows ![1, 1, S] ![1, 1, 1] ![0, 0, 0] ![0, 0, S - 1] ⟨3, ![H, T, S]⟩)
    (j : (⟨3, ![H, T, S]⟩ : Shape).Idx) :
    Host.reduceWindowAdd (F := Ideal) (φ := .f32) ![1, 1, S] ![1, 1, 1] ![0, 0, 0] ![0, 0, S - 1] x init h hu j
      = ((∑ s ∈ Finset.range S, f (j 0).val (j 1).val s - ∑ s ∈ Finset.range (j 2).val, f (j 0).val (j 1).val s : ℝ) : EReal) := by
  have j2 : (j 2).val < S := (j 2).isLt
  rw [reduceWindow_sum, ho, EReal.coe_zero, zero_add, ← right_sum _ S _ j2, coe_sum, Finset.sum_range]
  refine ((line S).sum_comp _).symm.trans (Finset.sum_congr rfl fun k _ => ?_)
  by_cases hk : (j 2).val + k.val < S
  · rw [if_pos hk, dif_pos, hx]
    · refine congrArg _ ?_
      show f ((j 0).val * 1 + 0 - 0) ((j 1).val * 1 + 0 - 0) ((j 2).val * 1 + k.val - 0) = _
      congr 1 <;> omega
    · intro a
      match a with
      | ⟨0, _⟩ => exact ⟨Nat.zero_le _, by have := (j 0).isLt; show (j 0).val * 1 + 0 - 0 < H; simpa using this⟩
      | ⟨1, _⟩ => exact ⟨Nat.zero_le _, by have := (j 1).isLt; show (j 1).val * 1 + 0 - 0 < T; simpa using this⟩
      | ⟨2, _⟩ => exact ⟨Nat.zero_le _, by show (j 2).val * 1 + k.val - 0 < S; omega⟩
  · rw [if_neg hk, dif_neg]
    · rfl
    · intro hin
      have := (hin 2).2
      have : (j 2).val * 1 + k.val - 0 < S := this
      omega

end Scan

end Cert.RealHost

end
-- ==== Proof.RefScores.lean ====
/-
  WHAT THE REFERENCE COMPUTES FIRST, entry by entry: the heads' queries, keys and values, the scores, the logarithms of
  the logistic on both sides, the remainders and their sums.
-/
module

public import proofs.«01_k».proof.Proof.Gen.ReferenceIdeal.Read
public import proofs.«01_k».proof.Proof.RealHost
public import proofs.«01_k».proof.Proof.HeadMath

@[expose] public section

noncomputable section

namespace Cert.RefScores

open Idealize.ShloMosaic Cert.ReferenceIdeal Cert.ReferenceIdeal.Gen Cert.ReferenceIdeal.Read Cert.RealArr Cert.RealHost Cert.Stick Cert.Heads

/-- The first argument is the real array `U` where the heads lie. -/
def InU (U : ℕ → ℕ → ℝ) (x : S4096x6656.Idx → EReal) : Prop :=
  ∀ i : S4096x6656.Idx, 1536 ≤ (i 1).val → (i 1).val < 4608 → x i = ((U (i 0).val (i 1).val : ℝ) : EReal)

variable (U : ℕ → ℕ → ℝ)

/-- A head's scores, -/
def zz (h t s : ℕ) : ℝ := z (qs U h) (k U h) t s
/-- and their remainders. -/
def el (h t s : ℕ) : ℝ := ell (qs U h) (k U h) t s

variable {U} {x : S4096x6656.Idx → EReal}

theorem InU.at_ (hx : InU U x) (i : S4096x6656.Idx) (a b : ℕ) (ha : (i 0).val = a) (hb : (i 1).val = b) (h : 1536 ≤ b) (h' : b < 4608) :
    x i = ((U a b : ℝ) : EReal) := by
  subst ha hb
  exact hx i h h'

theorem v2_at (hx : InU U x) (i : S8x4096x128.Idx) :
    (val_main_v2 (F := Ideal) x : S8x4096x128.Idx → EReal) i = ((q U (i 0).val (i 1).val (i 2).val : ℝ) : EReal) := by
  have h0 : (i 0).val < 8 := (i 0).isLt
  have h1 : (i 1).val < 4096 := (i 1).isLt
  have h2 : (i 2).val < 128 := (i 2).isLt
  rw [val_main_v2_apply, val_main_v1_apply, val_main_v0_apply]
  refine hx.at_ _ _ _ ?_ ?_ (by omega) (by omega)
  · show (((i 1).val * 8 + (i 0).val) * 128 + (i 2).val) / 1024 = (i 1).val; omega
  · show 1536 + (((i 1).val * 8 + (i 0).val) * 128 + (i 2).val) % 1024 = 1536 + (128 * (i 0).val + (i 2).val); omega

theorem v5_at (hx : InU U x) (i : S8x4096x128.Idx) :
    (val_main_v5 (F := Ideal) x : S8x4096x128.Idx → EReal) i = ((k U (i 0).val (i 1).val (i 2).val : ℝ) : EReal) := by
  have h0 : (i 0).val < 8 := (i 0).isLt
  have h1 : (i 1).val < 4096 := (i 1).isLt
  have h2 : (i 2).val < 128 := (i 2).isLt
  rw [val_main_v5_apply, val_main_v4_apply, val_main_v3_apply]
  refine hx.at_ _ _ _ ?_ ?_ (by omega) (by omega)
  · show (((i 1).val * 8 + (i 0).val) * 128 + (i 2).val) / 1024 = (i 1).val; omega
  · show 2560 + (((i 1).val * 8 + (i 0).val) * 128 + (i 2).val) % 1024 = 2560 + (128 * (i 0).val + (i 2).val); omega

theorem v8_at (hx : InU U x) (i : S8x4096x128.Idx) :
    (val_main_v8 (F := Ideal) x : S8x4096x128.Idx → EReal) i = ((v U (i 0).val (i 1).val (i 2).val : ℝ) : EReal) := by
  have h0 : (i 0).val < 8 := (i 0).isLt
  have h1 : (i 1).val < 4096 := (i 1).isLt
  have h2 : (i 2).val < 128 := (i 2).isLt
  rw [val_main_v8_apply, val_main_v7_apply, val_main_v6_apply]
  refine hx.at_ _ _ _ ?_ ?_ (by omega) (by omega)
  · show (((i 1).val * 8 + (i 0).val) * 128 + (i 2).val) / 1024 = (i 1).val; omega
  · show 3584 + (((i 1).val * 8 + (i 0).val) * 128 + (i 2).val) % 1024 = 3584 + (128 * (i 0).val + (i 2).val); omega

theorem sum_coe_mul {n : ℕ} (f g : ℕ → ℝ) :
    ∑ j : Fin n, ((f j.val : ℝ) : EReal) * ((g j.val : ℝ) : EReal) = ((∑ j ∈ Finset.range n, f j * g j : ℝ) : EReal) := by
  rw [coe_sum, Finset.sum_range]
  exact Finset.sum_congr rfl fun j _ => (EReal.coe_mul _ _).symm

theorem v9_at (hx : InU U x) (i : S8x4096x4096.Idx) :
    (val_main_v9 (F := Ideal) x : S8x4096x4096.Idx → EReal) i = ((nt 128 (q U (i 0).val) (k U (i 0).val) (i 1).val (i 2).val : ℝ) : EReal) := by
  rw [val_main_v9_apply]
  refine Eq.trans (Finset.sum_congr rfl fun j _ => ?_) (sum_coe_mul (fun j => q U (i 0).val (i 1).val j) fun j => k U (i 0).val (i 2).val j)
  rw [v2_at hx, v5_at hx]

/-- The scores. -/
theorem v11_at (hx : InU U x) (i : S8x4096x4096.Idx) :
    (val_main_v11 (F := Ideal) x : S8x4096x4096.Idx → EReal) i = ((zz U (i 0).val (i 1).val (i 2).val : ℝ) : EReal) := by
  rw [val_main_v11_apply, v9_at hx, val_main_v10_apply, val_main_cst_apply]
  show ((nt 128 _ _ _ _ : ℝ) : EReal) * Ideal.ofBits .f32 0x3DB504F3#32 = _
  rw [ofBits_scale, ← EReal.coe_mul]
  congr 1
  unfold zz z nt qs
  rw [Finset.sum_mul]
  exact Finset.sum_congr rfl fun j _ => by ring

theorem zero_eq : (FloatOps.ofBits (F := Ideal) .f32 0x00000000#32 : EReal) = ((0 : ℝ) : EReal) := by
  show Ideal.ofBits .f32 0x00000000#32 = _
  rw [Ideal.ofBits_zero_f32]; rfl

theorem inf_eq : (FloatOps.ofBits (F := Ideal) .f32 0x7F800000#32 : EReal) = ⊤ := ofBits_inf

theorem c0_at (hx : InU U x) (i : S8x4096x4096.Idx) :
    (val_main_call0_v0 (F := Ideal) x : S8x4096x4096.Idx → EReal) i = ((zz U (i 0).val (i 1).val (i 2).val : ℝ) : EReal) := by
  rw [val_main_call0_v0_apply, val_main_v19_apply, v11_at hx]
  exact neg_neg _

theorem s0_at (hx : InU U x) (i : S8x4096x4096.Idx) :
    (val_main_call0_v1_0 (F := Ideal) x : S8x4096x4096.Idx → EReal) i = ((sp (zz U (i 0).val (i 1).val (i 2).val) : ℝ) : EReal) := by
  rw [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, c0_at hx]
  exact softplus_point _ _ zero_eq

theorem v20_1_at (hx : InU U x) (i : S8x4096x4096.Idx) :
    (val_main_v20_1 (F := Ideal) x : S8x4096x4096.Idx → EReal) i = ((Real.exp (lbf (zz U (i 0).val (i 1).val (i 2).val)) : ℝ) : EReal) := by
  rw [val_main_v20_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, c0_at hx, s0_at hx, keep_point _ _ _ inf_eq, keep_point _ _ _ inf_eq]
  rw [← exp_sub_sp]
  show Ideal.exp (((zz U _ _ _ : ℝ) : EReal) - ((sp _ : ℝ) : EReal)) = _
  rw [← EReal.coe_sub]; rfl

theorem v20_0_at (hx : InU U x) (i : S8x4096x4096.Idx) :
    (val_main_v20_0 (F := Ideal) x : S8x4096x4096.Idx → EReal) i
      = ((lbf (zz U (i 0).val (i 1).val (i 2).val) - zz U (i 0).val (i 1).val (i 2).val : ℝ) : EReal) := by
  rw [val_main_v20_0_apply, s0_at hx, ← neg_sp]
  exact (EReal.coe_neg _).symm

theorem c3_at (hx : InU U x) (i : S8x4096x4096.Idx) :
    (val_main_call3_v0 (F := Ideal) x : S8x4096x4096.Idx → EReal) i = ((-zz U (i 0).val (i 1).val (i 2).val : ℝ) : EReal) := by
  rw [val_main_call3_v0_apply, v11_at hx]
  exact (EReal.coe_neg _).symm

theorem s3_at (hx : InU U x) (i : S8x4096x4096.Idx) :
    (val_main_call3_v1_0 (F := Ideal) x : S8x4096x4096.Idx → EReal) i = ((sp (-zz U (i 0).val (i 1).val (i 2).val) : ℝ) : EReal) := by
  rw [val_main_call3_v1_0_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, c3_at hx]
  exact softplus_point _ _ zero_eq

theorem v27_1_at (hx : InU U x) (i : S8x4096x4096.Idx) :
    (val_main_v27_1 (F := Ideal) x : S8x4096x4096.Idx → EReal) i = ((1 - Real.exp (lbf (zz U (i 0).val (i 1).val (i 2).val)) : ℝ) : EReal) := by
  rw [val_main_v27_1_apply, val_main_call3_call0_v21_apply, val_main_call3_call0_v16_apply, val_main_call3_call0_v20_apply,
    val_main_call3_call0_v14_apply, val_main_call3_call0_v18_apply, val_main_call3_call0_v13_apply, val_main_call3_call0_v17_apply,
    val_main_call3_call0_cst_0_apply, val_main_call3_call0_cst_2_apply, c3_at hx, s3_at hx, keep_point _ _ _ inf_eq, keep_point _ _ _ inf_eq]
  rw [← exp_neg_sub_sp]
  show Ideal.exp (((-zz U _ _ _ : ℝ) : EReal) - ((sp _ : ℝ) : EReal)) = _
  rw [← EReal.coe_sub]; rfl

theorem v27_0_at (hx : InU U x) (i : S8x4096x4096.Idx) :
    (val_main_v27_0 (F := Ideal) x : S8x4096x4096.Idx → EReal) i = ((lbf (zz U (i 0).val (i 1).val (i 2).val) : ℝ) : EReal) := by
  rw [val_main_v27_0_apply, s3_at hx, lbf_eq]
  exact (EReal.coe_neg _).symm

/-! ### The mask and the remainders -/

theorem slt_nat (m n : ℕ) (hm : m < 4096) (hn : n < 4096) :
    (BitVec.ofNat 32 m).slt (BitVec.ofNat 32 n) = decide (m < n) := by
  rw [BitVec.slt_eq_decide, BitVec.toInt_ofNat', BitVec.toInt_ofNat', Int.bmod_eq_of_le (by omega) (by omega), Int.bmod_eq_of_le (by omega) (by omega)]
  simp

theorem v18_at (i : S4096x4096.Idx) : val_main_v18 (F := Ideal) i = if (i 1).val < (i 0).val then 1#1 else 0#1 := by
  rw [val_main_v18_apply, val_main_v16_apply, val_main_v17_apply, val_main_v13_apply, val_main_v15_apply, val_main_v12_apply, val_main_v14_apply]
  show BitVec.ofBool ((BitVec.ofNat 32 (i 1).val).slt (BitVec.ofNat 32 (i 0).val)) = _
  rw [slt_nat _ _ (i 1).isLt (i 0).isLt]
  by_cases h : (i 1).val < (i 0).val
  · rw [if_pos h, decide_eq_true h]; rfl
  · rw [if_neg h, decide_eq_false h]; rfl

/-- A choice by a bit that says whether `p` holds. -/
theorem select_ite (p : Prop) [Decidable p] (a b : ℝ) :
    (Scalar.select (if p then 1#1 else 0#1) (a : EReal) (b : EReal)) = ((if p then a else b : ℝ) : EReal) := by
  by_cases h : p
  · rw [if_pos h, if_pos h]; rfl
  · rw [if_neg h, if_neg h]; rfl

theorem v21_1_at (i : S8x4096x4096.Idx) : val_main_v21_1 (F := Ideal) i = if (i 2).val < (i 1).val then 1#1 else 0#1 := by
  rw [val_main_v21_1_apply, v18_at]

theorem v30_1_at (i : S8x4096x4096.Idx) : val_main_v30_1 (F := Ideal) i = if (i 2).val < (i 1).val then 1#1 else 0#1 := by
  rw [val_main_v30_1_apply, v18_at]

theorem v21_0_at (hx : InU U x) (i : S8x4096x4096.Idx) :
    (val_main_v21_0 (F := Ideal) x : S8x4096x4096.Idx → EReal) i = ((el U (i 0).val (i 1).val (i 2).val : ℝ) : EReal) := by
  rw [val_main_v21_0_apply, v21_1_at, v20_0_at hx, val_main_call1_v2_apply, val_main_call1_v0_apply, val_main_cst_0_apply, zero_eq]
  exact select_ite _ _ _

/-- A row's remainders summed. -/
theorem v22_at (hx : InU U x) (i : S8x4096.Idx) :
    (val_main_v22 (F := Ideal) x : S8x4096.Idx → EReal) i = ((tot U (i 0).val (i 1).val : ℝ) : EReal) := by
  rw [val_main_v22_apply, val_main_cst_1_apply, zero_eq, EReal.coe_zero, zero_add]
  unfold tot ellSum
  rw [coe_sum, Finset.sum_range]
  exact Finset.sum_congr rfl fun j _ => v21_0_at hx _

/-- The remainders up to a place and with it. -/
theorem v24_at (hx : InU U x) (i : S8x4096x4096.Idx) :
    (val_main_v24 (F := Ideal) x : S8x4096x4096.Idx → EReal) i = ((ellSum (qs U (i 0).val) (k U (i 0).val) (i 1).val ((i 2).val + 1) : ℝ) : EReal) := by
  unfold val_main_v24
  exact scan_left (el U) _ (v21_0_at hx) _ _ (by rw [val_main_call2_call0_v0_apply, val_main_call2_call0_cst_apply]; exact zero_eq) _ i

/-- What a row's remainders come to after a place. -/
theorem v26_at (hx : InU U x) (i : S8x4096x4096.Idx) :
    (val_main_v26 (F := Ideal) x : S8x4096x4096.Idx → EReal) i
      = ((tot U (i 0).val (i 1).val - ellSum (qs U (i 0).val) (k U (i 0).val) (i 1).val ((i 2).val + 1) : ℝ) : EReal) := by
  rw [val_main_v26_apply, v24_at hx, val_main_v25_apply, val_main_v23_apply, v22_at hx]
  exact (EReal.coe_sub _ _).symm

end Cert.RefScores

end
-- ==== Proof.HostValues.lean ====
/-
  WHAT THE LINES BEFORE THE CALL MAKE: the sums of the rows' remainders, laid out as the call reads them, and the two
  triangles. The sums are the reference's own.
-/
module

public import proofs.«01_k».proof.Proof.Heads
public import proofs.«01_k».proof.Proof.RefScores

@[expose] public section

noncomputable section

namespace Cert.HostValues

open Idealize.ShloMosaic Idealize.ShloMosaic.TcCoe Idealize.SL.Sem Idealize.ShloMosaic.StableHlo Cert.KernelIdeal Cert.KernelIdeal.Gen Cert.RealArr Cert.Stick Cert.Heads Cert.RefScores

variable (m : (ℓ : Loc nD τ sig) → Buf (Elt Ideal) ℓ) (c : Dev nD)

/-- A row's number, in each of its head's 128 columns. -/
def spread (a : S8x4096.Idx → EReal) : S4096x1024.Idx → EReal :=
  shapeCast S4096x1024 (transpose S4096x8x128 [1, 0, 2]
    (broadcastInDim S8x4096x128 ![0, 1, 2] bcast_S8x4096x1_S8x4096x128_0_1_2 (broadcastInDim S8x4096x1 ![0, 1] bcast_S8x4096_S8x4096x1_0_1 a))
    transposes_S8x4096x128_S4096x8x128_1_0_2) shapeCasts_S4096x8x128_S4096x1024

theorem spread_at (f : ℕ → ℕ → ℝ) (a : S8x4096.Idx → EReal) (ha : ∀ i, a i = ((f (i 0).val (i 1).val : ℝ) : EReal)) :
    spread a = arr fun t x => f (x / 128) t := by
  funext i
  have h0 : (i 0).val < 4096 := (i 0).isLt
  have h1 : (i 1).val < 1024 := (i 1).isLt
  have b0 : (i 1).val / 128 < 8 := by omega
  have b2 : (i 1).val % 128 < 128 := by omega
  unfold spread
  rw [shapeCast_apply _ _ i (ValueIdx.ix3 ⟨(i 0).val, h0⟩ ⟨(i 1).val / 128, b0⟩ ⟨(i 1).val % 128, b2⟩) (by
      rewrite [Shape.rowMajor_val_three, Shape.rowMajor_val_two]
      show ((i 0).val * 8 + (i 1).val / 128) * 128 + (i 1).val % 128 = (i 0).val * 1024 + (i 1).val
      omega),
    transpose_apply _ _ _ _ (ValueIdx.ix3 ⟨(i 1).val / 128, b0⟩ ⟨(i 0).val, h0⟩ ⟨(i 1).val % 128, b2⟩) (fun b => match b with
      | ⟨0, _⟩ => rfl
      | ⟨1, _⟩ => rfl
      | ⟨2, _⟩ => rfl),
    broadcastInDim_apply _ _ _ _ (ValueIdx.ix3 ⟨(i 1).val / 128, b0⟩ ⟨(i 0).val, h0⟩ ⟨0, Nat.one_pos⟩) (fun a => match a with
      | ⟨0, _⟩ => by show (i 1).val / 128 = if (8 : Nat) = 1 then 0 else (i 1).val / 128; rw [if_neg (by decide)]
      | ⟨1, _⟩ => by show (i 0).val = if (4096 : Nat) = 1 then 0 else (i 0).val; rw [if_neg (by decide)]
      | ⟨2, _⟩ => by show 0 = if (1 : Nat) = 1 then 0 else (i 1).val % 128; rw [if_pos rfl]),
    broadcastInDim_apply _ _ _ _ (ValueIdx.ix2 ⟨(i 1).val / 128, b0⟩ ⟨(i 0).val, h0⟩) (fun a => match a with
      | ⟨0, _⟩ => by show (i 1).val / 128 = if (8 : Nat) = 1 then 0 else (i 1).val / 128; rw [if_neg (by decide)]
      | ⟨1, _⟩ => by show (i 0).val = if (4096 : Nat) = 1 then 0 else (i 0).val; rw [if_neg (by decide)]), ha]
  rfl

/-- One where `p` holds of the row and the column, nought elsewhere. -/
def triangle (p : CmpIPredicate) : S256x256.Idx → EReal :=
  truncf .bf16 (φ := .f32) (F := Ideal) (select (cmpi p (iotaInDim S256x256 32 0) (iotaInDim S256x256 32 1))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

theorem triangle_at (p : CmpIPredicate) (i : S256x256.Idx) :
    triangle p i = Scalar.select (IntOp.cmpi p (BitVec.ofNat 32 (i 0).val) (BitVec.ofNat 32 (i 1).val)) ((1 : ℝ) : EReal) ((0 : ℝ) : EReal) := by
  rw [← ofBits_one, ← zero_eq]
  rfl

theorem sle_nat (m n : ℕ) (hm : m < 4096) (hn : n < 4096) :
    (BitVec.ofNat 32 m).sle (BitVec.ofNat 32 n) = decide (m ≤ n) := by
  rw [BitVec.sle_eq_decide, BitVec.toInt_ofNat', BitVec.toInt_ofNat', Int.bmod_eq_of_le (by omega) (by omega), Int.bmod_eq_of_le (by omega) (by omega)]
  simp

theorem triangle_le : triangle .sle = arr incl := by
  funext i
  have h0 : (i 0).val < 256 := (i 0).isLt
  have h1 : (i 1).val < 256 := (i 1).isLt
  rw [triangle_at]
  show Scalar.select (BitVec.ofBool ((BitVec.ofNat 32 (i 0).val).sle (BitVec.ofNat 32 (i 1).val))) _ _ = ((if (i 0).val ≤ (i 1).val then 1 else 0 : ℝ) : EReal)
  rw [sle_nat _ _ (by omega) (by omega), ← select_ite]
  congr 1
  by_cases h : (i 0).val ≤ (i 1).val
  · rw [if_pos h, decide_eq_true h]; rfl
  · rw [if_neg h, decide_eq_false h]; rfl

theorem triangle_lt : triangle .slt = arr excl := by
  funext i
  have h0 : (i 0).val < 256 := (i 0).isLt
  have h1 : (i 1).val < 256 := (i 1).isLt
  rw [triangle_at]
  show Scalar.select (BitVec.ofBool ((BitVec.ofNat 32 (i 0).val).slt (BitVec.ofNat 32 (i 1).val))) _ _ = ((if (i 0).val < (i 1).val then 1 else 0 : ℝ) : EReal)
  rw [slt_nat _ _ (by omega) (by omega), ← select_ite]
  congr 1
  by_cases h : (i 0).val < (i 1).val
  · rw [if_pos h, decide_eq_true h]; rfl
  · rw [if_neg h, decide_eq_false h]; rfl

set_option maxRecDepth 8192 in
set_option maxHeartbeats 2000000 in
theorem V_main_v29 : (V m c main_v29 : S256x256.Idx → EReal) = triangle .sle := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, TRef.ternary, TRef.binary, TRef.nullary, TRef.unary, TRef.toBuf, TRef.ofBuf, cast_eq]
  after_results_simp
  all_goals rfl

set_option maxRecDepth 8192 in
set_option maxHeartbeats 2000000 in
theorem V_main_v34 : (V m c main_v34 : S256x256.Idx → EReal) = triangle .slt := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, TRef.ternary, TRef.binary, TRef.nullary, TRef.unary, TRef.toBuf, TRef.ofBuf, cast_eq]
  after_results_simp
  all_goals rfl

set_option maxRecDepth 8192 in
set_option maxHeartbeats 2000000 in
theorem V_main_v23 : (V m c main_v23 : S4096x1024.Idx → EReal) = spread (Cert.ReferenceIdeal.Read.val_main_v22 (F := Ideal) (V m c main_arg0)) := by
  rw [V_main_arg0]
  unfold V
  simp only [hostOps0, hostOps0_1, hostOps0_2, hostOps0_3, hostOps0_4, hostOps0_5, hostOps0_6, hostOps0_7, hostOps0_8, List.flatten_cons, List.flatten_nil,
    List.append_nil, List.cons_append, List.nil_append, TRef.ternary, TRef.binary, TRef.nullary, TRef.unary, TRef.toBuf, TRef.ofBuf, cast_eq]
  after_results_simp
  all_goals rfl

variable {m c}

/-- What the points find, of arguments that are real. -/
theorem found {U W : ℕ → ℕ → ℝ} (hx : InU U (V m c main_arg0 : S4096x6656.Idx → EReal))
    (hy : ∀ i : S4096x1024.Idx, (V m c main_arg1 : S4096x1024.Idx → EReal) i = ((W (i 0).val (i 1).val : ℝ) : EReal)) : Found U W m c where
  u := hx
  w := funext hy
  t := (V_main_v23 m c).trans (spread_at (tot U) _ (v22_at hx))
  i := (V_main_v29 m c).trans triangle_le
  e := (V_main_v34 m c).trans triangle_lt

end Cert.HostValues

end
-- ==== Proof.RefGrads.lean ====
/-
  WHAT THE REFERENCE COMPUTES NEXT, entry by entry: the weights, the gradient of the scores through the sums from the
  right, the three products and where they are laid.
-/
module

public import proofs.«01_k».proof.Proof.RefScores
public import Idealize.ShloMosaic.Lib.KernelVsHost

@[expose] public section

noncomputable section

namespace Cert.RefGrads

open Idealize.ShloMosaic Cert.ReferenceIdeal Cert.ReferenceIdeal.Gen Cert.ReferenceIdeal.Read Cert.RealArr Cert.RealHost Cert.Stick Cert.Heads Cert.RefScores

/-- The second argument is the real array `W`. -/
def IsW (W : ℕ → ℕ → ℝ) (y : S4096x1024.Idx → EReal) : Prop := ∀ i : S4096x1024.Idx, y i = ((W (i 0).val (i 1).val : ℝ) : EReal)

variable (U W : ℕ → ℕ → ℝ)

/-- A weight before the mask. -/
def ex (h t s : ℕ) : ℝ := Real.exp (lbf (zz U h t s) + (tot U h t - ellSum (qs U h) (k U h) t (s + 1)))
/-- Head `h`'s weights, -/
def wg (h t s : ℕ) : ℝ := wgt (qs U h) (k U h) (tot U h) t s
/-- the gradient of the weights times the weights, -/
def gr (h t s : ℕ) : ℝ := grad (qs U h) (k U h) (v U h) (d W h) (tot U h) t s
/-- and the gradient of the scores. -/
def dzz (h t s : ℕ) : ℝ := dz (qs U h) (k U h) (v U h) (d W h) (tot U h) t s

variable {U W} {x : S4096x6656.Idx → EReal} {y : S4096x1024.Idx → EReal}

theorem v29_at (hx : InU U x) (i : S8x4096x4096.Idx) :
    (val_main_v29 (F := Ideal) x : S8x4096x4096.Idx → EReal) i = ((ex U (i 0).val (i 1).val (i 2).val : ℝ) : EReal) := by
  rw [val_main_v29_apply, val_main_v28_apply, v27_0_at hx, v26_at hx]
  show Ideal.exp (((lbf _ : ℝ) : EReal) + ((_ : ℝ) : EReal)) = _
  rw [← EReal.coe_add]; rfl

theorem v30_0_at (hx : InU U x) (i : S8x4096x4096.Idx) :
    (val_main_v30_0 (F := Ideal) x : S8x4096x4096.Idx → EReal) i = ((wg U (i 0).val (i 1).val (i 2).val : ℝ) : EReal) := by
  rw [val_main_v30_0_apply, v30_1_at, v29_at hx, val_main_call4_v2_apply, val_main_call4_v0_apply, val_main_cst_2_apply, zero_eq]
  exact select_ite _ _ _

theorem v35_at (hy : IsW W y) (i : S8x4096x128.Idx) :
    (val_main_v35 (F := Ideal) y : S8x4096x128.Idx → EReal) i = ((d W (i 0).val (i 1).val (i 2).val : ℝ) : EReal) := by
  have h0 : (i 0).val < 8 := (i 0).isLt
  have h1 : (i 1).val < 4096 := (i 1).isLt
  have h2 : (i 2).val < 128 := (i 2).isLt
  rw [val_main_v35_apply, val_main_v34_apply, hy]
  show ((W ((((i 1).val * 8 + (i 0).val) * 128 + (i 2).val) / 1024) ((((i 1).val * 8 + (i 0).val) * 128 + (i 2).val) % 1024) : ℝ) : EReal) = _
  rw [show (((i 1).val * 8 + (i 0).val) * 128 + (i 2).val) / 1024 = (i 1).val by omega,
    show (((i 1).val * 8 + (i 0).val) * 128 + (i 2).val) % 1024 = 128 * (i 0).val + (i 2).val by omega]; rfl

/-- The gradient of the values, head by head. -/
theorem v37_at (hx : InU U x) (hy : IsW W y) (i : S8x4096x128.Idx) :
    (val_main_v37 (F := Ideal) x y : S8x4096x128.Idx → EReal) i = ((dvs U W (i 0).val (i 1).val (i 2).val : ℝ) : EReal) := by
  rw [val_main_v37_apply, val_main_v36_apply]
  refine Eq.trans (Finset.sum_congr rfl fun j _ => ?_)
    ((sum_coe_mul (fun j => d W (i 0).val j (i 2).val) fun j => wg U (i 0).val j (i 1).val).trans ?_)
  · rw [v35_at hy, v30_0_at hx]
  · congr 1
    exact Finset.sum_congr rfl fun j _ => mul_comm _ _

theorem v38_at (hx : InU U x) (hy : IsW W y) (i : S8x4096x4096.Idx) :
    (val_main_v38 (F := Ideal) x y : S8x4096x4096.Idx → EReal) i = ((nt 128 (d W (i 0).val) (v U (i 0).val) (i 1).val (i 2).val : ℝ) : EReal) := by
  rw [val_main_v38_apply]
  refine Eq.trans (Finset.sum_congr rfl fun j _ => ?_) (sum_coe_mul (fun j => d W (i 0).val (i 1).val j) fun j => v U (i 0).val (i 2).val j)
  rw [v35_at hy, v8_at hx]

theorem v40_at (hx : InU U x) (hy : IsW W y) (i : S8x4096x4096.Idx) :
    (val_main_v40 (F := Ideal) x y : S8x4096x4096.Idx → EReal) i = ((gr U W (i 0).val (i 1).val (i 2).val : ℝ) : EReal) := by
  rw [val_main_v40_apply, val_main_v39_apply, v30_1_at, v38_at hx hy, val_main_call5_v0_apply, val_main_call5_cst_apply, zero_eq, select_ite, v29_at hx]
  refine (EReal.coe_mul _ _).symm.trans ?_
  congr 1
  unfold gr grad wgt ex zz
  split
  · rw [mul_comm]
  · rw [zero_mul, zero_mul]

theorem v41_at (hx : InU U x) (hy : IsW W y) (i : S8x4096x4096.Idx) :
    (val_main_v41 (F := Ideal) x y : S8x4096x4096.Idx → EReal) i
      = ((gr U W (i 0).val (i 1).val (i 2).val * (1 - Real.exp (lbf (zz U (i 0).val (i 1).val (i 2).val))) : ℝ) : EReal) := by
  rw [val_main_v41_apply, val_main_call6_v1_apply, val_main_call6_v0_apply, v40_at hx hy, v27_1_at hx]
  show -(-((_ : ℝ) : EReal) * ((_ : ℝ) : EReal)) = _
  rw [← EReal.coe_neg, ← EReal.coe_mul, ← EReal.coe_neg]
  congr 1
  ring

theorem v42_at (hx : InU U x) (hy : IsW W y) (i : S8x4096.Idx) :
    (val_main_v42 (F := Ideal) x y : S8x4096.Idx → EReal) i = ((∑ s ∈ Finset.range 4096, gr U W (i 0).val (i 1).val s : ℝ) : EReal) := by
  rw [val_main_v42_apply, val_main_cst_3_apply, zero_eq, EReal.coe_zero, zero_add, coe_sum, Finset.sum_range]
  exact Finset.sum_congr rfl fun j _ => v40_at hx hy _

theorem v46_at (hx : InU U x) (hy : IsW W y) (i : S8x4096.Idx) :
    (val_main_v46 (F := Ideal) x y : S8x4096.Idx → EReal) i = ((∑ s ∈ Finset.range 4096, gr U W (i 0).val (i 1).val s : ℝ) : EReal) := by
  have h0 : (i 0).val < 8 := (i 0).isLt
  have h1 : (i 1).val < 4096 := (i 1).isLt
  rw [val_main_v46_apply, val_main_cst_4_apply, zero_eq, EReal.coe_zero, zero_add, Fin.sum_univ_one, val_main_v43_apply, v42_at hx hy]
  show ((∑ s ∈ Finset.range 4096, gr U W ((((i 0).val * 4096 + (i 1).val) * 1 + 0) / 4096) ((((i 0).val * 4096 + (i 1).val) * 1 + 0) % 4096) s : ℝ) : EReal) = _
  rw [show (((i 0).val * 4096 + (i 1).val) * 1 + 0) / 4096 = (i 0).val by omega, show (((i 0).val * 4096 + (i 1).val) * 1 + 0) % 4096 = (i 1).val by omega]

theorem v44_at (hx : InU U x) (hy : IsW W y) (i : S8x4096x4096.Idx) :
    (val_main_v44 (F := Ideal) x y : S8x4096x4096.Idx → EReal) i = ((-gr U W (i 0).val (i 1).val (i 2).val : ℝ) : EReal) := by
  rw [val_main_v44_apply, v40_at hx hy]
  exact (EReal.coe_neg _).symm

theorem v45_at (hx : InU U x) (hy : IsW W y) (i : S8x4096x4096.Idx) :
    (val_main_v45 (F := Ideal) x y : S8x4096x4096.Idx → EReal) i
      = ((∑ s ∈ Finset.range 4096, -gr U W (i 0).val (i 1).val s - ∑ s ∈ Finset.range (i 2).val, -gr U W (i 0).val (i 1).val s : ℝ) : EReal) := by
  unfold val_main_v45
  exact scan_right (fun h t s => -gr U W h t s) _ (v44_at hx hy) _ _ (by rw [val_main_call7_call0_v0_apply, val_main_call7_call0_cst_apply]; exact zero_eq) _ i

/-- The sum up to a place and without it, as the reference makes it of the sum from the place on. -/
theorem v48_at (hx : InU U x) (hy : IsW W y) (i : S8x4096x4096.Idx) :
    (val_main_v48 (F := Ideal) x y : S8x4096x4096.Idx → EReal) i
      = ((gradSum (qs U (i 0).val) (k U (i 0).val) (v U (i 0).val) (d W (i 0).val) (tot U (i 0).val) (i 1).val (i 2).val : ℝ) : EReal) := by
  rw [val_main_v48_apply, v45_at hx hy, val_main_v47_apply, v46_at hx hy]
  refine (EReal.coe_add _ _).symm.trans ?_
  congr 1
  rw [Finset.sum_neg_distrib, Finset.sum_neg_distrib]
  unfold gradSum gr
  ring

/-- The gradient of the scores. -/
theorem v52_at (hx : InU U x) (hy : IsW W y) (i : S8x4096x4096.Idx) :
    (val_main_v52 (F := Ideal) x y : S8x4096x4096.Idx → EReal) i = ((dzz U W (i 0).val (i 1).val (i 2).val : ℝ) : EReal) := by
  rw [val_main_v52_apply, v41_at hx hy, val_main_v51_apply, val_main_v50_apply, val_main_call9_v1_apply, val_main_call9_v0_apply,
    val_main_v49_apply, v21_1_at, v48_at hx hy, val_main_call8_v0_apply, val_main_call8_cst_apply, zero_eq, select_ite, v20_1_at hx]
  show ((_ : ℝ) : EReal) + -(-(-((_ : ℝ) : EReal) * ((_ : ℝ) : EReal))) = _
  rw [← EReal.coe_neg, ← EReal.coe_mul, ← EReal.coe_neg, ← EReal.coe_neg, ← EReal.coe_add]
  congr 1
  unfold dzz dz
  by_cases h : (i 2).val < (i 1).val
  · rw [if_pos h, if_pos h]
    unfold gr zz
    ring
  · rw [if_neg h, if_neg h]
    unfold gr grad wgt
    rw [if_neg h]
    ring

theorem v54_at (hx : InU U x) (hy : IsW W y) (i : S8x4096x4096.Idx) :
    (val_main_v54 (F := Ideal) x y : S8x4096x4096.Idx → EReal) i = ((dzz U W (i 0).val (i 1).val (i 2).val * scale : ℝ) : EReal) := by
  rw [val_main_v54_apply, v52_at hx hy, val_main_v53_apply, val_main_cst_5_apply]
  show ((dzz U W _ _ _ : ℝ) : EReal) * Ideal.ofBits .f32 0x3DB504F3#32 = _
  rw [ofBits_scale, ← EReal.coe_mul]

/-- The gradient of the keys, head by head, -/
theorem v55_at (hx : InU U x) (hy : IsW W y) (i : S8x4096x128.Idx) :
    (val_main_v55 (F := Ideal) x y : S8x4096x128.Idx → EReal) i = ((dks U W (i 0).val (i 1).val (i 2).val : ℝ) : EReal) := by
  rw [val_main_v55_apply]
  refine Eq.trans (Finset.sum_congr rfl fun j _ => ?_)
    ((sum_coe_mul (fun j => dzz U W (i 0).val j (i 1).val * scale) fun j => q U (i 0).val j (i 2).val).trans ?_)
  · rw [v54_at hx hy, v2_at hx]
  · congr 1
    unfold dks dk
    exact Finset.sum_congr rfl fun j _ => by unfold dzz qs; ring

/-- and of the queries. -/
theorem v56_at (hx : InU U x) (hy : IsW W y) (i : S8x4096x128.Idx) :
    (val_main_v56 (F := Ideal) x y : S8x4096x128.Idx → EReal) i = ((dqs U W (i 0).val (i 1).val (i 2).val : ℝ) : EReal) := by
  rw [val_main_v56_apply]
  refine Eq.trans (Finset.sum_congr rfl fun j _ => ?_)
    ((sum_coe_mul (fun j => dzz U W (i 0).val (i 1).val j * scale) fun j => k U (i 0).val j (i 2).val).trans ?_)
  · rw [v54_at hx hy, v5_at hx]
  · congr 1
    unfold dqs dq
    rw [Finset.sum_mul]
    exact Finset.sum_congr rfl fun j _ => by unfold dzz; ring

/-! ### Where they are laid -/

theorem v58_at (hx : InU U x) (hy : IsW W y) (i : S4096x1024.Idx) :
    (val_main_v58 (F := Ideal) x y : S4096x1024.Idx → EReal) i = ((dvs U W ((i 1).val / 128) (i 0).val ((i 1).val % 128) : ℝ) : EReal) := by
  have h0 : (i 0).val < 4096 := (i 0).isLt
  have h1 : (i 1).val < 1024 := (i 1).isLt
  rw [val_main_v58_apply, val_main_v57_apply, v37_at hx hy]
  show ((dvs U W (((i 0).val * 1024 + (i 1).val) / 128 % 8) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]

theorem v61_at (hx : InU U x) (hy : IsW W y) (i : S4096x1024.Idx) :
    (val_main_v61 (F := Ideal) x y : S4096x1024.Idx → EReal) i = ((dks U W ((i 1).val / 128) (i 0).val ((i 1).val % 128) : ℝ) : EReal) := by
  have h0 : (i 0).val < 4096 := (i 0).isLt
  have h1 : (i 1).val < 1024 := (i 1).isLt
  rw [val_main_v61_apply, val_main_v60_apply, v55_at hx hy]
  show ((dks U W (((i 0).val * 1024 + (i 1).val) / 128 % 8) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]

theorem v65_at (hx : InU U x) (hy : IsW W y) (i : S4096x1024.Idx) :
    (val_main_v65 (F := Ideal) x y : S4096x1024.Idx → EReal) i = ((dqs U W ((i 1).val / 128) (i 0).val ((i 1).val % 128) : ℝ) : EReal) := by
  have h0 : (i 0).val < 4096 := (i 0).isLt
  have h1 : (i 1).val < 1024 := (i 1).isLt
  rw [val_main_v65_apply, val_main_v64_apply, v56_at hx hy]
  show ((dqs U W (((i 0).val * 1024 + (i 1).val) / 128 % 8) (((i 0).val * 1024 + (i 1).val) / 1024) (((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]

/-- An array of 1024 columns laid from column `n` on, read there, -/
theorem pad_in {n hi : ℕ} (f : S4096x1024.Idx → EReal) {u : Shape} (o : u.Idx → EReal) (h : S4096x1024.Pads ![0, n] ![0, hi] ![0, 0] S4096x6656) (hu : 0 < u.numel)
    (j : S4096x6656.Idx) (i : S4096x1024.Idx) (h0 : (j 0).val = (i 0).val) (h1 : (j 1).val = n + (i 1).val) :
    pad S4096x6656 ![0, n] ![0, hi] ![0, 0] f o h hu j = f i :=
  pad_apply_of_inside _ _ _ f o h hu j i fun a => match a with
    | ⟨0, _⟩ => by show (j 0).val = 0 + (i 0).val * 1; omega
    | ⟨1, _⟩ => by show (j 1).val = n + (i 1).val * 1; omega

/-- and elsewhere. -/
theorem pad_out {n hi : ℕ} (f : S4096x1024.Idx → EReal) {u : Shape} (o : u.Idx → EReal) (h : S4096x1024.Pads ![0, n] ![0, hi] ![0, 0] S4096x6656) (hu : 0 < u.numel)
    (j : S4096x6656.Idx) (h1 : (j 1).val < n ∨ n + 1024 ≤ (j 1).val) (ho : o (Shape.Idx.first hu) = 0) :
    pad S4096x6656 ![0, n] ![0, hi] ![0, 0] f o h hu j = 0 := by
  rw [pad_apply_of_not_inside _ _ _ f o h hu j 1, ho]
  intro hc
  have a : n ≤ (j 1).val := hc.1
  have b : ((j 1).val - n) / 1 < 1024 := hc.2.2
  rw [Nat.div_one] at b
  omega

theorem zero_at {u : Shape} (o : u.Idx → EReal) (ho : ∀ i, o i = FloatOps.ofBits (F := Ideal) .f32 0x00000000#32) (i : u.Idx) : o i = 0 := by
  rw [ho, zero_eq]; rfl

/-- The reference's three results. -/
theorem v68_eq (hx : InU U x) (hy : IsW W y) :
    (val_main_v68 (F := Ideal) x y : S4096x1024.Idx → EReal) = arr fun t c => dqs U W (c / 128) t (c % 128) := by
  funext i
  have h1 : (i 1).val < 1024 := (i 1).isLt
  rw [val_main_v68_apply, val_main_v67_apply, val_main_v63_apply]
  unfold val_main_v59 val_main_v62 val_main_v66
  rw [pad_out _ _ _ _ _ (.inl (show 1536 + (i 1).val < 3584 by omega)) (zero_at _ (val_main_cst_6_apply (F := Ideal)) _),
    pad_out _ _ _ _ _ (.inl (show 1536 + (i 1).val < 2560 by omega)) (zero_at _ (val_main_cst_7_apply (F := Ideal)) _),
    pad_in _ _ _ _ _ i rfl rfl, v65_at hx hy]
  show (0 : EReal) + 0 + _ = _
  rw [zero_add, zero_add]; rfl

theorem v69_eq (hx : InU U x) (hy : IsW W y) :
    (val_main_v69 (F := Ideal) x y : S4096x1024.Idx → EReal) = arr fun s c => dks U W (c / 128) s (c % 128) := by
  funext i
  have h1 : (i 1).val < 1024 := (i 1).isLt
  rw [val_main_v69_apply, val_main_v67_apply, val_main_v63_apply]
  unfold val_main_v59 val_main_v62 val_main_v66
  rw [pad_out _ _ _ _ _ (.inl (show 2560 + (i 1).val < 3584 by omega)) (zero_at _ (val_main_cst_6_apply (F := Ideal)) _),
    pad_in _ _ _ _ _ i rfl rfl, v61_at hx hy,
    pad_out _ _ _ _ _ (.inr (show 1536 + 1024 ≤ 2560 + (i 1).val by omega)) (zero_at _ (val_main_cst_8_apply (F := Ideal)) _)]
  show (0 : EReal) + _ + 0 = _
  rw [zero_add, add_zero]; rfl

theorem v70_eq (hx : InU U x) (hy : IsW W y) :
    (val_main_v70 (F := Ideal) x y : S4096x1024.Idx → EReal) = arr fun s c => dvs U W (c / 128) s (c % 128) := by
  funext i
  have h1 : (i 1).val < 1024 := (i 1).isLt
  rw [val_main_v70_apply, val_main_v67_apply, val_main_v63_apply]
  unfold val_main_v59 val_main_v62 val_main_v66
  rw [pad_in _ _ _ _ _ i rfl rfl, v58_at hx hy,
    pad_out _ _ _ _ _ (.inr (show 2560 + 1024 ≤ 3584 + (i 1).val by omega)) (zero_at _ (val_main_cst_7_apply (F := Ideal)) _),
    pad_out _ _ _ _ _ (.inr (show 1536 + 1024 ≤ 3584 + (i 1).val by omega)) (zero_at _ (val_main_cst_8_apply (F := Ideal)) _)]
  show _ + (0 : EReal) + 0 = _
  rw [add_zero, add_zero]; rfl

end Cert.RefGrads

end
-- ==== Proof.Finite.lean ====
/-
  FROM THE PRECONDITION TO REAL ARRAYS: an entry whose absolute value is below infinity is a real number, so the argument
  columns the step reads, and the whole of the second argument, are real arrays.
-/
module

public import proofs.«01_k».proof.Pre_finite_inputs
public import proofs.«01_k».proof.Proof.RefGrads
public import Idealize.ShloMosaic.Lib.Pointwise.Select

@[expose] public section

noncomputable section

namespace Cert.Finite

open Idealize.ShloMosaic Idealize.ShloMosaic.ValueIdx Cert.Pre_finite_inputs Cert.RealHost Cert.RefScores Cert.RefGrads

/-- The shape relations the predicate states. -/
theorem facts : Cert.Pre_finite_inputs.Facts where
  slices_S4096x6656_S4096x3072_0_1536 := by decide
  bcast_S_S4096x3072 := by decide
  bcast_S_S4096x1024 := by decide

/-- An extended real whose absolute value is below infinity is the real number it stands for. -/
theorem real_of_below {z : EReal} (h : Ideal.cmp .olt (max z (-z)) (Ideal.ofBits .f32 0x7F800000#32) = 1#1) : z = ((z.toReal : ℝ) : EReal) := by
  rw [ofBits_inf] at h
  have hlt : max z (-z) < ⊤ := (Ideal.cmp_olt_eq_one _ _).1 h
  refine (EReal.coe_toReal (ne_of_lt (lt_of_le_of_lt (le_max_left _ _) hlt)) fun hb => ?_).symm
  have h2 := lt_of_le_of_lt (le_max_right _ _) hlt
  rw [hb, EReal.neg_bot] at h2
  exact lt_irrefl _ h2

/-- The real number at a place of a two-dimensional array, zero outside it. -/
def realAt {a b : ℕ} (x : (⟨2, ![a, b]⟩ : Shape).Idx → EReal) (i j : ℕ) : ℝ :=
  if h : i < a ∧ j < b then (x (ValueIdx.ix2 ⟨i, h.1⟩ ⟨j, h.2⟩)).toReal else 0

theorem realAt_val {a b : ℕ} (x : (⟨2, ![a, b]⟩ : Shape).Idx → EReal) (i : (⟨2, ![a, b]⟩ : Shape).Idx) :
    realAt x (i 0).val (i 1).val = (x i).toReal := by
  have h : (i 0).val < a ∧ (i 1).val < b := ⟨(i 0).isLt, (i 1).isLt⟩
  rw [realAt, dif_pos h]
  refine congrArg (fun j => (x j).toReal) (funext fun n => ?_)
  fin_cases n <;> rfl

variable [hF : Cert.Pre_finite_inputs.Facts] {x : S4096x6656.Idx → EReal} {y : S4096x1024.Idx → EReal}

/-- The first answer at a place is the comparison of the column `1536` places on, -/
theorem first_at (j : S4096x3072.Idx) : (fn (F := Ideal) x y).1 j = Ideal.cmp .olt
    (max (extractStridedSlice S4096x3072 ![0, 1536] x Facts.slices_S4096x6656_S4096x3072_0_1536 j)
      (-(extractStridedSlice S4096x3072 ![0, 1536] x Facts.slices_S4096x6656_S4096x3072_0_1536 j))) (Ideal.ofBits .f32 0x7F800000#32) := rfl

/-- and the second is the comparison of the entry itself. -/
theorem second_at (j : S4096x1024.Idx) : (fn (F := Ideal) x y).2 j = Ideal.cmp .olt (max (y j) (-(y j))) (Ideal.ofBits .f32 0x7F800000#32) := rfl

theorem inU (h : (fn (F := Ideal) x y).1 = fun _ => 1#1) : InU (realAt x) x := by
  intro i h1 h2
  have h0 : (i 0).val < 4096 := (i 0).isLt
  have hb : (i 1).val - 1536 < 3072 := by omega
  have hs : extractStridedSlice S4096x3072 ![0, 1536] x Facts.slices_S4096x6656_S4096x3072_0_1536
      (ValueIdx.ix2 ⟨(i 0).val, h0⟩ ⟨(i 1).val - 1536, hb⟩) = x i := by
    refine extractStridedSlice_apply ![0, 1536] x _ _ i fun n => ?_
    fin_cases n
    · show (i 0).val = 0 + (i 0).val
      omega
    · show (i 1).val = 1536 + ((i 1).val - 1536)
      omega
  have e := (first_at _).symm.trans (congrFun h (ValueIdx.ix2 ⟨(i 0).val, h0⟩ ⟨(i 1).val - 1536, hb⟩))
  rw [hs] at e
  rw [realAt_val]
  exact real_of_below e

theorem isW (h : (fn (F := Ideal) x y).2 = fun _ => 1#1) : IsW (realAt y) y := by
  intro i
  rw [realAt_val]
  exact real_of_below ((second_at i).symm.trans (congrFun h i))

end Cert.Finite

end
-- ==== Proof.Tiles.lean ====
/-
  PRODUCTS OF EXTENDED REALS, as tables: a block of a table, a product read at its places, and a sum over positions taken
  block after block.
-/
module

public import proofs.«01_k».proof.Proof.Buffers

@[expose] public section

noncomputable section

namespace Cert.Tiles

open Idealize.ShloMosaic Idealize.SL.Sem Cert.RealArr Cert.Buffers

variable {n m K : ℕ}

/-- The entries of an array, and zero beyond it. -/
def ent (x : (⟨2, ![n, m]⟩ : Shape).Idx → EReal) (r c : ℕ) : EReal :=
  if h : r < n ∧ c < m then x (ValueIdx.ix2 ⟨r, h.1⟩ ⟨c, h.2⟩) else 0

/-- An entry of an array, at the numbers of its place. -/
theorem eq_ent (x : (⟨2, ![n, m]⟩ : Shape).Idx → EReal) (i : (⟨2, ![n, m]⟩ : Shape).Idx) {r c : ℕ} (hr : (i 0).val = r) (hc : (i 1).val = c) :
    x i = ent x r c := by
  subst hr hc
  unfold ent
  rw [dif_pos ⟨(i 0).isLt, (i 1).isLt⟩]
  refine congrArg x (funext fun a => ?_)
  match a with
  | ⟨0, _⟩ => rfl
  | ⟨1, _⟩ => rfl

/-- The sum of `K` products from place `b` on. -/
def part (b K : ℕ) (f g : ℕ → EReal) : EReal := ∑ k ∈ Finset.range K, f (b + k) * g (b + k)

theorem part_zero (b : ℕ) (f g : ℕ → EReal) : part b 0 f g = 0 := rfl

theorem part_add (b K L : ℕ) (f g : ℕ → EReal) : part b K f g + part (b + K) L f g = part b (K + L) f g := by
  unfold part
  rw [Finset.sum_range_add]
  simp only [Nat.add_assoc]

theorem part_comm (b K : ℕ) (f g : ℕ → EReal) : part b K f g = part b K g f :=
  Finset.sum_congr rfl fun _ _ => mul_comm _ _

/-- The sum a reference writes over the indices below `K`. -/
theorem sum_eq_part {F G : Fin K → EReal} {f g : ℕ → EReal} (hf : ∀ k, F k = f k.val) (hg : ∀ k, G k = g k.val) :
    ∑ k, F k * G k = part 0 K f g := by
  unfold part
  rw [Finset.sum_range]
  exact Finset.sum_congr rfl fun k _ => by rw [hf, hg, Nat.zero_add]

/-- The array of zeros an accumulator starts from. -/
theorem zeros : constant (F := Ideal) (⟨2, ![n, m]⟩ : Shape) .f32 0x00000000#32 = tab fun _ _ => (0 : EReal) := by
  rw [constZero_arr]
  funext i
  exact EReal.coe_zero

/-- A product whose operands are read at `(r, k)` and `(k, c)`, into zeros. -/
theorem matmul_tab {sl sr : Shape} (d : DotDims sl sr ⟨2, ![n, m]⟩) (x : sl.Idx → EReal) (y : sr.Idx → EReal)
    {a : Fin sl.rank} (hc : d.lhsContracting = [a]) (hK : sl.size a = K) (f g : ℕ → ℕ → EReal) (b : ℕ)
    (hx : ∀ (j : (⟨2, ![n, m]⟩ : Shape).Idx) (k : Fin K), x (d.lhsIdx j (d.contrIdx₁ hc hK k)) = f (j 0).val (b + k.val))
    (hy : ∀ (j : (⟨2, ![n, m]⟩ : Shape).Idx) (k : Fin K), y (d.rhsIdx j (d.contrIdx₁ hc hK k)) = g (j 1).val (b + k.val)) :
    Ideal.matmul d x y (constant (F := Ideal) (⟨2, ![n, m]⟩ : Shape) .f32 0x00000000#32) = tab fun r c => part b K (f r) (g c) := by
  rw [zeros]
  funext j
  rw [Ideal.matmul_apply₁ d hc hK]
  show (0 : EReal) + _ = ∑ k ∈ Finset.range K, f (j 0).val (b + k) * g (j 1).val (b + k)
  rw [zero_add, Finset.sum_range]
  exact Finset.sum_congr rfl fun k _ => by rw [← hx j k, ← hy j k]; rfl

theorem tab_add {f g : ℕ → ℕ → EReal} : addf (F := Ideal) (φ := .f32) (tab f : (⟨2, ![n, m]⟩ : Shape).Idx → EReal) (tab g) = tab fun r c => f r c + g r c := rfl

end Cert.Tiles

end
-- ==== Proof.InWeights.lean ====
/-
  THE GRADIENT OF THE PROJECTION'S WEIGHTS: a block of the result is the product of a block of columns of the rows with a
  block of columns of the gradient, half of the 4096 rows at each of two points.
-/
module

public import proofs.«01_k».proof.Defs
public import proofs.«01_k».proof.Proof.Gen.Kernel2Ideal.Value
public import proofs.«01_k».proof.Proof.Gen.Reference2Ideal.Read
public import proofs.«01_k».proof.Proof.Tiles
public import Idealize.ShloMosaic.Lib.Pipeline.Frame
public import Idealize.ShloMosaic.Adequacy
public import Idealize.ShloMosaic.Init

@[expose] public section

noncomputable section

namespace Cert.InWeights

open Idealize.ShloMosaic Idealize.ShloMosaic.TcCoe Idealize.SL.Sem Cert.Kernel2Ideal Cert.Kernel2Ideal.Gen Cert.Kernel2Ideal.Value Cert.RealArr Cert.Buffers Cert.Tiles

variable (m : (ℓ : Loc nD τ sig) → Buf (Elt Ideal) ℓ) (c : Dev nD)

theorem index0 : ∀ t : Fin cfg0.N, win0_0.index t 0 = t.val % 2 ∧ win0_0.index t 1 = t.val / 26 :=
  (by decide +kernel : ∀ t : Fin grid0.N, win0_0.index t 0 = t.val % 2 ∧ win0_0.index t 1 = t.val / 26)
theorem index1 : ∀ t : Fin cfg0.N, win0_1.index t 0 = t.val % 2 ∧ win0_1.index t 1 = t.val / 2 % 13 :=
  (by decide +kernel : ∀ t : Fin grid0.N, win0_1.index t 0 = t.val % 2 ∧ win0_1.index t 1 = t.val / 2 % 13)
theorem index2 : ∀ t : Fin cfg0.N, win0_2.index t 0 = t.val / 26 ∧ win0_2.index t 1 = t.val / 2 % 13 :=
  (by decide +kernel : ∀ t : Fin grid0.N, win0_2.index t 0 = t.val / 26 ∧ win0_2.index t 1 = t.val / 2 % 13)

/-- The columns of the rows projected. -/
def cols (r k : ℕ) : EReal := ent (n := 4096) (m := 2048) (m ((c : Thread nD τ).loc main_arg0)) k r

/-- The columns of the gradient. -/
def grad (x k : ℕ) : EReal := ent (n := 4096) (m := 6656) (m ((c : Thread nD τ).loc main_arg2)) k x

theorem blk0 (t : Fin cfg0.N) :
    iblk m c 0 t = (tab fun k r => cols m c (1024 * (t.val / 26) + r) (2048 * (t.val % 2) + k) : S2048x1024.Idx → EReal) := by
  have hi := index0 t
  funext j
  unfold iblk
  rw [View.read_apply]
  show V m c main_arg0 _ = _
  rw [V_main_arg0]
  refine eq_ent _ _ ?_ ?_
  · show win0_0.index t 0 * 2048 + 1 * (j 0).val = _
    rw [hi.1]; omega
  · show win0_0.index t 1 * 1024 + 1 * (j 1).val = _
    rw [hi.2]; omega

theorem blk1 (t : Fin cfg0.N) :
    iblk m c 1 t = (tab fun k x => grad m c (512 * (t.val / 2 % 13) + x) (2048 * (t.val % 2) + k) : S2048x512.Idx → EReal) := by
  have hi := index1 t
  funext j
  unfold iblk
  rw [View.read_apply]
  show V m c main_arg2 _ = _
  rw [V_main_arg2]
  refine eq_ent _ _ ?_ ?_
  · show win0_1.index t 0 * 2048 + 1 * (j 0).val = _
    rw [hi.1]; omega
  · show win0_1.index t 1 * 512 + 1 * (j 1).val = _
    rw [hi.2]; omega

variable {f g : ℕ → ℕ → EReal} {b p q : ℕ}

theorem product : k0_pay1 (F := Ideal) (tab fun k r => f (p + r) (b + k)) (tab fun k x => g (q + x) (b + k))
    = tab fun r x => part b 2048 (f (p + r)) (g (q + x)) := by
  unfold k0_pay1
  dsimp only
  exact matmul_tab dot_S2048x1024_S2048x512_S1024x512_0_0_1_1_n_n _ _ rfl rfl (fun r => f (p + r)) (fun x => g (q + x)) b
    (fun _ _ => rfl) (fun _ _ => rfl)

theorem product_first (v0 : Vec Ideal S2048x1024 .bf16) (v1 : Vec Ideal S2048x512 .bf16) : k0_pay2 v0 v1 = k0_pay1 v0 v1 := by
  unfold k0_pay2
  dsimp only
  exact shapeCast_self _ _

theorem product_next (v0 : Vec Ideal S2048x1024 .bf16) (v1 : Vec Ideal S2048x512 .bf16) (a : Vec Ideal S1024x512 .f32) :
    k0_pay3 v0 v1 a = addf a (k0_pay1 v0 v1) := by
  unfold k0_pay3
  dsimp only
  exact shapeCast_self _ _

theorem hz : (![0, 0] : Fin 2 → ℕ) = fun _ => 0 := by decide

/-- What the first point of a block leaves in the running sum. -/
theorem first (i : grid0.Coords) (a3 : Memref sig .tc .vmem S2048x1024 .bf16) (h3 : a3.IsWhole) (a4 : Memref sig .tc .vmem S2048x512 .bf16) (h4 : a4.IsWhole)
    (a5 : Memref sig .tc .vmem S1024x512 .bf16) (h5 : a5.IsWhole) (a6 : Memref sig .tc .vmem S1024x512 .f32) (h6 : a6.IsWhole) (e0 e1 e2)
    (x0 : Vec Ideal S2048x1024 .bf16) (x1 : Vec Ideal S2048x512 .bf16) :
    sout0_A_0 c i a3 h3 a4 h4 a5 h5 a6 h6 e0 e1 e2 x0 x1 = k0_pay1 x0 x1 := by
  unfold sout0_A_0
  rw [View.read_writes_eq_canon _ _ _ (scover0_A_0 c i a3 h3 a4 h4 a5 h5 a6 h6 e0 e1 e2 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S2048x512) hz]
  exact product_first _ _

/-- What the second point leaves of the result's block. -/
theorem second (i : grid0.Coords) (a3 : Memref sig .tc .vmem S2048x1024 .bf16) (h3 : a3.IsWhole) (a4 : Memref sig .tc .vmem S2048x512 .bf16) (h4 : a4.IsWhole)
    (a5 : Memref sig .tc .vmem S1024x512 .bf16) (h5 : a5.IsWhole) (a6 : Memref sig .tc .vmem S1024x512 .f32) (h6 : a6.IsWhole) (e0 e1 e2)
    (x0 : Vec Ideal S2048x1024 .bf16) (x1 : Vec Ideal S2048x512 .bf16) (a : Vec Ideal S1024x512 .f32) :
    (out0_B_2 c i a3 h3 a4 h4 a5 h5 a6 h6 e0 e1 e2 x0 x1 a : S1024x512.Idx → EReal) = addf (φ := .f32) a (k0_pay1 x0 x1) := by
  unfold out0_B_2
  rw [View.read_writes_eq_canon _ _ _ (cover0_B_2 c i a3 h3 a4 h4 a5 h5 a6 h6 e0 e1 e2 x0 x1 a)]
  unfold kernelRun0_B
  dsimp only
  sl_unfold_words
  rw [View.canon_unit_zero hz]
  simp only [View.readAt_eq_ld, h3.read_unread, h4.read_unread, h6.read_unread, View.readCov_unit_zero (S := S1024x512) _ hz, View.ld_unit_zero (S := S2048x1024) hz, View.ld_unit_zero (S := S2048x512) hz, View.ld_unit_zero (S := S1024x512) hz]
  rw [product_next]
  rfl

/-- What the second point of a block writes back. -/
theorem flushed (t : Fin cfg0.N) (ht : t.val % 2 = 1) :
    (dats m 0 c).flushed 2 t = (cfg0.win 2).cut (grid0.coords t)
      (tab fun r x => part 0 4096 (cols m c (1024 * (t.val / 26) + r)) (grad m c (512 * (t.val / 2 % 13) + x))) := by
  rw [flushed2_B m c t (by omega) ht ht, second]
  congr 1
  have hs := outsAt0_A m c ⟨t.val - 1, lt_of_le_of_lt (Nat.sub_le _ _) t.isLt⟩ (by show (t.val - 1) % 2 = 0; omega) (by show ¬(t.val - 1) % 2 = 1; omega) (by show ¬(t.val - 1) % 2 = 1; omega)
  rw [congrArg Prod.snd hs]
  dsimp only
  rw [first, blk0, blk1, blk0, blk1, product, product, tab_add]
  funext j
  show part (2048 * ((t.val - 1) % 2)) 2048 (cols m c (1024 * ((t.val - 1) / 26) + (j 0).val)) (grad m c (512 * ((t.val - 1) / 2 % 13) + (j 1).val))
      + part (2048 * (t.val % 2)) 2048 (cols m c (1024 * (t.val / 26) + (j 0).val)) (grad m c (512 * (t.val / 2 % 13) + (j 1).val)) = _
  rw [show (t.val - 1) % 2 = 0 by omega, show (t.val - 1) / 26 = t.val / 26 by omega, show (t.val - 1) / 2 = t.val / 2 by omega, ht]
  exact part_add 0 2048 2048 _ _

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have e0 : win0_2.index t 0 = win0_2.index t' 0 := congrFun h 0
    have e1 : win0_2.index t 1 = win0_2.index t' 1 := congrFun h 1
    rw [(index2 t).1, (index2 t').1] at e0
    rw [(index2 t).2, (index2 t').2] at e1
    have := (flush0_2 t).mp hf
    have := (flush0_2 t').mp hf'
    omega))

/-- The array the call leaves. -/
theorem array : ((dats m 0 c).arrAt 2 cfg0.N : S2048x6656.Idx → EReal) = tab fun r x => part 0 4096 (cols m c r) (grad m c x) := by
  funext i
  have h0 : (i 0).val < 2048 := (i 0).isLt
  have h1 : (i 1).val < 6656 := (i 1).isLt
  obtain ⟨t, ht⟩ : ∃ t : Fin cfg0.N, t.val = 26 * ((i 0).val / 1024) + 2 * ((i 1).val / 512) + 1 :=
    ⟨⟨_, lt_of_lt_of_eq (by omega : 26 * ((i 0).val / 1024) + 2 * ((i 1).val / 512) + 1 < 52) N_0.symm⟩, rfl⟩
  have hj0 : (i 0).val % 1024 < 1024 := by omega
  have hj1 : (i 1).val % 512 < 512 := by omega
  have hf : t.val % 2 = 1 := by omega
  have e := congrFun ((dats m 0 c).read_blk_arrAt_eq_flushed 2 disjoint2 cfg0.N t t.isLt ((flush0_2 t).mpr hf)) (ValueIdx.ix2 ⟨(i 0).val % 1024, hj0⟩ ⟨(i 1).val % 512, hj1⟩)
  rw [flushed m c t hf, View.read_apply] at e
  have hi : ((cfg0.win 2).blk t).view.emb (ValueIdx.ix2 ⟨(i 0).val % 1024, hj0⟩ ⟨(i 1).val % 512, hj1⟩) = i := by
    funext a
    match a with
    | ⟨0, _⟩ =>
      refine Fin.ext ?_
      show win0_2.index t 0 * 1024 + 1 * ((i 0).val % 1024) = (i 0).val
      rw [(index2 t).1]; omega
    | ⟨1, _⟩ =>
      refine Fin.ext ?_
      show win0_2.index t 1 * 512 + 1 * ((i 1).val % 512) = (i 1).val
      rw [(index2 t).2]; omega
  rw [hi] at e
  refine Eq.trans e ?_
  show part 0 4096 (cols m c (1024 * (t.val / 26) + (i 0).val % 1024)) (grad m c (512 * (t.val / 2 % 13) + (i 1).val % 512))
    = part 0 4096 (cols m c (i 0).val) (grad m c (i 1).val)
  rw [show 1024 * (t.val / 26) + (i 0).val % 1024 = (i 0).val by omega, show 512 * (t.val / 2 % 13) + (i 1).val % 512 = (i 1).val by omega]

/-- The result the reference writes. -/
theorem reference (x : S4096x2048.Idx → EReal) (y : S4096x6656.Idx → EReal) :
    (Cert.Reference2Ideal.Read.val_main_v7 (F := Ideal) x y : S2048x6656.Idx → EReal)
      = tab fun r c => part 0 4096 (fun k => ent (n := 4096) (m := 2048) x k r) (fun k => ent (n := 4096) (m := 6656) y k c) := by
  funext i
  rw [Cert.Reference2Ideal.Read.val_main_v7_apply, Cert.Reference2Ideal.Read.val_main_v5_apply, Cert.Reference2Ideal.Read.val_main_v4_apply]
  refine (sum_eq_part (fun k => ?_) (fun k => ?_)).trans (part_comm 0 4096 (fun k => ent (n := 4096) (m := 6656) y k (i 1).val) (fun k => ent (n := 4096) (m := 2048) x k (i 0).val))
  · exact eq_ent y _ rfl rfl
  · exact eq_ent x _ rfl rfl

/-- The array the call leaves is the reference's. -/
theorem values : Cert.algebraic_Kernel2Ideal_Reference2Ideal (hKernel2Ideal := Cert.Kernel2Ideal.Gen.facts) (hReference2Ideal := Cert.Reference2Ideal.Gen.facts) := by
  intro m g m' g' _ hagree
  refine ⟨fun c => (dats m 0 c).arrAt 2 cfg0.N, run_blocks (F := Ideal) m g, ?_⟩
  refine (θ_run Cert.Reference2Ideal.defs _ _).mono (fun r h c => ⟨?_, (h c).2⟩) (Cert.Reference2Ideal.Value.run (F := Ideal) m' g')
  obtain ⟨a0, _, a2⟩ := hagree c
  refine (h c).1.trans ?_
  rw [a0, a2]
  exact (reference _ _).trans (array m c).symm

/-- The reference ends, its arguments are what they were, and it declares no semaphore. -/
theorem frame_reference : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

end Cert.InWeights

end
-- ==== Proof.InRows.lean ====
/-
  THE GRADIENT OF THE ROWS PROJECTED: a block of the result is the product of a block of rows of the gradient with a block
  of rows of the weights, a quarter of the 6656 columns at each of four points.
-/
module

public import proofs.«01_k».proof.Defs
public import proofs.«01_k».proof.Proof.Gen.Kernel3Ideal.Value
public import proofs.«01_k».proof.Proof.Gen.Reference3Ideal.Read
public import proofs.«01_k».proof.Proof.Tiles
public import Idealize.ShloMosaic.Lib.Pipeline.Frame
public import Idealize.ShloMosaic.Adequacy
public import Idealize.ShloMosaic.Init

@[expose] public section

noncomputable section

namespace Cert.InRows

open Idealize.ShloMosaic Idealize.ShloMosaic.TcCoe Idealize.SL.Sem Cert.Kernel3Ideal Cert.Kernel3Ideal.Gen Cert.Kernel3Ideal.Value Cert.RealArr Cert.Buffers Cert.Tiles

variable (m : (ℓ : Loc nD τ sig) → Buf (Elt Ideal) ℓ) (c : Dev nD)

theorem index0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem index1 : ∀ t : Fin cfg0.N, win0_1.index t 0 = t.val / 4 % 2 ∧ win0_1.index t 1 = t.val % 4 :=
  (by decide +kernel : ∀ t : Fin grid0.N, win0_1.index t 0 = t.val / 4 % 2 ∧ win0_1.index t 1 = t.val % 4)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The rows of the gradient. -/
def grad : ℕ → ℕ → EReal := ent (n := 4096) (m := 6656) (m ((c : Thread nD τ).loc main_arg2))

/-- The rows of the weights. -/
def weights : ℕ → ℕ → EReal := ent (n := 2048) (m := 6656) (m ((c : Thread nD τ).loc main_arg1))

theorem blk0 (t : Fin cfg0.N) :
    iblk m c 0 t = (tab fun r k => grad m c (1024 * (t.val / 8) + r) (1664 * (t.val % 4) + k) : S1024x1664.Idx → EReal) := by
  have hi := index0 t
  funext j
  unfold iblk
  rw [View.read_apply]
  show V m c main_arg2 _ = _
  rw [V_main_arg2]
  refine eq_ent _ _ ?_ ?_
  · show win0_0.index t 0 * 1024 + 1 * (j 0).val = _
    rw [hi.1]; omega
  · show win0_0.index t 1 * 1664 + 1 * (j 1).val = _
    rw [hi.2]; omega

theorem blk1 (t : Fin cfg0.N) :
    iblk m c 1 t = (tab fun x k => weights m c (1024 * (t.val / 4 % 2) + x) (1664 * (t.val % 4) + k) : S1024x1664.Idx → EReal) := by
  have hi := index1 t
  funext j
  unfold iblk
  rw [View.read_apply]
  show V m c main_arg1 _ = _
  rw [V_main_arg1]
  refine eq_ent _ _ ?_ ?_
  · show win0_1.index t 0 * 1024 + 1 * (j 0).val = _
    rw [hi.1]; omega
  · show win0_1.index t 1 * 1664 + 1 * (j 1).val = _
    rw [hi.2]; omega

variable {f g : ℕ → ℕ → EReal} {b p q : ℕ}

theorem product : k0_pay1 (F := Ideal) (tab fun r k => f (p + r) (b + k)) (tab fun x k => g (q + x) (b + k))
    = tab fun r x => part b 1664 (f (p + r)) (g (q + x)) := by
  unfold k0_pay1
  dsimp only
  exact matmul_tab dot_S1024x1664_S1024x1664_S1024x1024_1_1_0_0_n_n _ _ rfl rfl (fun r => f (p + r)) (fun x => g (q + x)) b
    (fun _ _ => rfl) (fun _ _ => rfl)

theorem product_first (v0 v1 : Vec Ideal S1024x1664 .bf16) : k0_pay2 v0 v1 = k0_pay1 v0 v1 := by
  unfold k0_pay2
  dsimp only
  exact shapeCast_self _ _

theorem product_next (v0 v1 : Vec Ideal S1024x1664 .bf16) (a : Vec Ideal S1024x1024 .f32) :
    k0_pay3 v0 v1 a = addf a (k0_pay1 v0 v1) := by
  unfold k0_pay3
  dsimp only
  exact shapeCast_self _ _

theorem hz : (![0, 0] : Fin 2 → ℕ) = fun _ => 0 := by decide

section Points

variable (i : grid0.Coords) (a3 : Memref sig .tc .vmem S1024x1664 .bf16) (h3 : a3.IsWhole) (a4 : Memref sig .tc .vmem S1024x1664 .bf16) (h4 : a4.IsWhole)
  (a5 : Memref sig .tc .vmem S1024x1024 .f32) (h5 : a5.IsWhole) (a6 : Memref sig .tc .vmem S1024x1024 .f32) (h6 : a6.IsWhole)
  (x0 x1 : Vec Ideal S1024x1664 .bf16) (a : Vec Ideal S1024x1024 .f32)

/-- What the first point of a block leaves in the running sum. -/
theorem first (e0 e1 e2) : sout0_A_0 c i a3 h3 a4 h4 a5 h5 a6 h6 e0 e1 e2 x0 x1 = k0_pay1 x0 x1 := by
  unfold sout0_A_0
  rw [View.read_writes_eq_canon _ _ _ (scover0_A_0 c i a3 h3 a4 h4 a5 h5 a6 h6 e0 e1 e2 x0 x1)]
  unfold kernelRun0_A
  dsimp only
  sl_unfold_words
  rw [View.canon_unit_zero hz]
  simp only [View.readAt_eq_ld, h3.read_unread, h4.read_unread, View.ld_unit_zero (S := S1024x1664) hz]
  exact product_first _ _

/-- What a middle point leaves in the running sum. -/
theorem middle (e0 e1 e2) : sout0_B_0 c i a3 h3 a4 h4 a5 h5 a6 h6 e0 e1 e2 x0 x1 a = addf a (k0_pay1 x0 x1) := by
  unfold sout0_B_0
  rw [View.read_writes_eq_canon _ _ _ (scover0_B_0 c i a3 h3 a4 h4 a5 h5 a6 h6 e0 e1 e2 x0 x1 a)]
  unfold kernelRun0_B
  dsimp only
  sl_unfold_words
  rw [View.canon_unit_zero hz]
  simp only [View.readAt_eq_ld, h3.read_unread, h4.read_unread, h6.read_unread, View.ld_unit_zero (S := S1024x1664) hz, View.ld_unit_zero (S := S1024x1024) hz]
  exact product_next _ _ _

/-- What the last point leaves of the result's block. -/
theorem last (e0 e1 e2) : out0_C_2 c i a3 h3 a4 h4 a5 h5 a6 h6 e0 e1 e2 x0 x1 a = addf a (k0_pay1 x0 x1) := by
  unfold out0_C_2
  rw [View.read_writes_eq_canon _ _ _ (cover0_C_2 c i a3 h3 a4 h4 a5 h5 a6 h6 e0 e1 e2 x0 x1 a)]
  unfold kernelRun0_C
  dsimp only
  sl_unfold_words
  rw [View.canon_unit_zero hz]
  simp only [View.readAt_eq_ld, h3.read_unread, h4.read_unread, h6.read_unread, View.readCov_unit_zero (S := S1024x1024) _ hz, View.ld_unit_zero (S := S1024x1664) hz, View.ld_unit_zero (S := S1024x1024) hz]
  exact product_next _ _ _

end Points

/-- The product of a point's two blocks. -/
theorem point (t : Fin cfg0.N) : k0_pay1 (F := Ideal) (iblk m c 0 t) (iblk m c 1 t)
    = tab fun r x => part (1664 * (t.val % 4)) 1664 (grad m c (1024 * (t.val / 8) + r)) (weights m c (1024 * (t.val / 4 % 2) + x)) := by
  rw [blk0, blk1, product]

/-- The running sum after `n + 1` of a block's points. -/
theorem running (n : ℕ) (hn : n < 3) : ∀ (t : ℕ) (ht : t < cfg0.N), t % 4 = n →
    ((outsAt0 m c t ht).2 : S1024x1024.Idx → EReal)
      = tab fun r x => part 0 (1664 * (n + 1)) (grad m c (1024 * (t / 8) + r)) (weights m c (1024 * (t / 4 % 2) + x)) := by
  induction n with
  | zero =>
    intro t ht h
    refine (congrArg Prod.snd (outsAt0_A m c ⟨t, ht⟩ (by show t % 4 = 0; omega) (by show ¬1 ≤ t % 4; omega) (by show ¬t % 4 = 3; omega))).trans ?_
    dsimp only
    rw [first, point]
    dsimp only
    rw [h]
  | succ n ih =>
    intro t ht h
    refine (congrArg Prod.snd (outsAt0_B m c ⟨t, ht⟩ (by show ¬t % 4 = 0; omega) (by show 1 ≤ t % 4; omega) (by show ¬t % 4 = 3; omega))).trans ?_
    dsimp only
    rw [middle, point, ih (by omega) (t - 1) _ (by omega), tab_add]
    dsimp only
    rw [h, show (t - 1) / 8 = t / 8 by omega, show (t - 1) / 4 = t / 4 by omega]
    funext j
    have e := part_add 0 (1664 * (n + 1)) 1664 (grad m c (1024 * (t / 8) + (j 0).val)) (weights m c (1024 * (t / 4 % 2) + (j 1).val))
    rw [Nat.zero_add] at e
    exact e

/-- What the last point of a block writes back. -/
theorem flushed (t : Fin cfg0.N) (ht : t.val % 4 = 3) :
    (dats m 0 c).flushed 2 t = (cfg0.win 2).cut (grid0.coords t)
      (tab fun r x => part 0 6656 (grad m c (1024 * (t.val / 8) + r)) (weights m c (1024 * (t.val / 4 % 2) + x))) := by
  rw [flushed2_C m c t (by omega) (by omega) ht, last, point, running m c 2 (by omega) (t.val - 1) _ (by omega), tab_add, ht,
    show (t.val - 1) / 8 = t.val / 8 by omega, show (t.val - 1) / 4 = t.val / 4 by omega]
  refine congrArg ((cfg0.win 2).cut (grid0.coords t)) (funext fun j => ?_)
  exact part_add 0 4992 1664 (grad m c (1024 * (t.val / 8) + (j 0).val)) (weights m c (1024 * (t.val / 4 % 2) + (j 1).val))

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have e0 : win0_2.index t 0 = win0_2.index t' 0 := congrFun h 0
    have e1 : win0_2.index t 1 = win0_2.index t' 1 := congrFun h 1
    rw [(index2 t).1, (index2 t').1] at e0
    rw [(index2 t).2, (index2 t').2] at e1
    have := (flush0_2 t).mp hf
    have := (flush0_2 t').mp hf'
    omega))

/-- The array the call leaves. -/
theorem array : ((dats m 0 c).arrAt 2 cfg0.N : S4096x2048.Idx → EReal) = tab fun r x => part 0 6656 (grad m c r) (weights m c x) := by
  funext i
  have h0 : (i 0).val < 4096 := (i 0).isLt
  have h1 : (i 1).val < 2048 := (i 1).isLt
  obtain ⟨t, ht⟩ : ∃ t : Fin cfg0.N, t.val = 8 * ((i 0).val / 1024) + 4 * ((i 1).val / 1024) + 3 :=
    ⟨⟨_, lt_of_lt_of_eq (by omega : 8 * ((i 0).val / 1024) + 4 * ((i 1).val / 1024) + 3 < 32) N_0.symm⟩, rfl⟩
  have hj0 : (i 0).val % 1024 < 1024 := by omega
  have hj1 : (i 1).val % 1024 < 1024 := by omega
  have hf : t.val % 4 = 3 := by omega
  have e := congrFun ((dats m 0 c).read_blk_arrAt_eq_flushed 2 disjoint2 cfg0.N t t.isLt ((flush0_2 t).mpr hf)) (ValueIdx.ix2 ⟨(i 0).val % 1024, hj0⟩ ⟨(i 1).val % 1024, hj1⟩)
  rw [flushed m c t hf, View.read_apply] at e
  have hi : ((cfg0.win 2).blk t).view.emb (ValueIdx.ix2 ⟨(i 0).val % 1024, hj0⟩ ⟨(i 1).val % 1024, hj1⟩) = i := by
    funext a
    match a with
    | ⟨0, _⟩ =>
      refine Fin.ext ?_
      show win0_2.index t 0 * 1024 + 1 * ((i 0).val % 1024) = (i 0).val
      rw [(index2 t).1]; omega
    | ⟨1, _⟩ =>
      refine Fin.ext ?_
      show win0_2.index t 1 * 1024 + 1 * ((i 1).val % 1024) = (i 1).val
      rw [(index2 t).2]; omega
  rw [hi] at e
  refine Eq.trans e ?_
  show part 0 6656 (grad m c (1024 * (t.val / 8) + (i 0).val % 1024)) (weights m c (1024 * (t.val / 4 % 2) + (i 1).val % 1024))
    = part 0 6656 (grad m c (i 0).val) (weights m c (i 1).val)
  rw [show 1024 * (t.val / 8) + (i 0).val % 1024 = (i 0).val by omega, show 1024 * (t.val / 4 % 2) + (i 1).val % 1024 = (i 1).val by omega]

/-- The result the reference writes. -/
theorem reference (x : S2048x6656.Idx → EReal) (y : S4096x6656.Idx → EReal) :
    (Cert.Reference3Ideal.Read.val_main_v6 (F := Ideal) x y : S4096x2048.Idx → EReal)
      = tab fun r c => part 0 6656 (ent (n := 4096) (m := 6656) y r) (ent (n := 2048) (m := 6656) x c) := by
  funext i
  rw [Cert.Reference3Ideal.Read.val_main_v6_apply]
  exact sum_eq_part (f := ent (n := 4096) (m := 6656) y (i 0).val) (g := ent (n := 2048) (m := 6656) x (i 1).val)
    (fun _ => eq_ent y _ rfl rfl) (fun _ => eq_ent x _ rfl rfl)

/-- The array the call leaves is the reference's. -/
theorem values : Cert.algebraic_Kernel3Ideal_Reference3Ideal (hKernel3Ideal := Cert.Kernel3Ideal.Gen.facts) (hReference3Ideal := Cert.Reference3Ideal.Gen.facts) := by
  intro m g m' g' _ hagree
  refine ⟨fun c => (dats m 0 c).arrAt 2 cfg0.N, run_blocks (F := Ideal) m g, ?_⟩
  refine (θ_run Cert.Reference3Ideal.defs _ _).mono (fun r h c => ⟨?_, (h c).2⟩) (Cert.Reference3Ideal.Value.run (F := Ideal) m' g')
  obtain ⟨_, a1, a2⟩ := hagree c
  refine (h c).1.trans ?_
  rw [a1, a2]
  exact (reference _ _).trans (array m c).symm

/-- The reference ends, its arguments are what they were, and it declares no semaphore. -/
theorem frame_reference : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

end Cert.InRows

end
-- ==== Proof.Projection.lean ====
/-
  THE PROJECTION of a layer's rows, as the kernel computes it: every block of the result is one product of a block of rows
  with a block of columns, and the blocks fill the array.
-/
module

public import proofs.«01_k».proof.Defs
public import proofs.«01_k».proof.Proof.Gen.Kernel4Ideal.Value
public import proofs.«01_k».proof.Proof.Gen.Reference4Ideal.Read
public import proofs.«01_k».proof.Proof.Tiles
public import Idealize.ShloMosaic.Lib.Pipeline.Frame
public import Idealize.ShloMosaic.Adequacy
public import Idealize.ShloMosaic.Init

@[expose] public section

noncomputable section

namespace Cert.Projection

open Idealize.ShloMosaic Idealize.ShloMosaic.TcCoe Idealize.SL.Sem Cert.Kernel4Ideal Cert.Kernel4Ideal.Gen Cert.Kernel4Ideal.Value Cert.RealArr Cert.Buffers Cert.Tiles

variable (m : (ℓ : Loc nD τ sig) → Buf (Elt Ideal) ℓ) (c : Dev nD)

theorem index0 : ∀ t : Fin cfg0.N, win0_0.index t 0 = t.val / 13 ∧ win0_0.index t 1 = 0 :=
  (by decide +kernel : ∀ t : Fin grid0.N, win0_0.index t 0 = t.val / 13 ∧ win0_0.index t 1 = 0)
theorem index1 : ∀ t : Fin cfg0.N, win0_1.index t 0 = 0 ∧ win0_1.index t 1 = t.val % 13 :=
  (by decide +kernel : ∀ t : Fin grid0.N, win0_1.index t 0 = 0 ∧ win0_1.index t 1 = t.val % 13)
theorem index2 : ∀ t : Fin cfg0.N, win0_2.index t 0 = t.val / 13 ∧ win0_2.index t 1 = t.val % 13 :=
  (by decide +kernel : ∀ t : Fin grid0.N, win0_2.index t 0 = t.val / 13 ∧ win0_2.index t 1 = t.val % 13)

/-- The rows projected. -/
def rows : ℕ → ℕ → EReal := ent (n := 4096) (m := 2048) (m ((c : Thread nD τ).loc main_arg0))

/-- The weights. -/
def weights : ℕ → ℕ → EReal := ent (n := 2048) (m := 6656) (m ((c : Thread nD τ).loc main_arg1))

theorem blk0 (t : Fin cfg0.N) :
    iblk m c 0 t = (tab fun r k => rows m c (1024 * (t.val / 13) + r) k : S1024x2048.Idx → EReal) := by
  have hi := index0 t
  funext j
  unfold iblk
  rw [View.read_apply]
  show V m c main_arg0 _ = _
  rw [V_main_arg0]
  refine eq_ent _ _ ?_ ?_
  · show win0_0.index t 0 * 1024 + 1 * (j 0).val = _
    rw [hi.1]; omega
  · show win0_0.index t 1 * 2048 + 1 * (j 1).val = _
    rw [hi.2]; omega

theorem blk1 (t : Fin cfg0.N) :
    iblk m c 1 t = (tab fun k y => weights m c k (512 * (t.val % 13) + y) : S2048x512.Idx → EReal) := by
  have hi := index1 t
  funext j
  unfold iblk
  rw [View.read_apply]
  show V m c main_arg1 _ = _
  rw [V_main_arg1]
  refine eq_ent _ _ ?_ ?_
  · show win0_1.index t 0 * 2048 + 1 * (j 0).val = _
    rw [hi.1]; omega
  · show win0_1.index t 1 * 512 + 1 * (j 1).val = _
    rw [hi.2]; omega

variable {f g : ℕ → ℕ → EReal}

theorem product : k0_pay1 (F := Ideal) (tab f) (tab g) = tab fun r c => part 0 2048 (f r) (fun k => g k c) := by
  unfold k0_pay1
  dsimp only
  exact matmul_tab dot_S1024x2048_S2048x512_S1024x512_1_0_0_1_n_n (tab f) (tab g) rfl rfl f (fun c k => g k c) 0
    (fun _ k => by rw [Nat.zero_add]; rfl) (fun _ k => by rw [Nat.zero_add]; rfl)

theorem hz : (![0, 0] : Fin 2 → ℕ) = fun _ => 0 := by decide

/-- What a point leaves of two blocks. -/
theorem out (i : grid0.Coords) (a3 : Memref sig .tc .vmem S1024x2048 .bf16) (h3 : a3.IsWhole) (a4 : Memref sig .tc .vmem S2048x512 .bf16) (h4 : a4.IsWhole)
    (a6 : Memref sig .tc .vmem S1024x512 .f32) (h6 : a6.IsWhole) (x0 : Vec Ideal S1024x2048 .bf16) (x1 : Vec Ideal S2048x512 .bf16) :
    out0_A_2 c i a3 h3 a4 h4 a6 h6 x0 x1 = k0_pay1 x0 x1 := by
  unfold out0_A_2
  rw [View.read_writes_eq_canon _ _ _ (cover0_A_2 c i a3 h3 a4 h4 a6 h6 x0 x1)]
  unfold kernelRun0_A
  dsimp only
  rw [View.canon_unit_zero hz]
  simp only [View.readAt_eq_ld, h3.read_unread, h4.read_unread, View.ld_unit_zero (S := S1024x2048) hz, View.ld_unit_zero (S := S2048x512) hz]

/-- The array the call leaves. -/
theorem array : ((dats m 0 c).arrAt 2 cfg0.N : S4096x6656.Idx → EReal) = tab fun r x => part 0 2048 (rows m c r) (fun k => weights m c k x) := by
  funext i
  have h0 : (i 0).val < 4096 := (i 0).isLt
  have h1 : (i 1).val < 6656 := (i 1).isLt
  obtain ⟨t, ht⟩ : ∃ t : Fin cfg0.N, t.val = 13 * ((i 0).val / 1024) + (i 1).val / 512 :=
    ⟨⟨_, lt_of_lt_of_eq (by omega : 13 * ((i 0).val / 1024) + (i 1).val / 512 < 52) N_0.symm⟩, rfl⟩
  have hj0 : (i 0).val % 1024 < 1024 := by omega
  have hj1 : (i 1).val % 512 < 512 := by omega
  have e := congrFun (blocks2 m c t (flush0_2 t)) (ValueIdx.ix2 ⟨(i 0).val % 1024, hj0⟩ ⟨(i 1).val % 512, hj1⟩)
  rw [flushed2_A, out, blk0, blk1, product, View.read_apply] at e
  have hi : ((cfg0.win 2).blk t).view.emb (ValueIdx.ix2 ⟨(i 0).val % 1024, hj0⟩ ⟨(i 1).val % 512, hj1⟩) = i := by
    funext a
    match a with
    | ⟨0, _⟩ =>
      refine Fin.ext ?_
      show win0_2.index t 0 * 1024 + 1 * ((i 0).val % 1024) = (i 0).val
      rw [(index2 t).1]; omega
    | ⟨1, _⟩ =>
      refine Fin.ext ?_
      show win0_2.index t 1 * 512 + 1 * ((i 1).val % 512) = (i 1).val
      rw [(index2 t).2]; omega
  rw [hi] at e
  refine Eq.trans e ?_
  show part 0 2048 (rows m c (1024 * (t.val / 13) + (i 0).val % 1024)) (fun k => weights m c k (512 * (t.val % 13) + (i 1).val % 512))
    = part 0 2048 (rows m c (i 0).val) (fun k => weights m c k (i 1).val)
  rw [show 1024 * (t.val / 13) + (i 0).val % 1024 = (i 0).val by omega, show 512 * (t.val % 13) + (i 1).val % 512 = (i 1).val by omega]

/-- The result the reference writes. -/
theorem reference (x : S4096x2048.Idx → EReal) (y : S2048x6656.Idx → EReal) :
    (Cert.Reference4Ideal.Read.val_main_v2 (F := Ideal) x y : S4096x6656.Idx → EReal)
      = tab fun r c => part 0 2048 (ent (n := 4096) (m := 2048) x r) (fun k => ent (n := 2048) (m := 6656) y k c) := by
  funext i
  rw [Cert.Reference4Ideal.Read.val_main_v2_apply]
  exact sum_eq_part (f := ent (n := 4096) (m := 2048) x (i 0).val) (g := fun k => ent (n := 2048) (m := 6656) y k (i 1).val)
    (fun _ => eq_ent x _ rfl rfl) (fun _ => eq_ent y _ rfl rfl)

/-- The array the call leaves is the reference's. -/
theorem values : Cert.algebraic_Kernel4Ideal_Reference4Ideal (hKernel4Ideal := Cert.Kernel4Ideal.Gen.facts) (hReference4Ideal := Cert.Reference4Ideal.Gen.facts) := by
  intro m g m' g' _ hagree
  refine ⟨fun c => (dats m 0 c).arrAt 2 cfg0.N, run_blocks (F := Ideal) m g, ?_⟩
  refine (θ_run Cert.Reference4Ideal.defs _ _).mono (fun r h c => ⟨?_, (h c).2⟩) (Cert.Reference4Ideal.Value.run (F := Ideal) m' g')
  obtain ⟨a0, a1⟩ := hagree c
  refine (h c).1.trans ?_
  rw [a0, a1]
  exact (reference _ _).trans (array m c).symm

/-- The reference ends, its arguments are what they were, and it declares no semaphore. -/
theorem frame_reference : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run (F := Ideal) m g)

end Cert.Projection

end
-- ==== Proof.OutProjection.lean ====
/-
  THE OUTPUT'S PROJECTION and the residual added to it: every block of the result is one product and a block of the
  residual.
-/
module

public import proofs.«01_k».proof.Defs
public import proofs.«01_k».proof.Proof.Gen.Kernel5Ideal.Value
public import proofs.«01_k».proof.Proof.Gen.Reference5Ideal.Read
public import proofs.«01_k».proof.Proof.Tiles
public import Idealize.ShloMosaic.Lib.Pipeline.Frame
public import Idealize.ShloMosaic.Adequacy
public import Idealize.ShloMosaic.Init

@[expose] public section

noncomputable section

namespace Cert.OutProjection

open Idealize.ShloMosaic Idealize.ShloMosaic.TcCoe Idealize.SL.Sem Cert.Kernel5Ideal Cert.Kernel5Ideal.Gen Cert.Kernel5Ideal.Value Cert.RealArr Cert.Buffers Cert.Tiles

variable (m : (ℓ : Loc nD τ sig) → Buf (Elt Ideal) ℓ) (c : Dev nD)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- The rows projected. -/
def rows : ℕ → ℕ → EReal := ent (n := 4096) (m := 2048) (m ((c : Thread nD τ).loc main_arg0))

/-- The weights. -/
def weights : ℕ → ℕ → EReal := ent (n := 2048) (m := 2048) (m ((c : Thread nD τ).loc main_arg1))

/-- The residual. -/
def residual : ℕ → ℕ → EReal := ent (n := 4096) (m := 2048) (m ((c : Thread nD τ).loc main_arg2))

theorem blk0 (t : Fin cfg0.N) :
    iblk m c 0 t = (tab fun r k => rows m c (1024 * (t.val / 2) + r) k : S1024x2048.Idx → EReal) := by
  have hi := index0 t
  funext j
  unfold iblk
  rw [View.read_apply]
  show V m c main_arg0 _ = _
  rw [V_main_arg0]
  refine eq_ent _ _ ?_ ?_
  · show win0_0.index t 0 * 1024 + 1 * (j 0).val = _
    rw [hi.1]; omega
  · show win0_0.index t 1 * 2048 + 1 * (j 1).val = _
    rw [hi.2]; omega

theorem blk1 (t : Fin cfg0.N) :
    iblk m c 1 t = (tab fun k x => weights m c k (1024 * (t.val % 2) + x) : S2048x1024.Idx → EReal) := by
  have hi := index1 t
  funext j
  unfold iblk
  rw [View.read_apply]
  show V m c main_arg1 _ = _
  rw [V_main_arg1]
  refine eq_ent _ _ ?_ ?_
  · show win0_1.index t 0 * 2048 + 1 * (j 0).val = _
    rw [hi.1]; omega
  · show win0_1.index t 1 * 1024 + 1 * (j 1).val = _
    rw [hi.2]; omega

theorem blk2 (t : Fin cfg0.N) :
    iblk m c 2 t = (tab fun r x => residual m c (1024 * (t.val / 2) + r) (1024 * (t.val % 2) + x) : S1024x1024.Idx → EReal) := by
  have hi := index2 t
  funext j
  unfold iblk
  rw [View.read_apply]
  show V m c main_arg2 _ = _
  rw [V_main_arg2]
  refine eq_ent _ _ ?_ ?_
  · show win0_2.index t 0 * 1024 + 1 * (j 0).val = _
    rw [hi.1]; omega
  · show win0_2.index t 1 * 1024 + 1 * (j 1).val = _
    rw [hi.2]; omega

variable {f g h : ℕ → ℕ → EReal}

theorem product : k0_pay1 (F := Ideal) (tab f) (tab g) (tab h) = tab fun r x => part 0 2048 (f r) (fun k => g k x) + h r x := by
  unfold k0_pay1
  dsimp only
  refine (congrArg (fun y => addf (F := Ideal) (φ := .f32) y (tab h)) (matmul_tab dot_S1024x2048_S2048x1024_S1024x1024_1_0_0_1_n_n (tab f) (tab g) rfl rfl f (fun x k => g k x) 0
    (fun _ k => by rw [Nat.zero_add]; rfl) (fun _ k => by rw [Nat.zero_add]; rfl))).trans tab_add

theorem hz : (![0, 0] : Fin 2 → ℕ) = fun _ => 0 := by decide

/-- What a point leaves of its three blocks. -/
theorem out (x0 : Vec Ideal S1024x2048 .bf16) (x1 : Vec Ideal S2048x1024 .bf16) (x2 : Vec Ideal S1024x1024 .f32) :
    out0_3 x0 x1 x2 = k0_pay1 x0 x1 x2 := by
  unfold out0_3
  rw [View.canon_unit_zero hz]
  simp only [View.ld_unit_zero (S := S1024x2048) hz, View.ld_unit_zero (S := S2048x1024) hz, View.ld_unit_zero (S := S1024x1024) hz]

/-- The array the call leaves. -/
theorem array : ((dats m 0 c).arrAt 3 cfg0.N : S4096x2048.Idx → EReal)
    = tab fun r x => part 0 2048 (rows m c r) (fun k => weights m c k x) + residual m c r x := by
  funext i
  have h0 : (i 0).val < 4096 := (i 0).isLt
  have h1 : (i 1).val < 2048 := (i 1).isLt
  obtain ⟨t, ht⟩ : ∃ t : Fin cfg0.N, t.val = 2 * ((i 0).val / 1024) + (i 1).val / 1024 :=
    ⟨⟨_, lt_of_lt_of_eq (by omega : 2 * ((i 0).val / 1024) + (i 1).val / 1024 < 8) N_0.symm⟩, rfl⟩
  have hj0 : (i 0).val % 1024 < 1024 := by omega
  have hj1 : (i 1).val % 1024 < 1024 := by omega
  have e := congrFun (blocks3 m c t (flush0_3 t)) (ValueIdx.ix2 ⟨(i 0).val % 1024, hj0⟩ ⟨(i 1).val % 1024, hj1⟩)
  rw [flushed3, out, blk0, blk1, blk2, product, View.read_apply] at e
  have hi : ((cfg0.win 3).blk t).view.emb (ValueIdx.ix2 ⟨(i 0).val % 1024, hj0⟩ ⟨(i 1).val % 1024, hj1⟩) = i := by
    funext a
    match a with
    | ⟨0, _⟩ =>
      refine Fin.ext ?_
      show win0_3.index t 0 * 1024 + 1 * ((i 0).val % 1024) = (i 0).val
      rw [(index3 t).1]; omega
    | ⟨1, _⟩ =>
      refine Fin.ext ?_
      show win0_3.index t 1 * 1024 + 1 * ((i 1).val % 1024) = (i 1).val
      rw [(index3 t).2]; omega
  rw [hi] at e
  refine Eq.trans e ?_
  show part 0 2048 (rows m c (1024 * (t.val / 2) + (i 0).val % 1024)) (fun k => weights m c k (1024 * (t.val % 2) + (i 1).val % 1024))
      + residual m c (1024 * (t.val / 2) + (i 0).val % 1024) (1024 * (t.val % 2) + (i 1).val % 1024)
    = part 0 2048 (rows m c (i 0).val) (fun k => weights m c k (i 1).val) + residual m c (i 0).val (i 1).val
  rw [show 1024 * (t.val / 2) + (i 0).val % 1024 = (i 0).val by omega, show 1024 * (t.val % 2) + (i 1).val % 1024 = (i 1).val by omega]

/-- The result the reference writes. -/
theorem reference (x : S4096x2048.Idx → EReal) (y : S2048x2048.Idx → EReal) (z : S4096x2048.Idx → EReal) :
    (Cert.Reference5Ideal.Read.val_main_v3 (F := Ideal) x y z : S4096x2048.Idx → EReal)
      = tab fun r c => part 0 2048 (ent (n := 4096) (m := 2048) x r) (fun k => ent (n := 2048) (m := 2048) y k c) + ent (n := 4096) (m := 2048) z r c := by
  funext i
  rw [Cert.Reference5Ideal.Read.val_main_v3_apply, Cert.Reference5Ideal.Read.val_main_v2_apply]
  refine (add_comm (z i) _).trans (congrArg₂ (· + ·) ?_ (eq_ent z i rfl rfl))
  exact sum_eq_part (f := ent (n := 4096) (m := 2048) x (i 0).val) (g := fun k => ent (n := 2048) (m := 2048) y k (i 1).val)
    (fun _ => eq_ent x _ rfl rfl) (fun _ => eq_ent y _ rfl rfl)

/-- The array the call leaves is the reference's. -/
theorem values : Cert.algebraic_Kernel5Ideal_Reference5Ideal (hKernel5Ideal := Cert.Kernel5Ideal.Gen.facts) (hReference5Ideal := Cert.Reference5Ideal.Gen.facts) := by
  intro m g m' g' _ hagree
  refine ⟨fun c => (dats m 0 c).arrAt 3 cfg0.N, run_blocks (F := Ideal) m g, ?_⟩
  refine (θ_run Cert.Reference5Ideal.defs _ _).mono (fun r h c => ⟨?_, (h c).2⟩) (Cert.Reference5Ideal.Value.run (F := Ideal) m' g')
  obtain ⟨a0, a1, a2⟩ := hagree c
  refine (h c).1.trans ?_
  rw [a0, a1, a2]
  exact (reference _ _ _).trans (array m c).symm

/-- The reference ends, its arguments are what they were, and it declares no semaphore. -/
theorem frame_reference : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run (F := Ideal) m g)

end Cert.OutProjection

end
-- ==== Proof.OutWeights.lean ====
/-
  THE GRADIENT OF THE OUTPUT PROJECTION'S WEIGHTS: a block of the result is the product of a block of columns of the rows with a
  block of columns of the gradient, half of the 4096 rows at each of two points.
-/
module

public import proofs.«01_k».proof.Defs
public import proofs.«01_k».proof.Proof.Gen.Kernel6Ideal.Value
public import proofs.«01_k».proof.Proof.Gen.Reference6Ideal.Read
public import proofs.«01_k».proof.Proof.Tiles
public import Idealize.ShloMosaic.Lib.Pipeline.Frame
public import Idealize.ShloMosaic.Adequacy
public import Idealize.ShloMosaic.Init

@[expose] public section

noncomputable section

namespace Cert.OutWeights

open Idealize.ShloMosaic Idealize.ShloMosaic.TcCoe Idealize.SL.Sem Cert.Kernel6Ideal Cert.Kernel6Ideal.Gen Cert.Kernel6Ideal.Value Cert.RealArr Cert.Buffers Cert.Tiles

variable (m : (ℓ : Loc nD τ sig) → Buf (Elt Ideal) ℓ) (c : Dev nD)

theorem index0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem index1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)
theorem index2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- The columns of the rows projected. -/
def cols (r k : ℕ) : EReal := ent (n := 4096) (m := 2048) (m ((c : Thread nD τ).loc main_arg0)) k r

/-- The columns of the gradient. -/
def grad (x k : ℕ) : EReal := ent (n := 4096) (m := 2048) (m ((c : Thread nD τ).loc main_arg3)) k x

theorem blk0 (t : Fin cfg0.N) :
    iblk m c 0 t = (tab fun k r => cols m c (1024 * (t.val / 4) + r) (2048 * (t.val % 2) + k) : S2048x1024.Idx → EReal) := by
  have hi := index0 t
  funext j
  unfold iblk
  rw [View.read_apply]
  show V m c main_arg0 _ = _
  rw [V_main_arg0]
  refine eq_ent _ _ ?_ ?_
  · show win0_0.index t 0 * 2048 + 1 * (j 0).val = _
    rw [hi.1]; omega
  · show win0_0.index t 1 * 1024 + 1 * (j 1).val = _
    rw [hi.2]; omega

theorem blk1 (t : Fin cfg0.N) :
    iblk m c 1 t = (tab fun k x => grad m c (1024 * (t.val / 2 % 2) + x) (2048 * (t.val % 2) + k) : S2048x1024.Idx → EReal) := by
  have hi := index1 t
  funext j
  unfold iblk
  rw [View.read_apply]
  show V m c main_arg3 _ = _
  rw [V_main_arg3]
  refine eq_ent _ _ ?_ ?_
  · show win0_1.index t 0 * 2048 + 1 * (j 0).val = _
    rw [hi.1]; omega
  · show win0_1.index t 1 * 1024 + 1 * (j 1).val = _
    rw [hi.2]; omega

variable {f g : ℕ → ℕ → EReal} {b p q : ℕ}

theorem product : k0_pay1 (F := Ideal) (tab fun k r => f (p + r) (b + k)) (tab fun k x => g (q + x) (b + k))
    = tab fun r x => part b 2048 (f (p + r)) (g (q + x)) := by
  unfold k0_pay1
  dsimp only
  exact matmul_tab dot_S2048x1024_S2048x1024_S1024x1024_0_0_1_1_n_n _ _ rfl rfl (fun r => f (p + r)) (fun x => g (q + x)) b
    (fun _ _ => rfl) (fun _ _ => rfl)

theorem product_first (v0 : Vec Ideal S2048x1024 .bf16) (v1 : Vec Ideal S2048x1024 .f32) : k0_pay2 v0 v1 = k0_pay1 v0 v1 := by
  unfold k0_pay2
  dsimp only
  exact shapeCast_self _ _

theorem product_next (v0 : Vec Ideal S2048x1024 .bf16) (v1 : Vec Ideal S2048x1024 .f32) (a : Vec Ideal S1024x1024 .f32) :
    k0_pay3 v0 v1 a = addf a (k0_pay1 v0 v1) := by
  unfold k0_pay3
  dsimp only
  exact shapeCast_self _ _

theorem hz : (![0, 0] : Fin 2 → ℕ) = fun _ => 0 := by decide

/-- What the first point of a block leaves in the running sum. -/
theorem first (i : grid0.Coords) (a3 : Memref sig .tc .vmem S2048x1024 .bf16) (h3 : a3.IsWhole) (a4 : Memref sig .tc .vmem S2048x1024 .f32) (h4 : a4.IsWhole)
    (a5 : Memref sig .tc .vmem S1024x1024 .bf16) (h5 : a5.IsWhole) (a6 : Memref sig .tc .vmem S1024x1024 .f32) (h6 : a6.IsWhole) (e0 e1 e2)
    (x0 : Vec Ideal S2048x1024 .bf16) (x1 : Vec Ideal S2048x1024 .f32) :
    sout0_A_0 c i a3 h3 a4 h4 a5 h5 a6 h6 e0 e1 e2 x0 x1 = k0_pay1 x0 x1 := by
  unfold sout0_A_0
  rw [View.read_writes_eq_canon _ _ _ (scover0_A_0 c i a3 h3 a4 h4 a5 h5 a6 h6 e0 e1 e2 x0 x1)]
  unfold kernelRun0_A
  dsimp only
  sl_unfold_words
  rw [View.canon_unit_zero hz]
  simp only [View.readAt_eq_ld, h3.read_unread, h4.read_unread, View.ld_unit_zero (S := S2048x1024) hz]
  exact product_first _ _

/-- What the second point leaves of the result's block. -/
theorem second (i : grid0.Coords) (a3 : Memref sig .tc .vmem S2048x1024 .bf16) (h3 : a3.IsWhole) (a4 : Memref sig .tc .vmem S2048x1024 .f32) (h4 : a4.IsWhole)
    (a5 : Memref sig .tc .vmem S1024x1024 .bf16) (h5 : a5.IsWhole) (a6 : Memref sig .tc .vmem S1024x1024 .f32) (h6 : a6.IsWhole) (e0 e1 e2)
    (x0 : Vec Ideal S2048x1024 .bf16) (x1 : Vec Ideal S2048x1024 .f32) (a : Vec Ideal S1024x1024 .f32) :
    (out0_B_2 c i a3 h3 a4 h4 a5 h5 a6 h6 e0 e1 e2 x0 x1 a : S1024x1024.Idx → EReal) = addf (φ := .f32) a (k0_pay1 x0 x1) := by
  unfold out0_B_2
  rw [View.read_writes_eq_canon _ _ _ (cover0_B_2 c i a3 h3 a4 h4 a5 h5 a6 h6 e0 e1 e2 x0 x1 a)]
  unfold kernelRun0_B
  dsimp only
  sl_unfold_words
  rw [View.canon_unit_zero hz]
  simp only [View.readAt_eq_ld, h3.read_unread, h4.read_unread, h6.read_unread, View.readCov_unit_zero (S := S1024x1024) _ hz, View.ld_unit_zero (S := S2048x1024) hz, View.ld_unit_zero (S := S1024x1024) hz]
  rw [product_next]
  rfl

/-- What the second point of a block writes back. -/
theorem flushed (t : Fin cfg0.N) (ht : t.val % 2 = 1) :
    (dats m 0 c).flushed 2 t = (cfg0.win 2).cut (grid0.coords t)
      (tab fun r x => part 0 4096 (cols m c (1024 * (t.val / 4) + r)) (grad m c (1024 * (t.val / 2 % 2) + x))) := by
  rw [flushed2_B m c t (by omega) ht ht, second]
  congr 1
  have hs := outsAt0_A m c ⟨t.val - 1, lt_of_le_of_lt (Nat.sub_le _ _) t.isLt⟩ (by show (t.val - 1) % 2 = 0; omega) (by show ¬(t.val - 1) % 2 = 1; omega) (by show ¬(t.val - 1) % 2 = 1; omega)
  rw [congrArg Prod.snd hs]
  dsimp only
  rw [first, blk0, blk1, blk0, blk1, product, product, tab_add]
  funext j
  show part (2048 * ((t.val - 1) % 2)) 2048 (cols m c (1024 * ((t.val - 1) / 4) + (j 0).val)) (grad m c (1024 * ((t.val - 1) / 2 % 2) + (j 1).val))
      + part (2048 * (t.val % 2)) 2048 (cols m c (1024 * (t.val / 4) + (j 0).val)) (grad m c (1024 * (t.val / 2 % 2) + (j 1).val)) = _
  rw [show (t.val - 1) % 2 = 0 by omega, show (t.val - 1) / 4 = t.val / 4 by omega, show (t.val - 1) / 2 = t.val / 2 by omega, ht]
  exact part_add 0 2048 2048 _ _

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have e0 : win0_2.index t 0 = win0_2.index t' 0 := congrFun h 0
    have e1 : win0_2.index t 1 = win0_2.index t' 1 := congrFun h 1
    rw [(index2 t).1, (index2 t').1] at e0
    rw [(index2 t).2, (index2 t').2] at e1
    have := (flush0_2 t).mp hf
    have := (flush0_2 t').mp hf'
    omega))

/-- The array the call leaves. -/
theorem array : ((dats m 0 c).arrAt 2 cfg0.N : S2048x2048.Idx → EReal) = tab fun r x => part 0 4096 (cols m c r) (grad m c x) := by
  funext i
  have h0 : (i 0).val < 2048 := (i 0).isLt
  have h1 : (i 1).val < 2048 := (i 1).isLt
  obtain ⟨t, ht⟩ : ∃ t : Fin cfg0.N, t.val = 4 * ((i 0).val / 1024) + 2 * ((i 1).val / 1024) + 1 :=
    ⟨⟨_, lt_of_lt_of_eq (by omega : 4 * ((i 0).val / 1024) + 2 * ((i 1).val / 1024) + 1 < 8) N_0.symm⟩, rfl⟩
  have hj0 : (i 0).val % 1024 < 1024 := by omega
  have hj1 : (i 1).val % 1024 < 1024 := by omega
  have hf : t.val % 2 = 1 := by omega
  have e := congrFun ((dats m 0 c).read_blk_arrAt_eq_flushed 2 disjoint2 cfg0.N t t.isLt ((flush0_2 t).mpr hf)) (ValueIdx.ix2 ⟨(i 0).val % 1024, hj0⟩ ⟨(i 1).val % 1024, hj1⟩)
  rw [flushed m c t hf, View.read_apply] at e
  have hi : ((cfg0.win 2).blk t).view.emb (ValueIdx.ix2 ⟨(i 0).val % 1024, hj0⟩ ⟨(i 1).val % 1024, hj1⟩) = i := by
    funext a
    match a with
    | ⟨0, _⟩ =>
      refine Fin.ext ?_
      show win0_2.index t 0 * 1024 + 1 * ((i 0).val % 1024) = (i 0).val
      rw [(index2 t).1]; omega
    | ⟨1, _⟩ =>
      refine Fin.ext ?_
      show win0_2.index t 1 * 1024 + 1 * ((i 1).val % 1024) = (i 1).val
      rw [(index2 t).2]; omega
  rw [hi] at e
  refine Eq.trans e ?_
  show part 0 4096 (cols m c (1024 * (t.val / 4) + (i 0).val % 1024)) (grad m c (1024 * (t.val / 2 % 2) + (i 1).val % 1024))
    = part 0 4096 (cols m c (i 0).val) (grad m c (i 1).val)
  rw [show 1024 * (t.val / 4) + (i 0).val % 1024 = (i 0).val by omega, show 1024 * (t.val / 2 % 2) + (i 1).val % 1024 = (i 1).val by omega]

/-- The gradient passes the reference's reshape unchanged. -/
theorem through (y : S4096x2048.Idx → EReal) : (Cert.Reference6Ideal.Read.val_main_v4 (F := Ideal) y : S4096x2048.Idx → EReal) = y := by
  unfold Cert.Reference6Ideal.Read.val_main_v4
  exact shapeCast_self _ _

/-- The result the reference writes. -/
theorem reference (x : S4096x2048.Idx → EReal) (y : S4096x2048.Idx → EReal) :
    (Cert.Reference6Ideal.Read.val_main_v8 (F := Ideal) x y : S2048x2048.Idx → EReal)
      = tab fun r c => part 0 4096 (fun k => ent (n := 4096) (m := 2048) x k r) (fun k => ent (n := 4096) (m := 2048) y k c) := by
  funext i
  rw [Cert.Reference6Ideal.Read.val_main_v8_apply, Cert.Reference6Ideal.Read.val_main_v6_apply, Cert.Reference6Ideal.Read.val_main_v5_apply, through]
  refine (sum_eq_part (fun k => ?_) (fun k => ?_)).trans (part_comm 0 4096 (fun k => ent (n := 4096) (m := 2048) y k (i 1).val) (fun k => ent (n := 4096) (m := 2048) x k (i 0).val))
  · exact eq_ent y _ rfl rfl
  · exact eq_ent x _ rfl rfl

/-- The array the call leaves is the reference's. -/
theorem values : Cert.algebraic_Kernel6Ideal_Reference6Ideal (hKernel6Ideal := Cert.Kernel6Ideal.Gen.facts) (hReference6Ideal := Cert.Reference6Ideal.Gen.facts) := by
  intro m g m' g' _ hagree
  refine ⟨fun c => (dats m 0 c).arrAt 2 cfg0.N, run_blocks (F := Ideal) m g, ?_⟩
  refine (θ_run Cert.Reference6Ideal.defs _ _).mono (fun r h c => ⟨?_, (h c).2⟩) (Cert.Reference6Ideal.Value.run (F := Ideal) m' g')
  obtain ⟨a0, _, _, a3⟩ := hagree c
  refine (h c).1.trans ?_
  rw [a0, a3]
  exact (reference _ _).trans (array m c).symm

/-- The reference ends, its arguments are what they were, and it declares no semaphore. -/
theorem frame_reference : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩)
    (Cert.Reference6Ideal.Value.run (F := Ideal) m g)

end Cert.OutWeights

end
-- ==== Proof.OutRows.lean ====
/-
  THE GRADIENT OF THE ROWS THE OUTPUT PROJECTS: every block of the result is one product of a block of rows of the gradient
  with a block of rows of the weights.
-/
module

public import proofs.«01_k».proof.Defs
public import proofs.«01_k».proof.Proof.Gen.Kernel7Ideal.Value
public import proofs.«01_k».proof.Proof.Gen.Reference7Ideal.Read
public import proofs.«01_k».proof.Proof.Tiles
public import Idealize.ShloMosaic.Lib.Pipeline.Frame
public import Idealize.ShloMosaic.Adequacy
public import Idealize.ShloMosaic.Init

@[expose] public section

noncomputable section

namespace Cert.OutRows

open Idealize.ShloMosaic Idealize.ShloMosaic.TcCoe Idealize.SL.Sem Cert.Kernel7Ideal Cert.Kernel7Ideal.Gen Cert.Kernel7Ideal.Value Cert.RealArr Cert.Buffers Cert.Tiles

variable (m : (ℓ : Loc nD τ sig) → Buf (Elt Ideal) ℓ) (c : Dev nD)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The rows of the gradient. -/
def grad : ℕ → ℕ → EReal := ent (n := 4096) (m := 2048) (m ((c : Thread nD τ).loc main_arg3))

/-- The rows of the weights. -/
def weights : ℕ → ℕ → EReal := ent (n := 2048) (m := 2048) (m ((c : Thread nD τ).loc main_arg1))

theorem blk0 (t : Fin cfg0.N) :
    iblk m c 0 t = (tab fun r k => grad m c (1024 * (t.val / 2) + r) k : S1024x2048.Idx → EReal) := by
  have hi := index0 t
  funext j
  unfold iblk
  rw [View.read_apply]
  show V m c main_arg3 _ = _
  rw [V_main_arg3]
  refine eq_ent _ _ ?_ ?_
  · show win0_0.index t 0 * 1024 + 1 * (j 0).val = _
    rw [hi.1]; omega
  · show win0_0.index t 1 * 2048 + 1 * (j 1).val = _
    rw [hi.2]; omega

theorem blk1 (t : Fin cfg0.N) :
    iblk m c 1 t = (tab fun x k => weights m c (1024 * (t.val % 2) + x) k : S1024x2048.Idx → EReal) := by
  have hi := index1 t
  funext j
  unfold iblk
  rw [View.read_apply]
  show V m c main_arg1 _ = _
  rw [V_main_arg1]
  refine eq_ent _ _ ?_ ?_
  · show win0_1.index t 0 * 1024 + 1 * (j 0).val = _
    rw [hi.1]; omega
  · show win0_1.index t 1 * 2048 + 1 * (j 1).val = _
    rw [hi.2]; omega

variable {f g : ℕ → ℕ → EReal}

theorem product : k0_pay1 (F := Ideal) (tab f) (tab g) = tab fun r x => part 0 2048 (f r) (g x) := by
  unfold k0_pay1
  dsimp only
  exact matmul_tab dot_S1024x2048_S1024x2048_S1024x1024_1_1_0_0_n_n (tab f) (tab g) rfl rfl f g 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S1024x2048 .f32) (x1 : Vec Ideal S1024x2048 .bf16) : out0_2 x0 x1 = k0_pay1 x0 x1 := by
  unfold out0_2
  rw [View.canon_unit_zero hz]
  simp only [View.ld_unit_zero (S := S1024x2048) hz]

/-- The array the call leaves. -/
theorem array : ((dats m 0 c).arrAt 2 cfg0.N : S4096x2048.Idx → EReal) = tab fun r x => part 0 2048 (grad m c r) (weights m c x) := by
  funext i
  have h0 : (i 0).val < 4096 := (i 0).isLt
  have h1 : (i 1).val < 2048 := (i 1).isLt
  obtain ⟨t, ht⟩ : ∃ t : Fin cfg0.N, t.val = 2 * ((i 0).val / 1024) + (i 1).val / 1024 :=
    ⟨⟨_, lt_of_lt_of_eq (by omega : 2 * ((i 0).val / 1024) + (i 1).val / 1024 < 8) N_0.symm⟩, rfl⟩
  have hj0 : (i 0).val % 1024 < 1024 := by omega
  have hj1 : (i 1).val % 1024 < 1024 := by omega
  have e := congrFun (blocks2 m c t (flush0_2 t)) (ValueIdx.ix2 ⟨(i 0).val % 1024, hj0⟩ ⟨(i 1).val % 1024, hj1⟩)
  rw [flushed2, out, blk0, blk1, product, View.read_apply] at e
  have hi : ((cfg0.win 2).blk t).view.emb (ValueIdx.ix2 ⟨(i 0).val % 1024, hj0⟩ ⟨(i 1).val % 1024, hj1⟩) = i := by
    funext a
    match a with
    | ⟨0, _⟩ =>
      refine Fin.ext ?_
      show win0_2.index t 0 * 1024 + 1 * ((i 0).val % 1024) = (i 0).val
      rw [(index2 t).1]; omega
    | ⟨1, _⟩ =>
      refine Fin.ext ?_
      show win0_2.index t 1 * 1024 + 1 * ((i 1).val % 1024) = (i 1).val
      rw [(index2 t).2]; omega
  rw [hi] at e
  refine Eq.trans e ?_
  show part 0 2048 (grad m c (1024 * (t.val / 2) + (i 0).val % 1024)) (weights m c (1024 * (t.val % 2) + (i 1).val % 1024))
    = part 0 2048 (grad m c (i 0).val) (weights m c (i 1).val)
  rw [show 1024 * (t.val / 2) + (i 0).val % 1024 = (i 0).val by omega, show 1024 * (t.val % 2) + (i 1).val % 1024 = (i 1).val by omega]

/-- The gradient passes the reference's reshape unchanged. -/
theorem through (y : S4096x2048.Idx → EReal) : (Cert.Reference7Ideal.Read.val_main_v4 (F := Ideal) y : S4096x2048.Idx → EReal) = y := by
  unfold Cert.Reference7Ideal.Read.val_main_v4
  exact shapeCast_self _ _

/-- The result the reference writes. -/
theorem reference (x : S2048x2048.Idx → EReal) (y : S4096x2048.Idx → EReal) :
    (Cert.Reference7Ideal.Read.val_main_v7 (F := Ideal) x y : S4096x2048.Idx → EReal)
      = tab fun r c => part 0 2048 (ent (n := 4096) (m := 2048) y r) (ent (n := 2048) (m := 2048) x c) := by
  funext i
  rw [Cert.Reference7Ideal.Read.val_main_v7_apply, through]
  exact sum_eq_part (f := ent (n := 4096) (m := 2048) y (i 0).val) (g := ent (n := 2048) (m := 2048) x (i 1).val)
    (fun _ => eq_ent y _ rfl rfl) (fun _ => eq_ent x _ rfl rfl)

/-- The array the call leaves is the reference's. -/
theorem values : Cert.algebraic_Kernel7Ideal_Reference7Ideal (hKernel7Ideal := Cert.Kernel7Ideal.Gen.facts) (hReference7Ideal := Cert.Reference7Ideal.Gen.facts) := by
  intro m g m' g' _ hagree
  refine ⟨fun c => (dats m 0 c).arrAt 2 cfg0.N, run_blocks (F := Ideal) m g, ?_⟩
  refine (θ_run Cert.Reference7Ideal.defs _ _).mono (fun r h c => ⟨?_, (h c).2⟩) (Cert.Reference7Ideal.Value.run (F := Ideal) m' g')
  obtain ⟨_, a1, _, a3⟩ := hagree c
  refine (h c).1.trans ?_
  rw [a1, a3]
  exact (reference _ _).trans (array m c).symm

/-- The reference ends, its arguments are what they were, and it declares no semaphore. -/
theorem frame_reference : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩)
    (Cert.Reference7Ideal.Value.run (F := Ideal) m g)

end Cert.OutRows

end
-- ==== Proof.Blocks.lean ====
/-
  ARRAYS LEFT IN BLOCKS: an array whose blocks are the blocks of one table is that table.
-/
module

public import proofs.«01_k».proof.Proof.Tiles

@[expose] public section

noncomputable section

namespace Cert.Blocks

open Idealize.ShloMosaic Idealize.SL.Sem Cert.RealArr Cert.Buffers Cert.Tiles

variable {n m bn bm : ℕ}

/-- A place of a block, counted in the whole array. -/
theorem place {a p b j : ℕ} (h : a = p) : a * b + 1 * j = b * p + j := by
  rw [h, Nat.one_mul, Nat.mul_comm]

/-- A place of a block that takes the whole axis. -/
theorem whole {a b j : ℕ} (h : a = 0) : a * b + 1 * j = j := by
  rw [h, Nat.zero_mul, Nat.zero_add, Nat.one_mul]

/-- An array whose blocks are the blocks of one table is that table. -/
theorem tiled (hn : 0 < bn) (hm : 0 < bm) {A : (⟨2, ![n, m]⟩ : Shape).Idx → EReal} {F : ℕ → ℕ → EReal} {ι : Type} {P Q : ι → ℕ}
    {e : ι → (⟨2, ![bn, bm]⟩ : Shape).Idx → (⟨2, ![n, m]⟩ : Shape).Idx} (last : ι → Prop)
    (he : ∀ t j, (e t j 0).val = bn * P t + (j 0).val ∧ (e t j 1).val = bm * Q t + (j 1).val)
    (hA : ∀ t, last t → ∀ j, A (e t j) = F (bn * P t + (j 0).val) (bm * Q t + (j 1).val))
    (cover : ∀ r c, r < n → c < m → ∃ t, last t ∧ P t = r / bn ∧ Q t = c / bm) : A = tab F := by
  funext i
  obtain ⟨t, hl, hP, hQ⟩ := cover (i 0).val (i 1).val (i 0).isLt (i 1).isLt
  have e0 : bn * P t + (i 0).val % bn = (i 0).val := by rw [hP]; exact Nat.div_add_mod _ _
  have e1 : bm * Q t + (i 1).val % bm = (i 1).val := by rw [hQ]; exact Nat.div_add_mod _ _
  have h := hA t hl (ValueIdx.ix2 ⟨(i 0).val % bn, Nat.mod_lt _ hn⟩ ⟨(i 1).val % bm, Nat.mod_lt _ hm⟩)
  have hi : e t (ValueIdx.ix2 ⟨(i 0).val % bn, Nat.mod_lt _ hn⟩ ⟨(i 1).val % bm, Nat.mod_lt _ hm⟩) = i := by
    funext a
    match a with
    | ⟨0, _⟩ => exact Fin.ext ((he t _).1.trans e0)
    | ⟨1, _⟩ => exact Fin.ext ((he t _).2.trans e1)
  rw [hi] at h
  refine h.trans ?_
  show F (bn * P t + (i 0).val % bn) (bm * Q t + (i 1).val % bm) = F (i 0).val (i 1).val
  rw [e0, e1]

end Cert.Blocks

end
-- ==== Proof.Queries.lean ====
/-
  THE CROSS ATTENTION'S QUERIES: every block of the result is one product of a block of rows with the weights.
-/
module

public import proofs.«01_k».proof.Defs
public import proofs.«01_k».proof.Proof.Gen.Kernel8Ideal.Value
public import proofs.«01_k».proof.Proof.Gen.Reference8Ideal.Read
public import proofs.«01_k».proof.Proof.Blocks
public import Idealize.ShloMosaic.Lib.Pipeline.Frame
public import Idealize.ShloMosaic.Adequacy
public import Idealize.ShloMosaic.Init

@[expose] public section

noncomputable section

namespace Cert.Queries

open Idealize.ShloMosaic Idealize.ShloMosaic.TcCoe Idealize.SL.Sem Cert.Kernel8Ideal Cert.Kernel8Ideal.Gen Cert.Kernel8Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- The rows projected. -/
def rows : ℕ → ℕ → EReal := ent (n := 4096) (m := 2048) (m ((c : Thread nD τ).loc main_arg0))

/-- The weights. -/
def weights : ℕ → ℕ → EReal := ent (n := 2048) (m := 512) (m ((c : Thread nD τ).loc main_arg1))

theorem blk0 (t : Fin cfg0.N) : iblk m c 0 t = (tab fun r k => rows m c (1024 * t.val + r) k : S1024x2048.Idx → EReal) := by
  funext j
  unfold iblk
  rw [View.read_apply]
  show V m c main_arg0 _ = _
  rw [V_main_arg0]
  exact eq_ent _ _ (place (index t).1.1) (whole (index t).1.2)

theorem blk1 (t : Fin cfg0.N) : iblk m c 1 t = (tab (weights m c) : S2048x512.Idx → EReal) := by
  funext j
  unfold iblk
  rw [View.read_apply]
  show V m c main_arg1 _ = _
  rw [V_main_arg1]
  exact eq_ent _ _ (whole (index t).2.1.1) (whole (index t).2.1.2)

theorem product {f g : ℕ → ℕ → EReal} : k0_pay1 (F := Ideal) (tab f) (tab g) = tab fun r x => part 0 2048 (f r) (fun k => g k x) := by
  unfold k0_pay1
  dsimp only
  exact matmul_tab dot_S1024x2048_S2048x512_S1024x512_1_0_0_1_n_n (tab f) (tab g) rfl rfl f (fun x k => g k x) 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S1024x2048 .bf16) (x1 : Vec Ideal S2048x512 .bf16) : out0_2 x0 x1 = k0_pay1 x0 x1 := by
  unfold out0_2
  rw [View.canon_unit_zero hz]
  simp only [View.ld_unit_zero (S := S1024x2048) hz, View.ld_unit_zero (S := S2048x512) hz]

/-- The array the call leaves. -/
theorem array : ((dats m 0 c).arrAt 2 cfg0.N : S4096x512.Idx → EReal)
    = tab fun r x => part 0 2048 (rows m c r) (fun k => weights m c k x) := by
  refine tiled (bn := 1024) (bm := 512) (by decide) (by decide) (P := fun t : Fin cfg0.N => t.val) (Q := fun _ => 0)
    (e := fun t => ((cfg0.win 2).blk t).view.emb) (fun _ => True) (fun t j => ⟨place (index t).2.2.1, place (index t).2.2.2⟩) (fun t _ j => ?_)
    (fun r x hr hx => ⟨⟨r / 1024, lt_of_lt_of_eq (by omega : r / 1024 < 4) N_0.symm⟩, trivial, rfl, by omega⟩)
  have e := congrFun (blocks2 m c t (flush0_2 t)) j
  rw [flushed2, out, blk0, blk1, product, View.read_apply] at e
  refine Eq.trans e ?_
  show part 0 2048 (rows m c (1024 * t.val + (j 0).val)) (fun k => weights m c k (j 1).val)
    = part 0 2048 (rows m c (1024 * t.val + (j 0).val)) (fun k => weights m c k (512 * 0 + (j 1).val))
  rw [Nat.mul_zero, Nat.zero_add]

/-- The result the reference writes. -/
theorem reference (x : S4096x2048.Idx → EReal) (y : S2048x512.Idx → EReal) :
    (Cert.Reference8Ideal.Read.val_main_v2 (F := Ideal) x y : S4096x512.Idx → EReal)
      = tab fun r c => part 0 2048 (ent (n := 4096) (m := 2048) x r) (fun k => ent (n := 2048) (m := 512) y k c) := by
  funext i
  rw [Cert.Reference8Ideal.Read.val_main_v2_apply]
  exact sum_eq_part (f := ent (n := 4096) (m := 2048) x (i 0).val) (g := fun k => ent (n := 2048) (m := 512) y k (i 1).val)
    (fun _ => eq_ent x _ rfl rfl) (fun _ => eq_ent y _ rfl rfl)

/-- The array the call leaves is the reference's. -/
theorem values : Cert.algebraic_Kernel8Ideal_Reference8Ideal (hKernel8Ideal := Cert.Kernel8Ideal.Gen.facts) (hReference8Ideal := Cert.Reference8Ideal.Gen.facts) := by
  intro m g m' g' _ hagree
  refine ⟨fun c => (dats m 0 c).arrAt 2 cfg0.N, run_blocks (F := Ideal) m g, ?_⟩
  refine (θ_run Cert.Reference8Ideal.defs _ _).mono (fun r h c => ⟨?_, (h c).2⟩) (Cert.Reference8Ideal.Value.run (F := Ideal) m' g')
  obtain ⟨a0, a1⟩ := hagree c
  refine (h c).1.trans ?_
  rw [a0, a1]
  exact (reference _ _).trans (array m c).symm

/-- The reference ends, its arguments are what they were, and it declares no semaphore. -/
theorem frame_reference : Cert.quiescent_Reference8Ideal (hReference8Ideal := Cert.Reference8Ideal.Gen.facts) := by
  intro m g _
  exact (θ_run Cert.Reference8Ideal.defs _ _).mono (fun r h => ⟨fun c => (h c).2, sem_eq_zero_of_no_sems (by decide) r.2⟩)
    (Cert.Reference8Ideal.Value.run (F := Ideal) m g)

end Cert.Queries

end
-- ==== Proof.QueryWeights.lean ====
/-
  THE GRADIENT OF THE QUERIES' WEIGHTS: a block of the result is the product of a block of columns of the rows with the gradient,
  half of the 4096 rows at each of two points.
-/
module

public import proofs.«01_k».proof.Defs
public import proofs.«01_k».proof.Proof.Gen.Kernel9Ideal.Value
public import proofs.«01_k».proof.Proof.Gen.Reference9Ideal.Read
public import proofs.«01_k».proof.Proof.Blocks
public import Idealize.ShloMosaic.Lib.Pipeline.Frame
public import Idealize.ShloMosaic.Adequacy
public import Idealize.ShloMosaic.Init

@[expose] public section

noncomputable section

namespace Cert.QueryWeights

open Idealize.ShloMosaic Idealize.ShloMosaic.TcCoe Idealize.SL.Sem Cert.Kernel9Ideal Cert.Kernel9Ideal.Gen Cert.Kernel9Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val % 2 ∧ win0_0.index t 1 = t.val / 2) ∧ (win0_1.index t 0 = t.val % 2 ∧ win0_1.index t 1 = 0) ∧ (win0_2.index t 0 = t.val / 2 ∧ win0_2.index t 1 = 0) :=
  (by decide +kernel : ∀ t : Fin grid0.N, (win0_0.index t 0 = t.val % 2 ∧ win0_0.index t 1 = t.val / 2) ∧ (win0_1.index t 0 = t.val % 2 ∧ win0_1.index t 1 = 0) ∧ (win0_2.index t 0 = t.val / 2 ∧ win0_2.index t 1 = 0))

/-- The columns of the rows projected. -/
def cols (r k : ℕ) : EReal := ent (n := 4096) (m := 2048) (m ((c : Thread nD τ).loc main_arg0)) k r

/-- The columns of the gradient. -/
def grad (x k : ℕ) : EReal := ent (n := 4096) (m := 512) (m ((c : Thread nD τ).loc main_arg2)) k x

theorem blk0 (t : Fin cfg0.N) : iblk m c 0 t = (tab fun k r => cols m c (1024 * (t.val / 2) + r) (2048 * (t.val % 2) + k) : S2048x1024.Idx → EReal) := by
  funext j
  unfold iblk
  rw [View.read_apply]
  show V m c main_arg0 _ = _
  rw [V_main_arg0]
  exact eq_ent _ _ (place (index t).1.1) (place (index t).1.2)

theorem blk1 (t : Fin cfg0.N) : iblk m c 1 t = (tab fun k x => grad m c (512 * 0 + x) (2048 * (t.val % 2) + k) : S2048x512.Idx → EReal) := by
  funext j
  unfold iblk
  rw [View.read_apply]
  show V m c main_arg2 _ = _
  rw [V_main_arg2]
  exact eq_ent _ _ (place (index t).2.1.1) (place (index t).2.1.2)

variable {f g : ℕ → ℕ → EReal} {b p q : ℕ}

theorem product : k0_pay1 (F := Ideal) (tab fun k r => f (p + r) (b + k)) (tab fun k x => g (q + x) (b + k))
    = tab fun r x => part b 2048 (f (p + r)) (g (q + x)) := by
  unfold k0_pay1
  dsimp only
  exact matmul_tab dot_S2048x1024_S2048x512_S1024x512_0_0_1_1_n_n _ _ rfl rfl (fun r => f (p + r)) (fun x => g (q + x)) b
    (fun _ _ => rfl) (fun _ _ => rfl)

theorem product_first (v0 : Vec Ideal S2048x1024 .bf16) (v1 : Vec Ideal S2048x512 .bf16) : k0_pay2 v0 v1 = k0_pay1 v0 v1 := by
  unfold k0_pay2
  dsimp only
  exact shapeCast_self _ _

theorem product_next (v0 : Vec Ideal S2048x1024 .bf16) (v1 : Vec Ideal S2048x512 .bf16) (a : Vec Ideal S1024x512 .f32) :
    k0_pay3 v0 v1 a = addf a (k0_pay1 v0 v1) := by
  unfold k0_pay3
  dsimp only
  exact shapeCast_self _ _

theorem hz : (![0, 0] : Fin 2 → ℕ) = fun _ => 0 := by decide

/-- What the first point of a block leaves in the running sum. -/
theorem first (i : grid0.Coords) (a3 : Memref sig .tc .vmem S2048x1024 .bf16) (h3 : a3.IsWhole) (a4 : Memref sig .tc .vmem S2048x512 .bf16) (h4 : a4.IsWhole)
    (a5 : Memref sig .tc .vmem S1024x512 .bf16) (h5 : a5.IsWhole) (a6 : Memref sig .tc .vmem S1024x512 .f32) (h6 : a6.IsWhole) (e0 e1 e2)
    (x0 : Vec Ideal S2048x1024 .bf16) (x1 : Vec Ideal S2048x512 .bf16) :
    sout0_A_0 c i a3 h3 a4 h4 a5 h5 a6 h6 e0 e1 e2 x0 x1 = k0_pay1 x0 x1 := by
  unfold sout0_A_0
  rw [View.read_writes_eq_canon _ _ _ (scover0_A_0 c i a3 h3 a4 h4 a5 h5 a6 h6 e0 e1 e2 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S2048x512) hz]
  exact product_first _ _

/-- What the second point leaves of the result's block. -/
theorem second (i : grid0.Coords) (a3 : Memref sig .tc .vmem S2048x1024 .bf16) (h3 : a3.IsWhole) (a4 : Memref sig .tc .vmem S2048x512 .bf16) (h4 : a4.IsWhole)
    (a5 : Memref sig .tc .vmem S1024x512 .bf16) (h5 : a5.IsWhole) (a6 : Memref sig .tc .vmem S1024x512 .f32) (h6 : a6.IsWhole) (e0 e1 e2)
    (x0 : Vec Ideal S2048x1024 .bf16) (x1 : Vec Ideal S2048x512 .bf16) (a : Vec Ideal S1024x512 .f32) :
    (out0_B_2 c i a3 h3 a4 h4 a5 h5 a6 h6 e0 e1 e2 x0 x1 a : S1024x512.Idx → EReal) = addf (φ := .f32) a (k0_pay1 x0 x1) := by
  unfold out0_B_2
  rw [View.read_writes_eq_canon _ _ _ (cover0_B_2 c i a3 h3 a4 h4 a5 h5 a6 h6 e0 e1 e2 x0 x1 a)]
  unfold kernelRun0_B
  dsimp only
  sl_unfold_words
  rw [View.canon_unit_zero hz]
  simp only [View.readAt_eq_ld, h3.read_unread, h4.read_unread, h6.read_unread, View.readCov_unit_zero (S := S1024x512) _ hz, View.ld_unit_zero (S := S2048x1024) hz, View.ld_unit_zero (S := S2048x512) hz, View.ld_unit_zero (S := S1024x512) hz]
  rw [product_next]
  rfl

/-- What the second point of a block writes back. -/
theorem flushed (t : Fin cfg0.N) (ht : t.val % 2 = 1) :
    (dats m 0 c).flushed 2 t = (cfg0.win 2).cut (grid0.coords t)
      (tab fun r x => part 0 4096 (cols m c (1024 * (t.val / 2) + r)) (grad m c (512 * 0 + x))) := by
  rw [flushed2_B m c t (by omega) ht ht, second]
  congr 1
  have hs := outsAt0_A m c ⟨t.val - 1, lt_of_le_of_lt (Nat.sub_le _ _) t.isLt⟩ (by show (t.val - 1) % 2 = 0; omega) (by show ¬(t.val - 1) % 2 = 1; omega) (by show ¬(t.val - 1) % 2 = 1; omega)
  rw [congrArg Prod.snd hs]
  dsimp only
  rw [first, blk0, blk1, blk0, blk1, product, product, tab_add]
  dsimp only
  rw [show (t.val - 1) % 2 = 0 by omega, show (t.val - 1) / 2 = t.val / 2 by omega, ht]
  exact funext fun j => part_add 0 2048 2048 _ _

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have e : win0_2.index t 0 = win0_2.index t' 0 := congrFun h 0
    rw [(index t).2.2.1, (index t').2.2.1] at e
    have := (flush0_2 t).mp hf
    have := (flush0_2 t').mp hf'
    omega))

/-- The array the call leaves. -/
theorem array : ((dats m 0 c).arrAt 2 cfg0.N : S2048x512.Idx → EReal)
    = tab fun r x => part 0 4096 (cols m c r) (grad m c x) := by
  refine tiled (bn := 1024) (bm := 512) (by decide) (by decide) (P := fun t : Fin cfg0.N => t.val / 2) (Q := fun t => 0)
    (e := fun t => ((cfg0.win 2).blk t).view.emb) (fun t => t.val % 2 = 1) (fun t j => ⟨place (index t).2.2.1, place (index t).2.2.2⟩) (fun t ht j => ?_)
    (fun r x hr hx => ⟨⟨2 * (r / 1024) + 1, lt_of_lt_of_eq (by omega : 2 * (r / 1024) + 1 < 4) N_0.symm⟩, by dsimp only; omega, by dsimp only; omega, by omega⟩)
  have e := congrFun ((dats m 0 c).read_blk_arrAt_eq_flushed 2 disjoint2 cfg0.N t t.isLt ((flush0_2 t).mpr ht)) j
  rw [flushed m c t ht, View.read_apply] at e
  refine Eq.trans e ?_
  rfl

/-- The result the reference writes. -/
theorem reference (x : S4096x2048.Idx → EReal) (y : S4096x512.Idx → EReal) :
    (Cert.Reference9Ideal.Read.val_main_v7 (F := Ideal) x y : S2048x512.Idx → EReal)
      = tab fun r c => part 0 4096 (fun k => ent (n := 4096) (m := 2048) x k r) (fun k => ent (n := 4096) (m := 512) y k c) := by
  funext i
  rw [Cert.Reference9Ideal.Read.val_main_v7_apply, Cert.Reference9Ideal.Read.val_main_v5_apply, Cert.Reference9Ideal.Read.val_main_v4_apply]
  refine (sum_eq_part (fun k => ?_) (fun k => ?_)).trans (part_comm 0 4096 (fun k => ent (n := 4096) (m := 512) y k (i 1).val) (fun k => ent (n := 4096) (m := 2048) x k (i 0).val))
  · exact eq_ent y _ rfl rfl
  · exact eq_ent x _ rfl rfl

/-- The array the call leaves is the reference's. -/
theorem values : Cert.algebraic_Kernel9Ideal_Reference9Ideal (hKernel9Ideal := Cert.Kernel9Ideal.Gen.facts) (hReference9Ideal := Cert.Reference9Ideal.Gen.facts) := by
  intro m g m' g' _ hagree
  refine ⟨fun c => (dats m 0 c).arrAt 2 cfg0.N, run_blocks (F := Ideal) m g, ?_⟩
  refine (θ_run Cert.Reference9Ideal.defs _ _).mono (fun r h c => ⟨?_, (h c).2⟩) (Cert.Reference9Ideal.Value.run (F := Ideal) m' g')
  obtain ⟨a0, _, a2⟩ := hagree c
  refine (h c).1.trans ?_
  rw [a0, a2]
  exact (reference _ _).trans (array m c).symm

/-- The reference ends, its arguments are what they were, and it declares no semaphore. -/
theorem frame_reference : Cert.quiescent_Reference9Ideal (hReference9Ideal := Cert.Reference9Ideal.Gen.facts) := by
  intro m g _
  exact (θ_run Cert.Reference9Ideal.defs _ _).mono (fun r h => ⟨fun c => (h c).2, sem_eq_zero_of_no_sems (by decide) r.2⟩)
    (Cert.Reference9Ideal.Value.run (F := Ideal) m g)

end Cert.QueryWeights

end
-- ==== Proof.QueryRows.lean ====
/-
  THE GRADIENT OF THE ROWS THE QUERIES ARE PROJECTED FROM: every block of the result is one product of a block of rows of the
  gradient with a block of rows of the weights.
-/
module

public import proofs.«01_k».proof.Defs
public import proofs.«01_k».proof.Proof.Gen.Kernel10Ideal.Value
public import proofs.«01_k».proof.Proof.Gen.Reference10Ideal.Read
public import proofs.«01_k».proof.Proof.Blocks
public import Idealize.ShloMosaic.Lib.Pipeline.Frame
public import Idealize.ShloMosaic.Adequacy
public import Idealize.ShloMosaic.Init

@[expose] public section

noncomputable section

namespace Cert.QueryRows

open Idealize.ShloMosaic Idealize.ShloMosaic.TcCoe Idealize.SL.Sem Cert.Kernel10Ideal Cert.Kernel10Ideal.Gen Cert.Kernel10Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2) :=
  (by decide +kernel : ∀ t : Fin grid0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2))

/-- The rows of the gradient. -/
def grad : ℕ → ℕ → EReal := ent (n := 4096) (m := 512) (m ((c : Thread nD τ).loc main_arg2))

/-- The rows of the weights. -/
def weights : ℕ → ℕ → EReal := ent (n := 2048) (m := 512) (m ((c : Thread nD τ).loc main_arg1))

theorem blk0 (t : Fin cfg0.N) : iblk m c 0 t = (tab fun r k => grad m c (1024 * (t.val / 2) + r) k : S1024x512.Idx → EReal) := by
  funext j
  unfold iblk
  rw [View.read_apply]
  show V m c main_arg2 _ = _
  rw [V_main_arg2]
  exact eq_ent _ _ (place (index t).1.1) (whole (index t).1.2)

theorem blk1 (t : Fin cfg0.N) : iblk m c 1 t = (tab fun x k => weights m c (1024 * (t.val % 2) + x) k : S1024x512.Idx → EReal) := by
  funext j
  unfold iblk
  rw [View.read_apply]
  show V m c main_arg1 _ = _
  rw [V_main_arg1]
  exact eq_ent _ _ (place (index t).2.1.1) (whole (index t).2.1.2)

theorem product {f g : ℕ → ℕ → EReal} : k0_pay1 (F := Ideal) (tab f) (tab g) = tab fun r x => part 0 512 (f r) (g x) := by
  unfold k0_pay1
  dsimp only
  exact matmul_tab dot_S1024x512_S1024x512_S1024x1024_1_1_0_0_n_n (tab f) (tab g) rfl rfl f g 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S1024x512 .bf16) (x1 : Vec Ideal S1024x512 .bf16) : out0_2 x0 x1 = k0_pay1 x0 x1 := by
  unfold out0_2
  rw [View.canon_unit_zero hz]
  simp only [View.ld_unit_zero (S := S1024x512) hz]

/-- The array the call leaves. -/
theorem array : ((dats m 0 c).arrAt 2 cfg0.N : S4096x2048.Idx → EReal)
    = tab fun r x => part 0 512 (grad m c r) (weights m c x) := by
  refine tiled (bn := 1024) (bm := 1024) (by decide) (by decide) (P := fun t : Fin cfg0.N => t.val / 2) (Q := fun t => t.val % 2)
    (e := fun t => ((cfg0.win 2).blk t).view.emb) (fun _ => True) (fun t j => ⟨place (index t).2.2.1, place (index t).2.2.2⟩) (fun t _ j => ?_)
    (fun r x hr hx => ⟨⟨2 * (r / 1024) + x / 1024, lt_of_lt_of_eq (by omega : 2 * (r / 1024) + x / 1024 < 8) N_0.symm⟩, trivial, by dsimp only; omega, by dsimp only; omega⟩)
  have e := congrFun (blocks2 m c t (flush0_2 t)) j
  rw [flushed2, out, blk0, blk1, product, View.read_apply] at e
  refine Eq.trans e ?_
  rfl

/-- The result the reference writes. -/
theorem reference (x : S2048x512.Idx → EReal) (y : S4096x512.Idx → EReal) :
    (Cert.Reference10Ideal.Read.val_main_v6 (F := Ideal) x y : S4096x2048.Idx → EReal)
      = tab fun r c => part 0 512 (ent (n := 4096) (m := 512) y r) (ent (n := 2048) (m := 512) x c) := by
  funext i
  rw [Cert.Reference10Ideal.Read.val_main_v6_apply]
  exact sum_eq_part (f := ent (n := 4096) (m := 512) y (i 0).val) (g := ent (n := 2048) (m := 512) x (i 1).val)
    (fun _ => eq_ent y _ rfl rfl) (fun _ => eq_ent x _ rfl rfl)

/-- The array the call leaves is the reference's. -/
theorem values : Cert.algebraic_Kernel10Ideal_Reference10Ideal (hKernel10Ideal := Cert.Kernel10Ideal.Gen.facts) (hReference10Ideal := Cert.Reference10Ideal.Gen.facts) := by
  intro m g m' g' _ hagree
  refine ⟨fun c => (dats m 0 c).arrAt 2 cfg0.N, run_blocks (F := Ideal) m g, ?_⟩
  refine (θ_run Cert.Reference10Ideal.defs _ _).mono (fun r h c => ⟨?_, (h c).2⟩) (Cert.Reference10Ideal.Value.run (F := Ideal) m' g')
  obtain ⟨_, a1, a2⟩ := hagree c
  refine (h c).1.trans ?_
  rw [a1, a2]
  exact (reference _ _).trans (array m c).symm

/-- The reference ends, its arguments are what they were, and it declares no semaphore. -/
theorem frame_reference : Cert.quiescent_Reference10Ideal (hReference10Ideal := Cert.Reference10Ideal.Gen.facts) := by
  intro m g _
  exact (θ_run Cert.Reference10Ideal.defs _ _).mono (fun r h => ⟨fun c => (h c).2, sem_eq_zero_of_no_sems (by decide) r.2⟩)
    (Cert.Reference10Ideal.Value.run (F := Ideal) m g)

end Cert.QueryRows

end
-- ==== Proof.Memory.lean ====
/-
  THE CROSS ATTENTION'S KEYS AND VALUES: the one block of the result is the product of the memory's rows with the weights.
-/
module

public import proofs.«01_k».proof.Defs
public import proofs.«01_k».proof.Proof.Gen.Kernel11Ideal.Value
public import proofs.«01_k».proof.Proof.Gen.Reference11Ideal.Read
public import proofs.«01_k».proof.Proof.Blocks
public import Idealize.ShloMosaic.Lib.Pipeline.Frame
public import Idealize.ShloMosaic.Adequacy
public import Idealize.ShloMosaic.Init

@[expose] public section

noncomputable section

namespace Cert.Memory

open Idealize.ShloMosaic Idealize.ShloMosaic.TcCoe Idealize.SL.Sem Cert.Kernel11Ideal Cert.Kernel11Ideal.Gen Cert.Kernel11Ideal.Value Cert.RealArr Cert.Buffers Cert.Tiles Cert.Blocks

variable (m : (ℓ : Loc nD τ sig) → Buf (Elt Ideal) ℓ) (c : Dev nD)

theorem index : ∀ t : Fin cfg0.N, (win0_0.index t 0 = 0 ∧ win0_0.index t 1 = 0) ∧ (win0_1.index t 0 = 0 ∧ win0_1.index t 1 = 0) ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0))

/-- The memory's rows. -/
def rows : ℕ → ℕ → EReal := ent (n := 256) (m := 2048) (m ((c : Thread nD τ).loc main_arg0))

/-- The weights. -/
def weights : ℕ → ℕ → EReal := ent (n := 2048) (m := 1024) (m ((c : Thread nD τ).loc main_arg1))

theorem blk0 (t : Fin cfg0.N) : iblk m c 0 t = (tab (rows m c) : S256x2048.Idx → EReal) := by
  funext j
  unfold iblk
  rw [View.read_apply]
  show V m c main_arg0 _ = _
  rw [V_main_arg0]
  exact eq_ent _ _ (whole (index t).1.1) (whole (index t).1.2)

theorem blk1 (t : Fin cfg0.N) : iblk m c 1 t = (tab (weights m c) : S2048x1024.Idx → EReal) := by
  funext j
  unfold iblk
  rw [View.read_apply]
  show V m c main_arg1 _ = _
  rw [V_main_arg1]
  exact eq_ent _ _ (whole (index t).2.1.1) (whole (index t).2.1.2)

theorem product {f g : ℕ → ℕ → EReal} : k0_pay1 (F := Ideal) (tab f) (tab g) = tab fun r x => part 0 2048 (f r) (fun k => g k x) := by
  unfold k0_pay1
  dsimp only
  exact matmul_tab dot_S256x2048_S2048x1024_S256x1024_1_0_0_1_n_n (tab f) (tab g) rfl rfl f (fun x k => g k x) 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S256x2048 .bf16) (x1 : Vec Ideal S2048x1024 .bf16) : out0_2 x0 x1 = k0_pay1 x0 x1 := by
  unfold out0_2
  rw [View.canon_unit_zero hz]
  simp only [View.ld_unit_zero (S := S256x2048) hz, View.ld_unit_zero (S := S2048x1024) hz]

/-- The array the call leaves. -/
theorem array : ((dats m 0 c).arrAt 2 cfg0.N : S256x1024.Idx → EReal)
    = tab fun r x => part 0 2048 (rows m c r) (fun k => weights m c k x) := by
  refine tiled (bn := 256) (bm := 1024) (by decide) (by decide) (P := fun t : Fin cfg0.N => 0) (Q := fun t => 0)
    (e := fun t => ((cfg0.win 2).blk t).view.emb) (fun _ => True) (fun t j => ⟨place (index t).2.2.1, place (index t).2.2.2⟩) (fun t _ j => ?_)
    (fun r x hr hx => ⟨⟨0, lt_of_lt_of_eq (by omega : 0 < 1) N_0.symm⟩, trivial, by omega, by omega⟩)
  have e := congrFun (blocks2 m c t (flush0_2 t)) j
  rw [flushed2, out, blk0, blk1, product, View.read_apply] at e
  refine Eq.trans e ?_
  show part 0 2048 (rows m c (j 0).val) (fun k => weights m c k (j 1).val)
    = part 0 2048 (rows m c (256 * 0 + (j 0).val)) (fun k => weights m c k (1024 * 0 + (j 1).val))
  simp only [Nat.mul_zero, Nat.zero_add]

/-- The result the reference writes. -/
theorem reference (x : S256x2048.Idx → EReal) (y : S2048x1024.Idx → EReal) :
    (Cert.Reference11Ideal.Read.val_main_v2 (F := Ideal) x y : S256x1024.Idx → EReal)
      = tab fun r c => part 0 2048 (ent (n := 256) (m := 2048) x r) (fun k => ent (n := 2048) (m := 1024) y k c) := by
  funext i
  rw [Cert.Reference11Ideal.Read.val_main_v2_apply]
  exact sum_eq_part (f := ent (n := 256) (m := 2048) x (i 0).val) (g := fun k => ent (n := 2048) (m := 1024) y k (i 1).val)
    (fun _ => eq_ent x _ rfl rfl) (fun _ => eq_ent y _ rfl rfl)

/-- The array the call leaves is the reference's. -/
theorem values : Cert.algebraic_Kernel11Ideal_Reference11Ideal (hKernel11Ideal := Cert.Kernel11Ideal.Gen.facts) (hReference11Ideal := Cert.Reference11Ideal.Gen.facts) := by
  intro m g m' g' _ hagree
  refine ⟨fun c => (dats m 0 c).arrAt 2 cfg0.N, run_blocks (F := Ideal) m g, ?_⟩
  refine (θ_run Cert.Reference11Ideal.defs _ _).mono (fun r h c => ⟨?_, (h c).2⟩) (Cert.Reference11Ideal.Value.run (F := Ideal) m' g')
  obtain ⟨a0, a1⟩ := hagree c
  refine (h c).1.trans ?_
  rw [a0, a1]
  exact (reference _ _).trans (array m c).symm

/-- The reference ends, its arguments are what they were, and it declares no semaphore. -/
theorem frame_reference : Cert.quiescent_Reference11Ideal (hReference11Ideal := Cert.Reference11Ideal.Gen.facts) := by
  intro m g _
  exact (θ_run Cert.Reference11Ideal.defs _ _).mono (fun r h => ⟨fun c => (h c).2, sem_eq_zero_of_no_sems (by decide) r.2⟩)
    (Cert.Reference11Ideal.Value.run (F := Ideal) m g)

end Cert.Memory

end
-- ==== Proof.MemoryWeights.lean ====
/-
  THE GRADIENT OF THE KEYS' AND VALUES' WEIGHTS: every block of the result is one product of a block of columns of the memory's
  rows with the gradient.
-/
module

public import proofs.«01_k».proof.Defs
public import proofs.«01_k».proof.Proof.Gen.Kernel12Ideal.Value
public import proofs.«01_k».proof.Proof.Gen.Reference12Ideal.Read
public import proofs.«01_k».proof.Proof.Blocks
public import Idealize.ShloMosaic.Lib.Pipeline.Frame
public import Idealize.ShloMosaic.Adequacy
public import Idealize.ShloMosaic.Init

@[expose] public section

noncomputable section

namespace Cert.MemoryWeights

open Idealize.ShloMosaic Idealize.ShloMosaic.TcCoe Idealize.SL.Sem Cert.Kernel12Ideal Cert.Kernel12Ideal.Gen Cert.Kernel12Ideal.Value Cert.RealArr Cert.Buffers Cert.Tiles Cert.Blocks

variable (m : (ℓ : Loc nD τ sig) → Buf (Elt Ideal) ℓ) (c : Dev nD)

theorem index : ∀ t : Fin cfg0.N, (win0_0.index t 0 = 0 ∧ win0_0.index t 1 = t.val) ∧ (win0_1.index t 0 = 0 ∧ win0_1.index t 1 = 0) ∧ (win0_2.index t 0 = t.val ∧ win0_2.index t 1 = 0) :=
  (by decide +kernel : ∀ t : Fin grid0.N, (win0_0.index t 0 = 0 ∧ win0_0.index t 1 = t.val) ∧ (win0_1.index t 0 = 0 ∧ win0_1.index t 1 = 0) ∧ (win0_2.index t 0 = t.val ∧ win0_2.index t 1 = 0))

/-- The columns of the memory's rows. -/
def cols (r k : ℕ) : EReal := ent (n := 256) (m := 2048) (m ((c : Thread nD τ).loc main_arg0)) k r

/-- The columns of the gradient. -/
def grad (x k : ℕ) : EReal := ent (n := 256) (m := 1024) (m ((c : Thread nD τ).loc main_arg2)) k x

theorem blk0 (t : Fin cfg0.N) : iblk m c 0 t = (tab fun k r => cols m c (1024 * t.val + r) k : S256x1024.Idx → EReal) := by
  funext j
  unfold iblk
  rw [View.read_apply]
  show V m c main_arg0 _ = _
  rw [V_main_arg0]
  exact eq_ent _ _ (whole (index t).1.1) (place (index t).1.2)

theorem blk1 (t : Fin cfg0.N) : iblk m c 1 t = (tab fun k x => grad m c x k : S256x1024.Idx → EReal) := by
  funext j
  unfold iblk
  rw [View.read_apply]
  show V m c main_arg2 _ = _
  rw [V_main_arg2]
  exact eq_ent _ _ (whole (index t).2.1.1) (whole (index t).2.1.2)

theorem product {f g : ℕ → ℕ → EReal} : k0_pay1 (F := Ideal) (tab fun k r => f r k) (tab fun k x => g x k) = tab fun r x => part 0 256 (f r) (g x) := by
  unfold k0_pay1
  dsimp only
  exact matmul_tab dot_S256x1024_S256x1024_S1024x1024_0_0_1_1_n_n _ _ rfl rfl f g 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S256x1024 .bf16) (x1 : Vec Ideal S256x1024 .f32) : out0_2 x0 x1 = k0_pay1 x0 x1 := by
  unfold out0_2
  rw [View.canon_unit_zero hz]
  simp only [View.ld_unit_zero (S := S256x1024) hz]

/-- The array the call leaves. -/
theorem array : ((dats m 0 c).arrAt 2 cfg0.N : S2048x1024.Idx → EReal)
    = tab fun r x => part 0 256 (cols m c r) (grad m c x) := by
  refine tiled (bn := 1024) (bm := 1024) (by decide) (by decide) (P := fun t : Fin cfg0.N => t.val) (Q := fun t => 0)
    (e := fun t => ((cfg0.win 2).blk t).view.emb) (fun _ => True) (fun t j => ⟨place (index t).2.2.1, place (index t).2.2.2⟩) (fun t _ j => ?_)
    (fun r x hr hx => ⟨⟨r / 1024, lt_of_lt_of_eq (by omega : r / 1024 < 2) N_0.symm⟩, trivial, rfl, by omega⟩)
  have e := congrFun (blocks2 m c t (flush0_2 t)) j
  rw [flushed2, out, blk0, blk1, product, View.read_apply] at e
  refine Eq.trans e ?_
  show part 0 256 (cols m c (1024 * t.val + (j 0).val)) (grad m c (j 1).val)
    = part 0 256 (cols m c (1024 * t.val + (j 0).val)) (grad m c (1024 * 0 + (j 1).val))
  rw [Nat.mul_zero, Nat.zero_add]

/-- The result the reference writes. -/
theorem reference (x : S256x2048.Idx → EReal) (y : S256x1024.Idx → EReal) :
    (Cert.Reference12Ideal.Read.val_main_v6 (F := Ideal) x y : S2048x1024.Idx → EReal)
      = tab fun r c => part 0 256 (fun k => ent (n := 256) (m := 2048) x k r) (fun k => ent (n := 256) (m := 1024) y k c) := by
  funext i
  rw [Cert.Reference12Ideal.Read.val_main_v6_apply, Cert.Reference12Ideal.Read.val_main_v4_apply, Cert.Reference12Ideal.Read.val_main_v3_apply]
  refine (sum_eq_part (fun k => ?_) (fun k => ?_)).trans (part_comm 0 256 (fun k => ent (n := 256) (m := 1024) y k (i 1).val) (fun k => ent (n := 256) (m := 2048) x k (i 0).val))
  · exact eq_ent y _ rfl rfl
  · exact eq_ent x _ rfl rfl

/-- The array the call leaves is the reference's. -/
theorem values : Cert.algebraic_Kernel12Ideal_Reference12Ideal (hKernel12Ideal := Cert.Kernel12Ideal.Gen.facts) (hReference12Ideal := Cert.Reference12Ideal.Gen.facts) := by
  intro m g m' g' _ hagree
  refine ⟨fun c => (dats m 0 c).arrAt 2 cfg0.N, run_blocks (F := Ideal) m g, ?_⟩
  refine (θ_run Cert.Reference12Ideal.defs _ _).mono (fun r h c => ⟨?_, (h c).2⟩) (Cert.Reference12Ideal.Value.run (F := Ideal) m' g')
  obtain ⟨a0, _, a2⟩ := hagree c
  refine (h c).1.trans ?_
  rw [a0, a2]
  exact (reference _ _).trans (array m c).symm

/-- The reference ends, its arguments are what they were, and it declares no semaphore. -/
theorem frame_reference : Cert.quiescent_Reference12Ideal (hReference12Ideal := Cert.Reference12Ideal.Gen.facts) := by
  intro m g _
  exact (θ_run Cert.Reference12Ideal.defs _ _).mono (fun r h => ⟨fun c => (h c).2, sem_eq_zero_of_no_sems (by decide) r.2⟩)
    (Cert.Reference12Ideal.Value.run (F := Ideal) m g)

end Cert.MemoryWeights

end
-- ==== Proof.MemoryRows.lean ====
/-
  THE GRADIENT OF THE MEMORY'S ROWS: every block of the result is one product of the gradient with a block of rows of the weights.
-/
module

public import proofs.«01_k».proof.Defs
public import proofs.«01_k».proof.Proof.Gen.Kernel13Ideal.Value
public import proofs.«01_k».proof.Proof.Gen.Reference13Ideal.Read
public import proofs.«01_k».proof.Proof.Blocks
public import Idealize.ShloMosaic.Lib.Pipeline.Frame
public import Idealize.ShloMosaic.Adequacy
public import Idealize.ShloMosaic.Init

@[expose] public section

noncomputable section

namespace Cert.MemoryRows

open Idealize.ShloMosaic Idealize.ShloMosaic.TcCoe Idealize.SL.Sem Cert.Kernel13Ideal Cert.Kernel13Ideal.Gen Cert.Kernel13Ideal.Value Cert.RealArr Cert.Buffers Cert.Tiles Cert.Blocks

variable (m : (ℓ : Loc nD τ sig) → Buf (Elt Ideal) ℓ) (c : Dev nD)

theorem index : ∀ t : Fin cfg0.N, (win0_0.index t 0 = 0 ∧ win0_0.index t 1 = 0) ∧ (win0_1.index t 0 = t.val ∧ win0_1.index t 1 = 0) ∧ (win0_2.index t 0 = 0 ∧ win0_2.index t 1 = t.val) :=
  (by decide +kernel : ∀ t : Fin grid0.N, (win0_0.index t 0 = 0 ∧ win0_0.index t 1 = 0) ∧ (win0_1.index t 0 = t.val ∧ win0_1.index t 1 = 0) ∧ (win0_2.index t 0 = 0 ∧ win0_2.index t 1 = t.val))

/-- The rows of the gradient. -/
def grad : ℕ → ℕ → EReal := ent (n := 256) (m := 1024) (m ((c : Thread nD τ).loc main_arg2))

/-- The rows of the weights. -/
def weights : ℕ → ℕ → EReal := ent (n := 2048) (m := 1024) (m ((c : Thread nD τ).loc main_arg1))

theorem blk0 (t : Fin cfg0.N) : iblk m c 0 t = (tab fun r k => grad m c (256 * 0 + r) k : S256x1024.Idx → EReal) := by
  funext j
  unfold iblk
  rw [View.read_apply]
  show V m c main_arg2 _ = _
  rw [V_main_arg2]
  exact eq_ent _ _ (place (index t).1.1) (whole (index t).1.2)

theorem blk1 (t : Fin cfg0.N) : iblk m c 1 t = (tab fun x k => weights m c (1024 * t.val + x) k : S1024x1024.Idx → EReal) := by
  funext j
  unfold iblk
  rw [View.read_apply]
  show V m c main_arg1 _ = _
  rw [V_main_arg1]
  exact eq_ent _ _ (place (index t).2.1.1) (whole (index t).2.1.2)

theorem product {f g : ℕ → ℕ → EReal} : k0_pay1 (F := Ideal) (tab f) (tab g) = tab fun r x => part 0 1024 (f r) (g x) := by
  unfold k0_pay1
  dsimp only
  exact matmul_tab dot_S256x1024_S1024x1024_S256x1024_1_1_0_0_n_n (tab f) (tab g) rfl rfl f g 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S256x1024 .f32) (x1 : Vec Ideal S1024x1024 .bf16) : out0_2 x0 x1 = k0_pay1 x0 x1 := by
  unfold out0_2
  rw [View.canon_unit_zero hz]
  simp only [View.ld_unit_zero (S := S256x1024) hz, View.ld_unit_zero (S := S1024x1024) hz]

/-- The array the call leaves. -/
theorem array : ((dats m 0 c).arrAt 2 cfg0.N : S256x2048.Idx → EReal)
    = tab fun r x => part 0 1024 (grad m c r) (weights m c x) := by
  refine tiled (bn := 256) (bm := 1024) (by decide) (by decide) (P := fun t : Fin cfg0.N => 0) (Q := fun t => t.val)
    (e := fun t => ((cfg0.win 2).blk t).view.emb) (fun _ => True) (fun t j => ⟨place (index t).2.2.1, place (index t).2.2.2⟩) (fun t _ j => ?_)
    (fun r x hr hx => ⟨⟨x / 1024, lt_of_lt_of_eq (by omega : x / 1024 < 2) N_0.symm⟩, trivial, by omega, rfl⟩)
  have e := congrFun (blocks2 m c t (flush0_2 t)) j
  rw [flushed2, out, blk0, blk1, product, View.read_apply] at e
  refine Eq.trans e ?_
  rfl

/-- The result the reference writes. -/
theorem reference (x : S2048x1024.Idx → EReal) (y : S256x1024.Idx → EReal) :
    (Cert.Reference13Ideal.Read.val_main_v5 (F := Ideal) x y : S256x2048.Idx → EReal)
      = tab fun r c => part 0 1024 (ent (n := 256) (m := 1024) y r) (ent (n := 2048) (m := 1024) x c) := by
  funext i
  rw [Cert.Reference13Ideal.Read.val_main_v5_apply]
  exact sum_eq_part (f := ent (n := 256) (m := 1024) y (i 0).val) (g := ent (n := 2048) (m := 1024) x (i 1).val)
    (fun _ => eq_ent y _ rfl rfl) (fun _ => eq_ent x _ rfl rfl)

/-- The array the call leaves is the reference's. -/
theorem values : Cert.algebraic_Kernel13Ideal_Reference13Ideal (hKernel13Ideal := Cert.Kernel13Ideal.Gen.facts) (hReference13Ideal := Cert.Reference13Ideal.Gen.facts) := by
  intro m g m' g' _ hagree
  refine ⟨fun c => (dats m 0 c).arrAt 2 cfg0.N, run_blocks (F := Ideal) m g, ?_⟩
  refine (θ_run Cert.Reference13Ideal.defs _ _).mono (fun r h c => ⟨?_, (h c).2⟩) (Cert.Reference13Ideal.Value.run (F := Ideal) m' g')
  obtain ⟨_, a1, a2⟩ := hagree c
  refine (h c).1.trans ?_
  rw [a1, a2]
  exact (reference _ _).trans (array m c).symm

/-- The reference ends, its arguments are what they were, and it declares no semaphore. -/
theorem frame_reference : Cert.quiescent_Reference13Ideal (hReference13Ideal := Cert.Reference13Ideal.Gen.facts) := by
  intro m g _
  exact (θ_run Cert.Reference13Ideal.defs _ _).mono (fun r h => ⟨fun c => (h c).2, sem_eq_zero_of_no_sems (by decide) r.2⟩)
    (Cert.Reference13Ideal.Value.run (F := Ideal) m g)

end Cert.MemoryRows

end
-- ==== Proof.CrossOutput.lean ====
/-
  THE CROSS ATTENTION'S OUTPUT PROJECTION: every block of the result is one product of a block of rows with a block of columns of
  the weights, and the residual's block on top.
-/
module

public import proofs.«01_k».proof.Defs
public import proofs.«01_k».proof.Proof.Gen.Kernel14Ideal.Value
public import proofs.«01_k».proof.Proof.Gen.Reference14Ideal.Read
public import proofs.«01_k».proof.Proof.Blocks
public import Idealize.ShloMosaic.Lib.Pipeline.Frame
public import Idealize.ShloMosaic.Adequacy
public import Idealize.ShloMosaic.Init

@[expose] public section

noncomputable section

namespace Cert.CrossOutput

open Idealize.ShloMosaic Idealize.ShloMosaic.TcCoe Idealize.SL.Sem Cert.Kernel14Ideal Cert.Kernel14Ideal.Gen Cert.Kernel14Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val / 2 ∧ win0_0.index t 1 = 0) ∧ (win0_1.index t 0 = 0 ∧ win0_1.index t 1 = t.val % 2) ∧ (win0_2.index t 0 = t.val / 2 ∧ win0_2.index t 1 = t.val % 2) ∧ (win0_3.index t 0 = t.val / 2 ∧ win0_3.index t 1 = t.val % 2) :=
  (by decide +kernel : ∀ t : Fin grid0.N, (win0_0.index t 0 = t.val / 2 ∧ win0_0.index t 1 = 0) ∧ (win0_1.index t 0 = 0 ∧ win0_1.index t 1 = t.val % 2) ∧ (win0_2.index t 0 = t.val / 2 ∧ win0_2.index t 1 = t.val % 2) ∧ (win0_3.index t 0 = t.val / 2 ∧ win0_3.index t 1 = t.val % 2))

/-- The rows projected. -/
def rows : ℕ → ℕ → EReal := ent (n := 4096) (m := 512) (m ((c : Thread nD τ).loc main_arg0))

/-- The weights. -/
def weights : ℕ → ℕ → EReal := ent (n := 512) (m := 2048) (m ((c : Thread nD τ).loc main_arg1))

/-- The residual. -/
def residual : ℕ → ℕ → EReal := ent (n := 4096) (m := 2048) (m ((c : Thread nD τ).loc main_arg2))

theorem blk0 (t : Fin cfg0.N) : iblk m c 0 t = (tab fun r k => rows m c (1024 * (t.val / 2) + r) k : S1024x512.Idx → EReal) := by
  funext j
  unfold iblk
  rw [View.read_apply]
  show V m c main_arg0 _ = _
  rw [V_main_arg0]
  exact eq_ent _ _ (place (index t).1.1) (whole (index t).1.2)

theorem blk1 (t : Fin cfg0.N) : iblk m c 1 t = (tab fun k x => weights m c k (1024 * (t.val % 2) + x) : S512x1024.Idx → EReal) := by
  funext j
  unfold iblk
  rw [View.read_apply]
  show V m c main_arg1 _ = _
  rw [V_main_arg1]
  exact eq_ent _ _ (whole (index t).2.1.1) (place (index t).2.1.2)

theorem blk2 (t : Fin cfg0.N) : iblk m c 2 t = (tab fun r x => residual m c (1024 * (t.val / 2) + r) (1024 * (t.val % 2) + x) : S1024x1024.Idx → EReal) := by
  funext j
  unfold iblk
  rw [View.read_apply]
  show V m c main_arg2 _ = _
  rw [V_main_arg2]
  exact eq_ent _ _ (place (index t).2.2.1.1) (place (index t).2.2.1.2)

variable {f g h : ℕ → ℕ → EReal}

theorem product : k0_pay1 (F := Ideal) (tab f) (tab g) (tab h) = tab fun r x => part 0 512 (f r) (fun k => g k x) + h r x := by
  unfold k0_pay1
  dsimp only
  refine (congrArg (fun y => addf (F := Ideal) (φ := .f32) y (tab h)) (matmul_tab dot_S1024x512_S512x1024_S1024x1024_1_0_0_1_n_n (tab f) (tab g) rfl rfl f (fun x k => g k x) 0
    (fun _ k => by rw [Nat.zero_add]; rfl) (fun _ k => by rw [Nat.zero_add]; rfl))).trans tab_add

theorem hz : (![0, 0] : Fin 2 → ℕ) = fun _ => 0 := by decide

/-- What a point leaves of its three blocks. -/
theorem out (x0 : Vec Ideal S1024x512 .bf16) (x1 : Vec Ideal S512x1024 .bf16) (x2 : Vec Ideal S1024x1024 .f32) :
    out0_3 x0 x1 x2 = k0_pay1 x0 x1 x2 := by
  unfold out0_3
  rw [View.canon_unit_zero hz]
  simp only [View.ld_unit_zero (S := S1024x512) hz, View.ld_unit_zero (S := S512x1024) hz, View.ld_unit_zero (S := S1024x1024) hz]

/-- The array the call leaves. -/
theorem array : ((dats m 0 c).arrAt 3 cfg0.N : S4096x2048.Idx → EReal)
    = tab fun r x => part 0 512 (rows m c r) (fun k => weights m c k x) + residual m c r x := by
  refine tiled (bn := 1024) (bm := 1024) (by decide) (by decide) (P := fun t : Fin cfg0.N => t.val / 2) (Q := fun t => t.val % 2)
    (e := fun t => ((cfg0.win 3).blk t).view.emb) (fun _ => True) (fun t j => ⟨place (index t).2.2.2.1, place (index t).2.2.2.2⟩) (fun t _ j => ?_)
    (fun r x hr hx => ⟨⟨2 * (r / 1024) + x / 1024, lt_of_lt_of_eq (by omega : 2 * (r / 1024) + x / 1024 < 8) N_0.symm⟩, trivial, by dsimp only; omega, by dsimp only; omega⟩)
  have e := congrFun (blocks3 m c t (flush0_3 t)) j
  rw [flushed3, out, blk0, blk1, blk2, product, View.read_apply] at e
  refine Eq.trans e ?_
  rfl

/-- The result the reference writes. -/
theorem reference (x : S4096x512.Idx → EReal) (y : S512x2048.Idx → EReal) (z : S4096x2048.Idx → EReal) :
    (Cert.Reference14Ideal.Read.val_main_v3 (F := Ideal) x y z : S4096x2048.Idx → EReal)
      = tab fun r c => part 0 512 (ent (n := 4096) (m := 512) x r) (fun k => ent (n := 512) (m := 2048) y k c) + ent (n := 4096) (m := 2048) z r c := by
  funext i
  rw [Cert.Reference14Ideal.Read.val_main_v3_apply, Cert.Reference14Ideal.Read.val_main_v2_apply]
  refine (add_comm (z i) _).trans (congrArg₂ (· + ·) ?_ (eq_ent z i rfl rfl))
  exact sum_eq_part (f := ent (n := 4096) (m := 512) x (i 0).val) (g := fun k => ent (n := 512) (m := 2048) y k (i 1).val)
    (fun _ => eq_ent x _ rfl rfl) (fun _ => eq_ent y _ rfl rfl)

/-- The array the call leaves is the reference's. -/
theorem values : Cert.algebraic_Kernel14Ideal_Reference14Ideal (hKernel14Ideal := Cert.Kernel14Ideal.Gen.facts) (hReference14Ideal := Cert.Reference14Ideal.Gen.facts) := by
  intro m g m' g' _ hagree
  refine ⟨fun c => (dats m 0 c).arrAt 3 cfg0.N, run_blocks (F := Ideal) m g, ?_⟩
  refine (θ_run Cert.Reference14Ideal.defs _ _).mono (fun r h c => ⟨?_, (h c).2⟩) (Cert.Reference14Ideal.Value.run (F := Ideal) m' g')
  obtain ⟨a0, a1, a2⟩ := hagree c
  refine (h c).1.trans ?_
  rw [a0, a1, a2]
  exact (reference _ _ _).trans (array m c).symm

/-- The reference ends, its arguments are what they were, and it declares no semaphore. -/
theorem frame_reference : Cert.quiescent_Reference14Ideal (hReference14Ideal := Cert.Reference14Ideal.Gen.facts) := by
  intro m g _
  exact (θ_run Cert.Reference14Ideal.defs _ _).mono (fun r h => ⟨fun c => (h c).2, sem_eq_zero_of_no_sems (by decide) r.2⟩)
    (Cert.Reference14Ideal.Value.run (F := Ideal) m g)

end Cert.CrossOutput

end
-- ==== Proof.CrossWeights.lean ====
/-
  THE GRADIENT OF THE CROSS ATTENTION'S OUTPUT WEIGHTS: a block of the result is the product of the rows' columns with a block of
  columns of the gradient, half of the 4096 rows at each of two points.
-/
module

public import proofs.«01_k».proof.Defs
public import proofs.«01_k».proof.Proof.Gen.Kernel15Ideal.Value
public import proofs.«01_k».proof.Proof.Gen.Reference15Ideal.Read
public import proofs.«01_k».proof.Proof.Blocks
public import Idealize.ShloMosaic.Lib.Pipeline.Frame
public import Idealize.ShloMosaic.Adequacy
public import Idealize.ShloMosaic.Init

@[expose] public section

noncomputable section

namespace Cert.CrossWeights

open Idealize.ShloMosaic Idealize.ShloMosaic.TcCoe Idealize.SL.Sem Cert.Kernel15Ideal Cert.Kernel15Ideal.Gen Cert.Kernel15Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val % 2 ∧ win0_0.index t 1 = 0) ∧ (win0_1.index t 0 = t.val % 2 ∧ win0_1.index t 1 = t.val / 2) ∧ (win0_2.index t 0 = 0 ∧ win0_2.index t 1 = t.val / 2) :=
  (by decide +kernel : ∀ t : Fin grid0.N, (win0_0.index t 0 = t.val % 2 ∧ win0_0.index t 1 = 0) ∧ (win0_1.index t 0 = t.val % 2 ∧ win0_1.index t 1 = t.val / 2) ∧ (win0_2.index t 0 = 0 ∧ win0_2.index t 1 = t.val / 2))

/-- The columns of the rows projected. -/
def cols (r k : ℕ) : EReal := ent (n := 4096) (m := 512) (m ((c : Thread nD τ).loc main_arg0)) k r

/-- The columns of the gradient. -/
def grad (x k : ℕ) : EReal := ent (n := 4096) (m := 2048) (m ((c : Thread nD τ).loc main_arg3)) k x

theorem blk0 (t : Fin cfg0.N) : iblk m c 0 t = (tab fun k r => cols m c (512 * 0 + r) (2048 * (t.val % 2) + k) : S2048x512.Idx → EReal) := by
  funext j
  unfold iblk
  rw [View.read_apply]
  show V m c main_arg0 _ = _
  rw [V_main_arg0]
  exact eq_ent _ _ (place (index t).1.1) (place (index t).1.2)

theorem blk1 (t : Fin cfg0.N) : iblk m c 1 t = (tab fun k x => grad m c (1024 * (t.val / 2) + x) (2048 * (t.val % 2) + k) : S2048x1024.Idx → EReal) := by
  funext j
  unfold iblk
  rw [View.read_apply]
  show V m c main_arg3 _ = _
  rw [V_main_arg3]
  exact eq_ent _ _ (place (index t).2.1.1) (place (index t).2.1.2)

variable {f g : ℕ → ℕ → EReal} {b p q : ℕ}

theorem product : k0_pay1 (F := Ideal) (tab fun k r => f (p + r) (b + k)) (tab fun k x => g (q + x) (b + k))
    = tab fun r x => part b 2048 (f (p + r)) (g (q + x)) := by
  unfold k0_pay1
  dsimp only
  exact matmul_tab dot_S2048x512_S2048x1024_S512x1024_0_0_1_1_n_n _ _ rfl rfl (fun r => f (p + r)) (fun x => g (q + x)) b
    (fun _ _ => rfl) (fun _ _ => rfl)

theorem product_first (v0 : Vec Ideal S2048x512 .bf16) (v1 : Vec Ideal S2048x1024 .f32) : k0_pay2 v0 v1 = k0_pay1 v0 v1 := by
  unfold k0_pay2
  dsimp only
  exact shapeCast_self _ _

theorem product_next (v0 : Vec Ideal S2048x512 .bf16) (v1 : Vec Ideal S2048x1024 .f32) (a : Vec Ideal S512x1024 .f32) :
    k0_pay3 v0 v1 a = addf a (k0_pay1 v0 v1) := by
  unfold k0_pay3
  dsimp only
  exact shapeCast_self _ _

theorem hz : (![0, 0] : Fin 2 → ℕ) = fun _ => 0 := by decide

/-- What the first point of a block leaves in the running sum. -/
theorem first (i : grid0.Coords) (a3 : Memref sig .tc .vmem S2048x512 .bf16) (h3 : a3.IsWhole) (a4 : Memref sig .tc .vmem S2048x1024 .f32) (h4 : a4.IsWhole)
    (a5 : Memref sig .tc .vmem S512x1024 .bf16) (h5 : a5.IsWhole) (a6 : Memref sig .tc .vmem S512x1024 .f32) (h6 : a6.IsWhole) (e0 e1 e2)
    (x0 : Vec Ideal S2048x512 .bf16) (x1 : Vec Ideal S2048x1024 .f32) :
    sout0_A_0 c i a3 h3 a4 h4 a5 h5 a6 h6 e0 e1 e2 x0 x1 = k0_pay1 x0 x1 := by
  unfold sout0_A_0
  rw [View.read_writes_eq_canon _ _ _ (scover0_A_0 c i a3 h3 a4 h4 a5 h5 a6 h6 e0 e1 e2 x0 x1)]
  unfold kernelRun0_A
  dsimp only
  sl_unfold_words
  rw [View.canon_unit_zero hz]
  simp only [View.readAt_eq_ld, h3.read_unread, h4.read_unread, View.ld_unit_zero (S := S2048x512) hz, View.ld_unit_zero (S := S2048x1024) hz]
  exact product_first _ _

/-- What the second point leaves of the result's block. -/
theorem second (i : grid0.Coords) (a3 : Memref sig .tc .vmem S2048x512 .bf16) (h3 : a3.IsWhole) (a4 : Memref sig .tc .vmem S2048x1024 .f32) (h4 : a4.IsWhole)
    (a5 : Memref sig .tc .vmem S512x1024 .bf16) (h5 : a5.IsWhole) (a6 : Memref sig .tc .vmem S512x1024 .f32) (h6 : a6.IsWhole) (e0 e1 e2)
    (x0 : Vec Ideal S2048x512 .bf16) (x1 : Vec Ideal S2048x1024 .f32) (a : Vec Ideal S512x1024 .f32) :
    (out0_B_2 c i a3 h3 a4 h4 a5 h5 a6 h6 e0 e1 e2 x0 x1 a : S512x1024.Idx → EReal) = addf (φ := .f32) a (k0_pay1 x0 x1) := by
  unfold out0_B_2
  rw [View.read_writes_eq_canon _ _ _ (cover0_B_2 c i a3 h3 a4 h4 a5 h5 a6 h6 e0 e1 e2 x0 x1 a)]
  unfold kernelRun0_B
  dsimp only
  sl_unfold_words
  rw [View.canon_unit_zero hz]
  simp only [View.readAt_eq_ld, h3.read_unread, h4.read_unread, h6.read_unread, View.readCov_unit_zero (S := S512x1024) _ hz, View.ld_unit_zero (S := S2048x512) hz, View.ld_unit_zero (S := S2048x1024) hz, View.ld_unit_zero (S := S512x1024) hz]
  rw [product_next]
  rfl

/-- What the second point of a block writes back. -/
theorem flushed (t : Fin cfg0.N) (ht : t.val % 2 = 1) :
    (dats m 0 c).flushed 2 t = (cfg0.win 2).cut (grid0.coords t)
      (tab fun r x => part 0 4096 (cols m c (512 * 0 + r)) (grad m c (1024 * (t.val / 2) + x))) := by
  rw [flushed2_B m c t (by omega) ht ht, second]
  congr 1
  have hs := outsAt0_A m c ⟨t.val - 1, lt_of_le_of_lt (Nat.sub_le _ _) t.isLt⟩ (by show (t.val - 1) % 2 = 0; omega) (by show ¬(t.val - 1) % 2 = 1; omega) (by show ¬(t.val - 1) % 2 = 1; omega)
  rw [congrArg Prod.snd hs]
  dsimp only
  rw [first, blk0, blk1, blk0, blk1, product, product, tab_add]
  dsimp only
  rw [show (t.val - 1) % 2 = 0 by omega, show (t.val - 1) / 2 = t.val / 2 by omega, ht]
  exact funext fun j => part_add 0 2048 2048 _ _

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (Fin.ext (by
    have e : win0_2.index t 1 = win0_2.index t' 1 := congrFun h 1
    rw [(index t).2.2.2, (index t').2.2.2] at e
    have := (flush0_2 t).mp hf
    have := (flush0_2 t').mp hf'
    omega))

/-- The array the call leaves. -/
theorem array : ((dats m 0 c).arrAt 2 cfg0.N : S512x2048.Idx → EReal)
    = tab fun r x => part 0 4096 (cols m c r) (grad m c x) := by
  refine tiled (bn := 512) (bm := 1024) (by decide) (by decide) (P := fun t : Fin cfg0.N => 0) (Q := fun t => t.val / 2)
    (e := fun t => ((cfg0.win 2).blk t).view.emb) (fun t => t.val % 2 = 1) (fun t j => ⟨place (index t).2.2.1, place (index t).2.2.2⟩) (fun t ht j => ?_)
    (fun r x hr hx => ⟨⟨2 * (x / 1024) + 1, lt_of_lt_of_eq (by omega : 2 * (x / 1024) + 1 < 4) N_0.symm⟩, by dsimp only; omega, by omega, by dsimp only; omega⟩)
  have e := congrFun ((dats m 0 c).read_blk_arrAt_eq_flushed 2 disjoint2 cfg0.N t t.isLt ((flush0_2 t).mpr ht)) j
  rw [flushed m c t ht, View.read_apply] at e
  refine Eq.trans e ?_
  rfl

/-- The gradient passes the reference's reshape unchanged. -/
theorem through (y : S4096x2048.Idx → EReal) : (Cert.Reference15Ideal.Read.val_main_v4 (F := Ideal) y : S4096x2048.Idx → EReal) = y := by
  unfold Cert.Reference15Ideal.Read.val_main_v4
  exact shapeCast_self _ _

/-- The result the reference writes. -/
theorem reference (x : S4096x512.Idx → EReal) (y : S4096x2048.Idx → EReal) :
    (Cert.Reference15Ideal.Read.val_main_v8 (F := Ideal) x y : S512x2048.Idx → EReal)
      = tab fun r c => part 0 4096 (fun k => ent (n := 4096) (m := 512) x k r) (fun k => ent (n := 4096) (m := 2048) y k c) := by
  funext i
  rw [Cert.Reference15Ideal.Read.val_main_v8_apply, Cert.Reference15Ideal.Read.val_main_v6_apply, Cert.Reference15Ideal.Read.val_main_v5_apply, through]
  refine (sum_eq_part (fun k => ?_) (fun k => ?_)).trans (part_comm 0 4096 (fun k => ent (n := 4096) (m := 2048) y k (i 1).val) (fun k => ent (n := 4096) (m := 512) x k (i 0).val))
  · exact eq_ent y _ rfl rfl
  · exact eq_ent x _ rfl rfl

/-- The array the call leaves is the reference's. -/
theorem values : Cert.algebraic_Kernel15Ideal_Reference15Ideal (hKernel15Ideal := Cert.Kernel15Ideal.Gen.facts) (hReference15Ideal := Cert.Reference15Ideal.Gen.facts) := by
  intro m g m' g' _ hagree
  refine ⟨fun c => (dats m 0 c).arrAt 2 cfg0.N, run_blocks (F := Ideal) m g, ?_⟩
  refine (θ_run Cert.Reference15Ideal.defs _ _).mono (fun r h c => ⟨?_, (h c).2⟩) (Cert.Reference15Ideal.Value.run (F := Ideal) m' g')
  obtain ⟨a0, _, _, a3⟩ := hagree c
  refine (h c).1.trans ?_
  rw [a0, a3]
  exact (reference _ _).trans (array m c).symm

/-- The reference ends, its arguments are what they were, and it declares no semaphore. -/
theorem frame_reference : Cert.quiescent_Reference15Ideal (hReference15Ideal := Cert.Reference15Ideal.Gen.facts) := by
  intro m g _
  exact (θ_run Cert.Reference15Ideal.defs _ _).mono (fun r h => ⟨fun c => (h c).2, sem_eq_zero_of_no_sems (by decide) r.2⟩)
    (Cert.Reference15Ideal.Value.run (F := Ideal) m g)

end Cert.CrossWeights

end
-- ==== Proof.CrossRows.lean ====
/-
  THE GRADIENT OF THE CROSS ATTENTION'S ROWS: every block of the result is one product of a block of rows of the gradient with
  the weights.
-/
module

public import proofs.«01_k».proof.Defs
public import proofs.«01_k».proof.Proof.Gen.Kernel16Ideal.Value
public import proofs.«01_k».proof.Proof.Gen.Reference16Ideal.Read
public import proofs.«01_k».proof.Proof.Blocks
public import Idealize.ShloMosaic.Lib.Pipeline.Frame
public import Idealize.ShloMosaic.Adequacy
public import Idealize.ShloMosaic.Init

@[expose] public section

noncomputable section

namespace Cert.CrossRows

open Idealize.ShloMosaic Idealize.ShloMosaic.TcCoe Idealize.SL.Sem Cert.Kernel16Ideal Cert.Kernel16Ideal.Gen Cert.Kernel16Ideal.Value Cert.RealArr Cert.Buffers Cert.Tiles Cert.Blocks

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0))

/-- The rows of the gradient. -/
def grad : ℕ → ℕ → EReal := ent (n := 4096) (m := 2048) (m ((c : Thread nD τ).loc main_arg3))

/-- The rows of the weights. -/
def weights : ℕ → ℕ → EReal := ent (n := 512) (m := 2048) (m ((c : Thread nD τ).loc main_arg1))

theorem blk0 (t : Fin cfg0.N) : iblk m c 0 t = (tab fun r k => grad m c (1024 * t.val + r) k : S1024x2048.Idx → EReal) := by
  funext j
  unfold iblk
  rw [View.read_apply]
  show V m c main_arg3 _ = _
  rw [V_main_arg3]
  exact eq_ent _ _ (place (index t).1.1) (whole (index t).1.2)

theorem blk1 (t : Fin cfg0.N) : iblk m c 1 t = (tab fun x k => weights m c (512 * 0 + x) k : S512x2048.Idx → EReal) := by
  funext j
  unfold iblk
  rw [View.read_apply]
  show V m c main_arg1 _ = _
  rw [V_main_arg1]
  exact eq_ent _ _ (place (index t).2.1.1) (whole (index t).2.1.2)

theorem product {f g : ℕ → ℕ → EReal} : k0_pay1 (F := Ideal) (tab f) (tab g) = tab fun r x => part 0 2048 (f r) (g x) := by
  unfold k0_pay1
  dsimp only
  exact matmul_tab dot_S1024x2048_S512x2048_S1024x512_1_1_0_0_n_n (tab f) (tab g) rfl rfl f g 0
    (fun _ k => by rw [Nat.zero_add]; rfl) (fun _ k => by rw [Nat.zero_add]; rfl)

theorem hz : (![0, 0] : Fin 2 → ℕ) = fun _ => 0 := by decide

/-- What a point leaves of its two blocks. -/
theorem out (x0 : Vec Ideal S1024x2048 .f32) (x1 : Vec Ideal S512x2048 .bf16) : out0_2 x0 x1 = k0_pay1 x0 x1 := by
  unfold out0_2
  rw [View.canon_unit_zero hz]
  simp only [View.ld_unit_zero (S := S1024x2048) hz, View.ld_unit_zero (S := S512x2048) hz]

/-- The array the call leaves. -/
theorem array : ((dats m 0 c).arrAt 2 cfg0.N : S4096x512.Idx → EReal)
    = tab fun r x => part 0 2048 (grad m c r) (weights m c x) := by
  refine tiled (bn := 1024) (bm := 512) (by decide) (by decide) (P := fun t : Fin cfg0.N => t.val) (Q := fun t => 0)
    (e := fun t => ((cfg0.win 2).blk t).view.emb) (fun _ => True) (fun t j => ⟨place (index t).2.2.1, place (index t).2.2.2⟩) (fun t _ j => ?_)
    (fun r x hr hx => ⟨⟨r / 1024, lt_of_lt_of_eq (by omega : r / 1024 < 4) N_0.symm⟩, trivial, rfl, by omega⟩)
  have e := congrFun (blocks2 m c t (flush0_2 t)) j
  rw [flushed2, out, blk0, blk1, product, View.read_apply] at e
  refine Eq.trans e ?_
  rfl

/-- The gradient passes the reference's reshape unchanged. -/
theorem through (y : S4096x2048.Idx → EReal) : (Cert.Reference16Ideal.Read.val_main_v4 (F := Ideal) y : S4096x2048.Idx → EReal) = y := by
  unfold Cert.Reference16Ideal.Read.val_main_v4
  exact shapeCast_self _ _

/-- The result the reference writes. -/
theorem reference (x : S512x2048.Idx → EReal) (y : S4096x2048.Idx → EReal) :
    (Cert.Reference16Ideal.Read.val_main_v7 (F := Ideal) x y : S4096x512.Idx → EReal)
      = tab fun r c => part 0 2048 (ent (n := 4096) (m := 2048) y r) (ent (n := 512) (m := 2048) x c) := by
  funext i
  rw [Cert.Reference16Ideal.Read.val_main_v7_apply, through]
  exact sum_eq_part (f := ent (n := 4096) (m := 2048) y (i 0).val) (g := ent (n := 512) (m := 2048) x (i 1).val)
    (fun _ => eq_ent y _ rfl rfl) (fun _ => eq_ent x _ rfl rfl)

/-- The array the call leaves is the reference's. -/
theorem values : Cert.algebraic_Kernel16Ideal_Reference16Ideal (hKernel16Ideal := Cert.Kernel16Ideal.Gen.facts) (hReference16Ideal := Cert.Reference16Ideal.Gen.facts) := by
  intro m g m' g' _ hagree
  refine ⟨fun c => (dats m 0 c).arrAt 2 cfg0.N, run_blocks (F := Ideal) m g, ?_⟩
  refine (θ_run Cert.Reference16Ideal.defs _ _).mono (fun r h c => ⟨?_, (h c).2⟩) (Cert.Reference16Ideal.Value.run (F := Ideal) m' g')
  obtain ⟨_, a1, _, a3⟩ := hagree c
  refine (h c).1.trans ?_
  rw [a1, a3]
  exact (reference _ _).trans (array m c).symm

/-- The reference ends, its arguments are what they were, and it declares no semaphore. -/
theorem frame_reference : Cert.quiescent_Reference16Ideal (hReference16Ideal := Cert.Reference16Ideal.Gen.facts) := by
  intro m g _
  exact (θ_run Cert.Reference16Ideal.defs _ _).mono (fun r h => ⟨fun c => (h c).2, sem_eq_zero_of_no_sems (by decide) r.2⟩)
    (Cert.Reference16Ideal.Value.run (F := Ideal) m g)

end Cert.CrossRows

end
-- ==== Proof.lean ====
/-
  THE CLAIMS, from the runs and the values: the frames, the idealizations, that the attention's three result arrays are the
  three gradients its reference computes, and that each product's result array is its reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Arrays
public import proofs.«01_k».proof.Proof.HostValues
public import proofs.«01_k».proof.Proof.RefGrads
public import proofs.«01_k».proof.Proof.Finite
public import proofs.«01_k».proof.Proof.InWeights
public import proofs.«01_k».proof.Proof.InRows
public import proofs.«01_k».proof.Proof.Projection
public import proofs.«01_k».proof.Proof.OutProjection
public import proofs.«01_k».proof.Proof.OutWeights
public import proofs.«01_k».proof.Proof.OutRows
public import proofs.«01_k».proof.Proof.Queries
public import proofs.«01_k».proof.Proof.QueryWeights
public import proofs.«01_k».proof.Proof.QueryRows
public import proofs.«01_k».proof.Proof.Memory
public import proofs.«01_k».proof.Proof.MemoryWeights
public import proofs.«01_k».proof.Proof.MemoryRows
public import proofs.«01_k».proof.Proof.CrossOutput
public import proofs.«01_k».proof.Proof.CrossWeights
public import proofs.«01_k».proof.Proof.CrossRows
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.RealArr Cert.Heads Cert.RefScores Cert.RefGrads

/-- The reference ends, its arguments are what they were, and it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- The call's three result arrays are the reference's three gradients, where the arguments are finite. -/
theorem values (hP : Cert.Pre_finite_inputs.Facts) :
    Cert.algebraic_KernelIdeal_ReferenceIdeal_pre_finite_inputs (hKernelIdeal := Cert.KernelIdeal.Gen.facts)
      (hReferenceIdeal := Cert.ReferenceIdeal.Gen.facts) (hPre_finite_inputs := hP) := by
  intro m g m' g' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨h0, h1, h2, h3⟩ := h c
  have hx := Cert.Finite.inU (hpre c).1
  have hy := Cert.Finite.isW (hpre c).2
  have hf := Cert.HostValues.found (m := m) (c := c) (by rw [Cert.KernelIdeal.Gen.V_main_arg0]; exact hx) fun i => (congrFun (Cert.KernelIdeal.Gen.V_main_arg1 m c) i).trans (hy i)
  obtain ⟨a0, a1⟩ := hagree c
  refine ⟨?_, ?_, ?_, h3⟩
  · refine h0.trans ((Cert.ReferenceIdeal.Read.val_main_v68_eq (launchContents m' c)).trans ?_)
    rw [launchContents_devRef, launchContents_devRef, a0, a1]
    exact (v68_eq hx hy).trans (Cert.Arrays.array7 hf).symm
  · refine h1.trans ((Cert.ReferenceIdeal.Read.val_main_v69_eq (launchContents m' c)).trans ?_)
    rw [launchContents_devRef, launchContents_devRef, a0, a1]
    exact (v69_eq hx hy).trans (Cert.Arrays.array8 hf).symm
  · refine h2.trans ((Cert.ReferenceIdeal.Read.val_main_v70_eq (launchContents m' c)).trans ?_)
    rw [launchContents_devRef, launchContents_devRef, a0, a1]
    exact (v70_eq hx hy).trans (Cert.Arrays.array9 hf).symm

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Finite.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    Cert.InWeights.frame_reference,
    fun m g _ => Cert.Kernel3.Gen.frame m g,
    fun m g _ => Cert.Kernel3Ideal.Gen.frame m g,
    Cert.InRows.frame_reference,
    fun m g _ => Cert.Kernel4.Gen.frame m g,
    fun m g _ => Cert.Kernel4Ideal.Gen.frame m g,
    Cert.Projection.frame_reference,
    fun m g _ => Cert.Kernel5.Gen.frame m g,
    fun m g _ => Cert.Kernel5Ideal.Gen.frame m g,
    Cert.OutProjection.frame_reference,
    fun m g _ => Cert.Kernel6.Gen.frame m g,
    fun m g _ => Cert.Kernel6Ideal.Gen.frame m g,
    Cert.OutWeights.frame_reference,
    fun m g _ => Cert.Kernel7.Gen.frame m g,
    fun m g _ => Cert.Kernel7Ideal.Gen.frame m g,
    Cert.OutRows.frame_reference,
    fun m g _ => Cert.Kernel8.Gen.frame m g,
    fun m g _ => Cert.Kernel8Ideal.Gen.frame m g,
    Cert.Queries.frame_reference,
    fun m g _ => Cert.Kernel9.Gen.frame m g,
    fun m g _ => Cert.Kernel9Ideal.Gen.frame m g,
    Cert.QueryWeights.frame_reference,
    fun m g _ => Cert.Kernel10.Gen.frame m g,
    fun m g _ => Cert.Kernel10Ideal.Gen.frame m g,
    Cert.QueryRows.frame_reference,
    fun m g _ => Cert.Kernel11.Gen.frame m g,
    fun m g _ => Cert.Kernel11Ideal.Gen.frame m g,
    Cert.Memory.frame_reference,
    fun m g _ => Cert.Kernel12.Gen.frame m g,
    fun m g _ => Cert.Kernel12Ideal.Gen.frame m g,
    Cert.MemoryWeights.frame_reference,
    fun m g _ => Cert.Kernel13.Gen.frame m g,
    fun m g _ => Cert.Kernel13Ideal.Gen.frame m g,
    Cert.MemoryRows.frame_reference,
    fun m g _ => Cert.Kernel14.Gen.frame m g,
    fun m g _ => Cert.Kernel14Ideal.Gen.frame m g,
    Cert.CrossOutput.frame_reference,
    fun m g _ => Cert.Kernel15.Gen.frame m g,
    fun m g _ => Cert.Kernel15Ideal.Gen.frame m g,
    Cert.CrossWeights.frame_reference,
    fun m g _ => Cert.Kernel16.Gen.frame m g,
    fun m g _ => Cert.Kernel16Ideal.Gen.frame m g,
    Cert.CrossRows.frame_reference,
    trivial,
    values Cert.Finite.facts,
    trivial,
    Cert.InWeights.values,
    trivial,
    Cert.InRows.values,
    trivial,
    Cert.Projection.values,
    trivial,
    Cert.OutProjection.values,
    trivial,
    Cert.OutWeights.values,
    trivial,
    Cert.OutRows.values,
    trivial,
    Cert.Queries.values,
    trivial,
    Cert.QueryWeights.values,
    trivial,
    Cert.QueryRows.values,
    trivial,
    Cert.Memory.values,
    trivial,
    Cert.MemoryWeights.values,
    trivial,
    Cert.MemoryRows.values,
    trivial,
    Cert.CrossOutput.values,
    trivial,
    Cert.CrossWeights.values,
    trivial,
    Cert.CrossRows.values⟩

end Cert.Proof

end
